-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v6) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v18) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v31) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v4)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v26) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel2 : Cert.Kernel2.Facts) (hKernel2Ideal : Cert.Kernel2Ideal.Facts) (hReference2Ideal : Cert.Reference2Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4096x16384 : Shape := ⟨2, ![4096, 16384]⟩
abbrev S4096x4096 : Shape := ⟨2, ![4096, 4096]⟩
abbrev S4096x32 : Shape := ⟨2, ![4096, 32]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S4096x16384 .f32) (main_arg1 : FVec F S4096x4096 .f32) (main_arg2 : FVec F S4096x32 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S4096x16384 : Shape := ⟨2, ![4096, 16384]⟩
abbrev S4096x4096 : Shape := ⟨2, ![4096, 4096]⟩
abbrev S4096x32 : Shape := ⟨2, ![4096, 32]⟩
abbrev S4096x32x128 : Shape := ⟨3, ![4096, 32, 128]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S1024x128 : Shape := ⟨2, ![1024, 128]⟩
abbrev S1x1024x1 : Shape := ⟨3, ![1, 1024, 1]⟩
abbrev S1x1x1024 : Shape := ⟨3, ![1, 1, 1024]⟩
abbrev S1x1024 : Shape := ⟨2, ![1, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 58
  | .vmem => 25
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S4096x32, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x128, .f32⟩
  | .hbm, ⟨9, _⟩ => ⟨S4096x32x128, .f32⟩
  | .hbm, ⟨10, _⟩ => ⟨S32x4096, .f32⟩
  | .hbm, ⟨11, _⟩ => ⟨S32x4096x4096, .f32⟩
  | .hbm, ⟨12, _⟩ => ⟨S_, .f32⟩
  | .hbm, ⟨13, _⟩ => ⟨S32x4096x4096, .f32⟩
  | .hbm, ⟨14, _⟩ => ⟨S32x4096x4096, .f32⟩
  | .hbm, ⟨15, _⟩ => ⟨S32x4096x1, .f32⟩
  | .hbm, ⟨16, _⟩ => ⟨S32x1x4096, .f32⟩
  | .hbm, ⟨17, _⟩ => ⟨S32x4096x4096, .f32⟩
  | .hbm, ⟨18, _⟩ => ⟨S32x4096x4096, .f32⟩
  | .hbm, ⟨19, _⟩ => ⟨S32x4096x4096, .f32⟩
  | .hbm, ⟨20, _⟩ => ⟨S32x4096x4096, .f32⟩
  | .hbm, ⟨21, _⟩ => ⟨S4096, .i32⟩
  | .hbm, ⟨22, _⟩ => ⟨S1x1x4096, .i32⟩
  | .hbm, ⟨23, _⟩ => ⟨S1x4096x1, .i32⟩
  | .hbm, ⟨24, _⟩ => ⟨S1x4096x4096, .i32⟩
  | .hbm, ⟨25, _⟩ => ⟨S1x4096x4096, .i32⟩
  | .hbm, ⟨26, _⟩ => ⟨S1x4096x4096, .i1⟩
  | .hbm, ⟨27, _⟩ => ⟨S_, .f32⟩
  | .hbm, ⟨28, _⟩ => ⟨S_, .f32⟩
  | .hbm, ⟨29, _⟩ => ⟨S32x4096x4096, .i1⟩
  | .hbm, ⟨30, _⟩ => ⟨S32x4096x4096, .f32⟩
  | .hbm, ⟨31, _⟩ => ⟨S32x4096x4096, .f32⟩
  | .hbm, ⟨32, _⟩ => ⟨S_, .f32⟩
  | .hbm, ⟨33, _⟩ => ⟨S32x4096, .f32⟩
  | .hbm, ⟨34, _⟩ => ⟨S32x4096x1, .f32⟩
  | .hbm, ⟨35, _⟩ => ⟨S32x4096x4096, .f32⟩
  | .hbm, ⟨36, _⟩ => ⟨S32x4096x4096, .f32⟩
  | .hbm, ⟨37, _⟩ => ⟨S32x4096x4096, .f32⟩
  | .hbm, ⟨38, _⟩ => ⟨S_, .f32⟩
  | .hbm, ⟨39, _⟩ => ⟨S32x4096, .f32⟩
  | .hbm, ⟨40, _⟩ => ⟨S32x4096x1, .f32⟩
  | .hbm, ⟨41, _⟩ => ⟨S32x4096x1, .f32⟩
  | .hbm, ⟨42, _⟩ => ⟨S32x4096x1, .f32⟩
  | .hbm, ⟨43, _⟩ => ⟨S4096x32x128, .f32⟩
  | .hbm, ⟨44, _⟩ => ⟨S32x4096x4096, .f32⟩
  | .hbm, ⟨45, _⟩ => ⟨S32x4096x4096, .f32⟩
  | .hbm, ⟨46, _⟩ => ⟨S32x4096x4096, .f32⟩
  | .hbm, ⟨47, _⟩ => ⟨S32x4096x4096, .f32⟩
  | .hbm, ⟨48, _⟩ => ⟨S32x4096x4096, .f32⟩
  | .hbm, ⟨49, _⟩ => ⟨S_, .f32⟩
  | .hbm, ⟨50, _⟩ => ⟨S32x4096, .f32⟩
  | .hbm, ⟨51, _⟩ => ⟨S32x4096x1, .f32⟩
  | .hbm, ⟨52, _⟩ => ⟨S32x4096, .f32⟩
  | .hbm, ⟨53, _⟩ => ⟨S32x4096x1, .f32⟩
  | .hbm, ⟨54, _⟩ => ⟨S32x1x4096, .f32⟩
  | .hbm, ⟨55, _⟩ => ⟨S4096x4096, .bf16⟩
  | .hbm, ⟨56, _⟩ => ⟨S4096x4096, .bf16⟩
  | .hbm, ⟨57, _⟩ => ⟨S32x1x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x1, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x1x1024, .f32⟩
  | .local _ .vmem, ⟨21, _⟩ => ⟨S1x1x1024, .f32⟩
  | .local _ .vmem, ⟨22, _⟩ => ⟨S1024x128, .f32⟩
  | .local _ .vmem, ⟨23, _⟩ => ⟨S1024x128, .f32⟩
  | .local _ .vmem, ⟨24, _⟩ => ⟨S1x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![32, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S4096x16384 : Shape := ⟨2, ![4096, 16384]⟩
abbrev S4096x4096 : Shape := ⟨2, ![4096, 4096]⟩
abbrev S4096x32 : Shape := ⟨2, ![4096, 32]⟩
abbrev S4096x32x128 : Shape := ⟨3, ![4096, 32, 128]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S32x128x4096 : Shape := ⟨3, ![32, 128, 4096]⟩
abbrev S32x4096x128 : Shape := ⟨3, ![32, 4096, 128]⟩

abbrev nBuf : Space → Nat
  | .hbm => 121
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S4096x32, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x128, .f32⟩
  | .hbm, ⟨9, _⟩ => ⟨S4096x32x128, .f32⟩
  | .hbm, ⟨10, _⟩ => ⟨S32x4096, .f32⟩
  | .hbm, ⟨11, _⟩ => ⟨S32x4096x4096, .f32⟩
  | .hbm, ⟨12, _⟩ => ⟨S_, .f32⟩
  | .hbm, ⟨13, _⟩ => ⟨S32x4096x4096, .f32⟩
  | .hbm, ⟨14, _⟩ => ⟨S32x4096x4096, .f32⟩
  | .hbm, ⟨15, _⟩ => ⟨S32x4096x1, .f32⟩
  | .hbm, ⟨16, _⟩ => ⟨S32x1x4096, .f32⟩
  | .hbm, ⟨17, _⟩ => ⟨S32x4096x4096, .f32⟩
  | .hbm, ⟨18, _⟩ => ⟨S32x4096x4096, .f32⟩
  | .hbm, ⟨19, _⟩ => ⟨S32x4096x4096, .f32⟩
  | .hbm, ⟨20, _⟩ => ⟨S32x4096x4096, .f32⟩
  | .hbm, ⟨21, _⟩ => ⟨S4096, .i32⟩
  | .hbm, ⟨22, _⟩ => ⟨S1x1x4096, .i32⟩
  | .hbm, ⟨23, _⟩ => ⟨S1x4096x1, .i32⟩
  | .hbm, ⟨24, _⟩ => ⟨S1x4096x4096, .i32⟩
  | .hbm, ⟨25, _⟩ => ⟨S1x4096x4096, .i32⟩
  | .hbm, ⟨26, _⟩ => ⟨S1x4096x4096, .i1⟩
  | .hbm, ⟨27, _⟩ => ⟨S_, .f32⟩
  | .hbm, ⟨28, _⟩ => ⟨S_, .f32⟩
  | .hbm, ⟨29, _⟩ => ⟨S32x4096x4096, .i1⟩
  | .hbm, ⟨30, _⟩ => ⟨S32x4096x4096, .f32⟩
  | .hbm, ⟨31, _⟩ => ⟨S32x4096x4096, .f32⟩
  | .hbm, ⟨32, _⟩ => ⟨S_, .f32⟩
  | .hbm, ⟨33, _⟩ => ⟨S32x4096x4096, .f32⟩
  | .hbm, ⟨34, _⟩ => ⟨S_, .f32⟩
  | .hbm, ⟨35, _⟩ => ⟨S32x4096, .f32⟩
  | .hbm, ⟨36, _⟩ => ⟨S32x4096x1, .f32⟩
  | .hbm, ⟨37, _⟩ => ⟨S32x4096x4096, .f32⟩
  | .hbm, ⟨38, _⟩ => ⟨S32x4096x4096, .i1⟩
  | .hbm, ⟨39, _⟩ => ⟨S32x4096x4096, .f32⟩
  | .hbm, ⟨40, _⟩ => ⟨S_, .f32⟩
  | .hbm, ⟨41, _⟩ => ⟨S32x4096, .f32⟩
  | .hbm, ⟨42, _⟩ => ⟨S_, .f32⟩
  | .hbm, ⟨43, _⟩ => ⟨S32x4096, .f32⟩
  | .hbm, ⟨44, _⟩ => ⟨S32x4096, .f32⟩
  | .hbm, ⟨45, _⟩ => ⟨S_, .f32⟩
  | .hbm, ⟨46, _⟩ => ⟨S32x4096, .f32⟩
  | .hbm, ⟨47, _⟩ => ⟨S32x4096, .i1⟩
  | .hbm, ⟨48, _⟩ => ⟨S_, .f32⟩
  | .hbm, ⟨49, _⟩ => ⟨S32x4096, .f32⟩
  | .hbm, ⟨50, _⟩ => ⟨S32x4096, .i1⟩
  | .hbm, ⟨51, _⟩ => ⟨S_, .f32⟩
  | .hbm, ⟨52, _⟩ => ⟨S32x4096, .f32⟩
  | .hbm, ⟨53, _⟩ => ⟨S_, .f32⟩
  | .hbm, ⟨54, _⟩ => ⟨S32x4096, .f32⟩
  | .hbm, ⟨55, _⟩ => ⟨S_, .f32⟩
  | .hbm, ⟨56, _⟩ => ⟨S32x4096, .f32⟩
  | .hbm, ⟨57, _⟩ => ⟨S32x4096, .f32⟩
  | .hbm, ⟨58, _⟩ => ⟨S32x4096, .f32⟩
  | .hbm, ⟨59, _⟩ => ⟨S32x4096x1, .f32⟩
  | .hbm, ⟨60, _⟩ => ⟨S32x4096x4096, .f32⟩
  | .hbm, ⟨61, _⟩ => ⟨S32x4096x4096, .f32⟩
  | .hbm, ⟨62, _⟩ => ⟨S32x4096x4096, .f32⟩
  | .hbm, ⟨63, _⟩ => ⟨S_, .f32⟩
  | .hbm, ⟨64, _⟩ => ⟨S32x4096, .f32⟩
  | .hbm, ⟨65, _⟩ => ⟨S32x4096x1, .f32⟩
  | .hbm, ⟨66, _⟩ => ⟨S32x4096x4096, .f32⟩
  | .hbm, ⟨67, _⟩ => ⟨S32x4096x4096, .f32⟩
  | .hbm, ⟨68, _⟩ => ⟨S32x4096x1, .f32⟩
  | .hbm, ⟨69, _⟩ => ⟨S_, .f32⟩
  | .hbm, ⟨70, _⟩ => ⟨S32x4096x1, .f32⟩
  | .hbm, ⟨71, _⟩ => ⟨S32x4096x1, .f32⟩
  | .hbm, ⟨72, _⟩ => ⟨S32x128x4096, .f32⟩
  | .hbm, ⟨73, _⟩ => ⟨S4096x32x128, .f32⟩
  | .hbm, ⟨74, _⟩ => ⟨S4096x4096, .f32⟩
  | .hbm, ⟨75, _⟩ => ⟨S4096x32x128, .f32⟩
  | .hbm, ⟨76, _⟩ => ⟨S32x128x4096, .f32⟩
  | .hbm, ⟨77, _⟩ => ⟨S32x4096x4096, .f32⟩
  | .hbm, ⟨78, _⟩ => ⟨S32x128x4096, .f32⟩
  | .hbm, ⟨79, _⟩ => ⟨S4096x32x128, .f32⟩
  | .hbm, ⟨80, _⟩ => ⟨S32x4096x4096, .f32⟩
  | .hbm, ⟨81, _⟩ => ⟨S32x4096x4096, .f32⟩
  | .hbm, ⟨82, _⟩ => ⟨S32x4096x4096, .f32⟩
  | .hbm, ⟨83, _⟩ => ⟨S_, .f32⟩
  | .hbm, ⟨84, _⟩ => ⟨S32x4096, .f32⟩
  | .hbm, ⟨85, _⟩ => ⟨S32x4096x1, .f32⟩
  | .hbm, ⟨86, _⟩ => ⟨S32x4096x1, .f32⟩
  | .hbm, ⟨87, _⟩ => ⟨S32x4096x4096, .f32⟩
  | .hbm, ⟨88, _⟩ => ⟨S32x4096x4096, .f32⟩
  | .hbm, ⟨89, _⟩ => ⟨S_, .f32⟩
  | .hbm, ⟨90, _⟩ => ⟨S32x4096, .f32⟩
  | .hbm, ⟨91, _⟩ => ⟨S32x4096x4096, .f32⟩
  | .hbm, ⟨92, _⟩ => ⟨S32x4096x4096, .f32⟩
  | .hbm, ⟨93, _⟩ => ⟨S32x4096x4096, .f32⟩
  | .hbm, ⟨94, _⟩ => ⟨S_, .f32⟩
  | .hbm, ⟨95, _⟩ => ⟨S32x4096x4096, .f32⟩
  | .hbm, ⟨96, _⟩ => ⟨S32x4096x4096, .f32⟩
  | .hbm, ⟨97, _⟩ => ⟨S_, .f32⟩
  | .hbm, ⟨98, _⟩ => ⟨S32x4096, .f32⟩
  | .hbm, ⟨99, _⟩ => ⟨S32x4096x1, .f32⟩
  | .hbm, ⟨100, _⟩ => ⟨S32x4096x4096, .f32⟩
  | .hbm, ⟨101, _⟩ => ⟨S_, .f32⟩
  | .hbm, ⟨102, _⟩ => ⟨S32x4096, .f32⟩
  | .hbm, ⟨103, _⟩ => ⟨S32x1x4096, .f32⟩
  | .hbm, ⟨104, _⟩ => ⟨S_, .f32⟩
  | .hbm, ⟨105, _⟩ => ⟨S32x4096, .f32⟩
  | .hbm, ⟨106, _⟩ => ⟨S_, .f32⟩
  | .hbm, ⟨107, _⟩ => ⟨S32x4096, .f32⟩
  | .hbm, ⟨108, _⟩ => ⟨S32x4096, .f32⟩
  | .hbm, ⟨109, _⟩ => ⟨S_, .f32⟩
  | .hbm, ⟨110, _⟩ => ⟨S32x4096x4096, .f32⟩
  | .hbm, ⟨111, _⟩ => ⟨S32x4096x4096, .f32⟩
  | .hbm, ⟨112, _⟩ => ⟨S32x4096x128, .f32⟩
  | .hbm, ⟨113, _⟩ => ⟨S4096x32x128, .f32⟩
  | .hbm, ⟨114, _⟩ => ⟨S4096x32, .f32⟩
  | .hbm, ⟨115, _⟩ => ⟨S4096x4096, .f32⟩
  | .hbm, ⟨116, _⟩ => ⟨S4096x4096, .bf16⟩
  | .hbm, ⟨117, _⟩ => ⟨S4096x4096, .f32⟩
  | .hbm, ⟨118, _⟩ => ⟨S4096x4096, .bf16⟩
  | .hbm, ⟨119, _⟩ => ⟨S32x4096, .f32⟩
  | .hbm, ⟨120, _⟩ => ⟨S32x1x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Kernel3.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S4096x4096 : Shape := ⟨2, ![4096, 4096]⟩
abbrev S4096x16416 : Shape := ⟨2, ![4096, 16416]⟩
abbrev S16416x4096 : Shape := ⟨2, ![16416, 4096]⟩
abbrev S4096x16384 : Shape := ⟨2, ![4096, 16384]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16416, .f32⟩
  | .hbm, ⟨2, _⟩ => ⟨S16416x4096, .f32⟩
  | .hbm, ⟨3, _⟩ => ⟨S16416x4096, .bf16⟩
  | .hbm, ⟨4, _⟩ => ⟨S4096x4096, .bf16⟩
  | .hbm, ⟨5, _⟩ => ⟨S4096x16384, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x16416 : Shape := ⟨2, ![4096, 16416]⟩
abbrev S4096x16384 : Shape := ⟨2, ![4096, 16384]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16416, .f32⟩
  | .hbm, ⟨2, _⟩ => ⟨S4096x16416, .f32⟩
  | .hbm, ⟨3, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S4096x8192 : Shape := ⟨2, ![4096, 8192]⟩
abbrev S4096x4096 : Shape := ⟨2, ![4096, 4096]⟩
abbrev S18528x4096 : Shape := ⟨2, ![18528, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S18528x4096, .f32⟩
  | .hbm, ⟨3, _⟩ => ⟨S4096x8192, .bf16⟩
  | .hbm, ⟨4, _⟩ => ⟨S4096x4096, .bf16⟩
  | .hbm, ⟨5, _⟩ => ⟨S18528x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg0 c10_i32
  let c0_i32 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x8192 : Shape := ⟨2, ![4096, 8192]⟩
abbrev S4096x4096 : Shape := ⟨2, ![4096, 4096]⟩
abbrev S18528x4096 : Shape := ⟨2, ![18528, 4096]⟩
abbrev S_ : Shape := ⟨0, ![]⟩
abbrev S8192x4096 : Shape := ⟨2, ![8192, 4096]⟩
abbrev S10240x4096 : Shape := ⟨2, ![10240, 4096]⟩
abbrev S96x4096 : Shape := ⟨2, ![96, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S18528x4096, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S8192x4096, .f32⟩
  | .hbm, ⟨7, _⟩ => ⟨S4096x8192, .f32⟩
  | .hbm, ⟨8, _⟩ => ⟨S10240x4096, .f32⟩
  | .hbm, ⟨9, _⟩ => ⟨S8192x4096, .f32⟩
  | .hbm, ⟨10, _⟩ => ⟨S96x4096, .f32⟩
  | .hbm, ⟨11, _⟩ => ⟨S18528x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x8192 : Shape := ⟨2, ![4096, 8192]⟩
abbrev S4096x18528 : Shape := ⟨2, ![4096, 18528]⟩
abbrev S4096x4096 : Shape := ⟨2, ![4096, 4096]⟩
abbrev S18528x4096 : Shape := ⟨2, ![18528, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x18528, .f32⟩
  | .hbm, ⟨2, _⟩ => ⟨S4096x4096, .f32⟩
  | .hbm, ⟨3, _⟩ => ⟨S18528x4096, .f32⟩
  | .hbm, ⟨4, _⟩ => ⟨S18528x4096, .bf16⟩
  | .hbm, ⟨5, _⟩ => ⟨S4096x8192, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x8192 : Shape := ⟨2, ![4096, 8192]⟩
abbrev S4096x18528 : Shape := ⟨2, ![4096, 18528]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x18528, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x8192, .f32⟩
  | .hbm, ⟨6, _⟩ => ⟨S4096x8192, .f32⟩
  | .hbm, ⟨7, _⟩ => ⟨S4096x4096, .f32⟩
  | .hbm, ⟨8, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x4096 : Shape := ⟨2, ![8192, 4096]⟩
abbrev S4096x4096 : Shape := ⟨2, ![4096, 4096]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .bf16⟩
  | .hbm, ⟨4, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x4096 : Shape := ⟨2, ![8192, 4096]⟩
abbrev S4096x4096 : Shape := ⟨2, ![4096, 4096]⟩
abbrev S_ : Shape := ⟨0, ![]⟩
abbrev S4096x8192 : Shape := ⟨2, ![4096, 8192]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x8192, .f32⟩
  | .hbm, ⟨4, _⟩ => ⟨S4096x4096, .f32⟩
  | .hbm, ⟨5, _⟩ => ⟨S4096x8192, .f32⟩
  | .hbm, ⟨6, _⟩ => ⟨S4096x6144, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x6144 : Shape := ⟨2, ![4096, 6144]⟩
abbrev S4096x4096 : Shape := ⟨2, ![4096, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S4096x4096, .f32⟩
  | .hbm, ⟨2, _⟩ => ⟨S8192x4096, .f32⟩
  | .hbm, ⟨3, _⟩ => ⟨S4096x6144, .bf16⟩
  | .hbm, ⟨4, _⟩ => ⟨S4096x4096, .bf16⟩
  | .hbm, ⟨5, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x6144 : Shape := ⟨2, ![4096, 6144]⟩
abbrev S4096x4096 : Shape := ⟨2, ![4096, 4096]⟩
abbrev S8192x4096 : Shape := ⟨2, ![8192, 4096]⟩
abbrev S_ : Shape := ⟨0, ![]⟩
abbrev S6144x4096 : Shape := ⟨2, ![6144, 4096]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S6144x4096, .f32⟩
  | .hbm, ⟨5, _⟩ => ⟨S4096x4096, .f32⟩
  | .hbm, ⟨6, _⟩ => ⟨S4096x6144, .f32⟩
  | .hbm, ⟨7, _⟩ => ⟨S6144x4096, .f32⟩
  | .hbm, ⟨8, _⟩ => ⟨S2048x4096, .f32⟩
  | .hbm, ⟨9, _⟩ => ⟨S8192x4096, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel2.lean ====
abbrev S4096x16384 : Shape := ⟨2, ![4096, 16384]⟩
abbrev S4096x4096 : Shape := ⟨2, ![4096, 4096]⟩
abbrev S4096x32 : Shape := ⟨2, ![4096, 32]⟩
abbrev S4096x32x128 : Shape := ⟨3, ![4096, 32, 128]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S1024x128 : Shape := ⟨2, ![1024, 128]⟩
abbrev S1x1024x1 : Shape := ⟨3, ![1, 1024, 1]⟩
abbrev S1x1x1024 : Shape := ⟨3, ![1, 1, 1024]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 47
  | .vmem => 21
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S4096x32, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x128, .f32⟩
  | .hbm, ⟨9, _⟩ => ⟨S32x4096, .f32⟩
  | .hbm, ⟨10, _⟩ => ⟨S32x4096x4096, .f32⟩
  | .hbm, ⟨11, _⟩ => ⟨S_, .f32⟩
  | .hbm, ⟨12, _⟩ => ⟨S32x4096x4096, .f32⟩
  | .hbm, ⟨13, _⟩ => ⟨S32x4096x4096, .f32⟩
  | .hbm, ⟨14, _⟩ => ⟨S32x4096x1, .f32⟩
  | .hbm, ⟨15, _⟩ => ⟨S32x1x4096, .f32⟩
  | .hbm, ⟨16, _⟩ => ⟨S32x4096x4096, .f32⟩
  | .hbm, ⟨17, _⟩ => ⟨S32x4096x4096, .f32⟩
  | .hbm, ⟨18, _⟩ => ⟨S32x4096x4096, .f32⟩
  | .hbm, ⟨19, _⟩ => ⟨S32x4096x4096, .f32⟩
  | .hbm, ⟨20, _⟩ => ⟨S4096, .i32⟩
  | .hbm, ⟨21, _⟩ => ⟨S1x1x4096, .i32⟩
  | .hbm, ⟨22, _⟩ => ⟨S1x4096x1, .i32⟩
  | .hbm, ⟨23, _⟩ => ⟨S1x4096x4096, .i32⟩
  | .hbm, ⟨24, _⟩ => ⟨S1x4096x4096, .i32⟩
  | .hbm, ⟨25, _⟩ => ⟨S1x4096x4096, .i1⟩
  | .hbm, ⟨26, _⟩ => ⟨S_, .f32⟩
  | .hbm, ⟨27, _⟩ => ⟨S_, .f32⟩
  | .hbm, ⟨28, _⟩ => ⟨S32x4096x4096, .i1⟩
  | .hbm, ⟨29, _⟩ => ⟨S32x4096x4096, .f32⟩
  | .hbm, ⟨30, _⟩ => ⟨S32x4096x4096, .f32⟩
  | .hbm, ⟨31, _⟩ => ⟨S_, .f32⟩
  | .hbm, ⟨32, _⟩ => ⟨S32x4096, .f32⟩
  | .hbm, ⟨33, _⟩ => ⟨S32x4096x1, .f32⟩
  | .hbm, ⟨34, _⟩ => ⟨S32x4096x4096, .f32⟩
  | .hbm, ⟨35, _⟩ => ⟨S32x4096x4096, .f32⟩
  | .hbm, ⟨36, _⟩ => ⟨S32x4096x4096, .f32⟩
  | .hbm, ⟨37, _⟩ => ⟨S_, .f32⟩
  | .hbm, ⟨38, _⟩ => ⟨S32x4096, .f32⟩
  | .hbm, ⟨39, _⟩ => ⟨S32x4096x1, .f32⟩
  | .hbm, ⟨40, _⟩ => ⟨S32x4096x1, .f32⟩
  | .hbm, ⟨41, _⟩ => ⟨S32x4096x1, .f32⟩
  | .hbm, ⟨42, _⟩ => ⟨S32x4096, .f32⟩
  | .hbm, ⟨43, _⟩ => ⟨S32x4096x1, .f32⟩
  | .hbm, ⟨44, _⟩ => ⟨S32x1x4096, .f32⟩
  | .hbm, ⟨45, _⟩ => ⟨S4096x4096, .bf16⟩
  | .hbm, ⟨46, _⟩ => ⟨S32x4096x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .bf16⟩
  | .local _ .vmem, ⟨15, _⟩ => ⟨S1024x128, .bf16⟩
  | .local _ .vmem, ⟨16, _⟩ => ⟨S1x1024x1, .f32⟩
  | .local _ .vmem, ⟨17, _⟩ => ⟨S1x1024x1, .f32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![32, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c32_i32 : BitVec 32 := 32#32
  let v1 : BitVec 32 := Scalar.addi c32_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c64_i32 : BitVec 32 := 64#32
  let v1 : BitVec 32 := Scalar.addi c64_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S4096x16384 : Shape := ⟨2, ![4096, 16384]⟩
abbrev S4096x4096 : Shape := ⟨2, ![4096, 4096]⟩
abbrev S4096x32 : Shape := ⟨2, ![4096, 32]⟩
abbrev S4096x32x128 : Shape := ⟨3, ![4096, 32, 128]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S32x128x4096 : Shape := ⟨3, ![32, 128, 4096]⟩
abbrev S32x4096x128 : Shape := ⟨3, ![32, 4096, 128]⟩

abbrev nBuf : Space → Nat
  | .hbm => 109
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x4096, .f32⟩
  | .hbm, ⟨2, _⟩ => ⟨S4096x32, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x128, .f32⟩
  | .hbm, ⟨9, _⟩ => ⟨S4096x32x128, .f32⟩
  | .hbm, ⟨10, _⟩ => ⟨S32x4096, .f32⟩
  | .hbm, ⟨11, _⟩ => ⟨S32x4096x4096, .f32⟩
  | .hbm, ⟨12, _⟩ => ⟨S_, .f32⟩
  | .hbm, ⟨13, _⟩ => ⟨S32x4096x4096, .f32⟩
  | .hbm, ⟨14, _⟩ => ⟨S32x4096x4096, .f32⟩
  | .hbm, ⟨15, _⟩ => ⟨S32x4096x1, .f32⟩
  | .hbm, ⟨16, _⟩ => ⟨S32x1x4096, .f32⟩
  | .hbm, ⟨17, _⟩ => ⟨S32x4096x4096, .f32⟩
  | .hbm, ⟨18, _⟩ => ⟨S32x4096x4096, .f32⟩
  | .hbm, ⟨19, _⟩ => ⟨S32x4096x4096, .f32⟩
  | .hbm, ⟨20, _⟩ => ⟨S32x4096x4096, .f32⟩
  | .hbm, ⟨21, _⟩ => ⟨S4096, .i32⟩
  | .hbm, ⟨22, _⟩ => ⟨S1x1x4096, .i32⟩
  | .hbm, ⟨23, _⟩ => ⟨S1x4096x1, .i32⟩
  | .hbm, ⟨24, _⟩ => ⟨S1x4096x4096, .i32⟩
  | .hbm, ⟨25, _⟩ => ⟨S1x4096x4096, .i32⟩
  | .hbm, ⟨26, _⟩ => ⟨S1x4096x4096, .i1⟩
  | .hbm, ⟨27, _⟩ => ⟨S_, .f32⟩
  | .hbm, ⟨28, _⟩ => ⟨S_, .f32⟩
  | .hbm, ⟨29, _⟩ => ⟨S32x4096x4096, .i1⟩
  | .hbm, ⟨30, _⟩ => ⟨S32x4096x4096, .f32⟩
  | .hbm, ⟨31, _⟩ => ⟨S32x4096x4096, .f32⟩
  | .hbm, ⟨32, _⟩ => ⟨S_, .f32⟩
  | .hbm, ⟨33, _⟩ => ⟨S32x4096x4096, .f32⟩
  | .hbm, ⟨34, _⟩ => ⟨S_, .f32⟩
  | .hbm, ⟨35, _⟩ => ⟨S32x4096, .f32⟩
  | .hbm, ⟨36, _⟩ => ⟨S32x4096x1, .f32⟩
  | .hbm, ⟨37, _⟩ => ⟨S32x4096x4096, .f32⟩
  | .hbm, ⟨38, _⟩ => ⟨S32x4096x4096, .i1⟩
  | .hbm, ⟨39, _⟩ => ⟨S32x4096x4096, .f32⟩
  | .hbm, ⟨40, _⟩ => ⟨S_, .f32⟩
  | .hbm, ⟨41, _⟩ => ⟨S32x4096, .f32⟩
  | .hbm, ⟨42, _⟩ => ⟨S_, .f32⟩
  | .hbm, ⟨43, _⟩ => ⟨S32x4096, .f32⟩
  | .hbm, ⟨44, _⟩ => ⟨S32x4096, .f32⟩
  | .hbm, ⟨45, _⟩ => ⟨S_, .f32⟩
  | .hbm, ⟨46, _⟩ => ⟨S32x4096, .f32⟩
  | .hbm, ⟨47, _⟩ => ⟨S32x4096, .i1⟩
  | .hbm, ⟨48, _⟩ => ⟨S_, .f32⟩
  | .hbm, ⟨49, _⟩ => ⟨S32x4096, .f32⟩
  | .hbm, ⟨50, _⟩ => ⟨S32x4096, .i1⟩
  | .hbm, ⟨51, _⟩ => ⟨S_, .f32⟩
  | .hbm, ⟨52, _⟩ => ⟨S32x4096, .f32⟩
  | .hbm, ⟨53, _⟩ => ⟨S_, .f32⟩
  | .hbm, ⟨54, _⟩ => ⟨S32x4096, .f32⟩
  | .hbm, ⟨55, _⟩ => ⟨S_, .f32⟩
  | .hbm, ⟨56, _⟩ => ⟨S32x4096, .f32⟩
  | .hbm, ⟨57, _⟩ => ⟨S32x4096, .f32⟩
  | .hbm, ⟨58, _⟩ => ⟨S32x4096, .f32⟩
  | .hbm, ⟨59, _⟩ => ⟨S32x4096x1, .f32⟩
  | .hbm, ⟨60, _⟩ => ⟨S32x4096x4096, .f32⟩
  | .hbm, ⟨61, _⟩ => ⟨S32x4096x4096, .f32⟩
  | .hbm, ⟨62, _⟩ => ⟨S32x4096x4096, .f32⟩
  | .hbm, ⟨63, _⟩ => ⟨S_, .f32⟩
  | .hbm, ⟨64, _⟩ => ⟨S32x4096, .f32⟩
  | .hbm, ⟨65, _⟩ => ⟨S32x4096x1, .f32⟩
  | .hbm, ⟨66, _⟩ => ⟨S32x4096x4096, .f32⟩
  | .hbm, ⟨67, _⟩ => ⟨S32x4096x4096, .f32⟩
  | .hbm, ⟨68, _⟩ => ⟨S32x4096x1, .f32⟩
  | .hbm, ⟨69, _⟩ => ⟨S_, .f32⟩
  | .hbm, ⟨70, _⟩ => ⟨S32x4096x1, .f32⟩
  | .hbm, ⟨71, _⟩ => ⟨S32x4096x1, .f32⟩
  | .hbm, ⟨72, _⟩ => ⟨S32x128x4096, .f32⟩
  | .hbm, ⟨73, _⟩ => ⟨S4096x32x128, .f32⟩
  | .hbm, ⟨74, _⟩ => ⟨S4096x4096, .f32⟩
  | .hbm, ⟨75, _⟩ => ⟨S4096x32x128, .f32⟩
  | .hbm, ⟨76, _⟩ => ⟨S4096x32x128, .f32⟩
  | .hbm, ⟨77, _⟩ => ⟨S4096x32x128, .f32⟩
  | .hbm, ⟨78, _⟩ => ⟨S_, .f32⟩
  | .hbm, ⟨79, _⟩ => ⟨S4096x32, .f32⟩
  | .hbm, ⟨80, _⟩ => ⟨S4096x32x128, .f32⟩
  | .hbm, ⟨81, _⟩ => ⟨S32x128x4096, .f32⟩
  | .hbm, ⟨82, _⟩ => ⟨S32x4096x4096, .f32⟩
  | .hbm, ⟨83, _⟩ => ⟨S32x4096x4096, .f32⟩
  | .hbm, ⟨84, _⟩ => ⟨S32x4096x4096, .f32⟩
  | .hbm, ⟨85, _⟩ => ⟨S32x4096x4096, .f32⟩
  | .hbm, ⟨86, _⟩ => ⟨S_, .f32⟩
  | .hbm, ⟨87, _⟩ => ⟨S32x4096, .f32⟩
  | .hbm, ⟨88, _⟩ => ⟨S32x4096x1, .f32⟩
  | .hbm, ⟨89, _⟩ => ⟨S32x4096x1, .f32⟩
  | .hbm, ⟨90, _⟩ => ⟨S32x4096x4096, .f32⟩
  | .hbm, ⟨91, _⟩ => ⟨S32x4096x4096, .f32⟩
  | .hbm, ⟨92, _⟩ => ⟨S_, .f32⟩
  | .hbm, ⟨93, _⟩ => ⟨S32x4096, .f32⟩
  | .hbm, ⟨94, _⟩ => ⟨S32x4096x4096, .f32⟩
  | .hbm, ⟨95, _⟩ => ⟨S32x4096x4096, .f32⟩
  | .hbm, ⟨96, _⟩ => ⟨S32x4096x4096, .f32⟩
  | .hbm, ⟨97, _⟩ => ⟨S_, .f32⟩
  | .hbm, ⟨98, _⟩ => ⟨S32x4096x4096, .f32⟩
  | .hbm, ⟨99, _⟩ => ⟨S32x4096x4096, .f32⟩
  | .hbm, ⟨100, _⟩ => ⟨S_, .f32⟩
  | .hbm, ⟨101, _⟩ => ⟨S32x4096x4096, .f32⟩
  | .hbm, ⟨102, _⟩ => ⟨S32x4096x4096, .f32⟩
  | .hbm, ⟨103, _⟩ => ⟨S32x4096x128, .f32⟩
  | .hbm, ⟨104, _⟩ => ⟨S4096x32x128, .f32⟩
  | .hbm, ⟨105, _⟩ => ⟨S4096x4096, .f32⟩
  | .hbm, ⟨106, _⟩ => ⟨S4096x4096, .bf16⟩
  | .hbm, ⟨107, _⟩ => ⟨S32x4096, .f32⟩
  | .hbm, ⟨108, _⟩ => ⟨S32x4096x1, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call1_cst : Ref sig .tc := ⟨.hbm, 97, rfl⟩
abbrev main_call1_v0 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel10.lean ====
abbrev S4096x6144 : Shape := ⟨2, ![4096, 6144]⟩
abbrev S4096x4096 : Shape := ⟨2, ![4096, 4096]⟩
abbrev S18528x4096 : Shape := ⟨2, ![18528, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S4096x4096, .f32⟩
  | .hbm, ⟨2, _⟩ => ⟨S18528x4096, .f32⟩
  | .hbm, ⟨3, _⟩ => ⟨S4096x6144, .bf16⟩
  | .hbm, ⟨4, _⟩ => ⟨S4096x4096, .bf16⟩
  | .hbm, ⟨5, _⟩ => ⟨S18528x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x6144 : Shape := ⟨2, ![4096, 6144]⟩
abbrev S4096x4096 : Shape := ⟨2, ![4096, 4096]⟩
abbrev S18528x4096 : Shape := ⟨2, ![18528, 4096]⟩
abbrev S_ : Shape := ⟨0, ![]⟩
abbrev S6144x4096 : Shape := ⟨2, ![6144, 4096]⟩
abbrev S8288x4096 : Shape := ⟨2, ![8288, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x4096, .f32⟩
  | .hbm, ⟨2, _⟩ => ⟨S18528x4096, .f32⟩
  | .hbm, ⟨3, _⟩ => ⟨S_, .f32⟩
  | .hbm, ⟨4, _⟩ => ⟨S4096x6144, .f32⟩
  | .hbm, ⟨5, _⟩ => ⟨S4096x6144, .f32⟩
  | .hbm, ⟨6, _⟩ => ⟨S6144x4096, .f32⟩
  | .hbm, ⟨7, _⟩ => ⟨S4096x6144, .f32⟩
  | .hbm, ⟨8, _⟩ => ⟨S4096x4096, .f32⟩
  | .hbm, ⟨9, _⟩ => ⟨S6144x4096, .f32⟩
  | .hbm, ⟨10, _⟩ => ⟨S8288x4096, .f32⟩
  | .hbm, ⟨11, _⟩ => ⟨S18528x4096, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel11.lean ====
abbrev S4096x6144 : Shape := ⟨2, ![4096, 6144]⟩
abbrev S4096x18528 : Shape := ⟨2, ![4096, 18528]⟩
abbrev S4096x4096 : Shape := ⟨2, ![4096, 4096]⟩
abbrev S18528x4096 : Shape := ⟨2, ![18528, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x6144, .f32⟩
  | .hbm, ⟨1, _⟩ => ⟨S4096x18528, .f32⟩
  | .hbm, ⟨2, _⟩ => ⟨S4096x4096, .f32⟩
  | .hbm, ⟨3, _⟩ => ⟨S18528x4096, .f32⟩
  | .hbm, ⟨4, _⟩ => ⟨S18528x4096, .bf16⟩
  | .hbm, ⟨5, _⟩ => ⟨S4096x6144, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x6144 : Shape := ⟨2, ![4096, 6144]⟩
abbrev S4096x18528 : Shape := ⟨2, ![4096, 18528]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x18528, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x6144, .f32⟩
  | .hbm, ⟨6, _⟩ => ⟨S4096x6144, .f32⟩
  | .hbm, ⟨7, _⟩ => ⟨S4096x4096, .f32⟩
  | .hbm, ⟨8, _⟩ => ⟨S4096x4096, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S4096x4096 : Shape := ⟨2, ![4096, 4096]⟩
abbrev S4096x18528 : Shape := ⟨2, ![4096, 18528]⟩
abbrev S18528x4096 : Shape := ⟨2, ![18528, 4096]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x18528, .f32⟩
  | .hbm, ⟨2, _⟩ => ⟨S18528x4096, .f32⟩
  | .hbm, ⟨3, _⟩ => ⟨S18528x4096, .bf16⟩
  | .hbm, ⟨4, _⟩ => ⟨S4096x4096, .bf16⟩
  | .hbm, ⟨5, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg1 c10_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S4096x18528 : Shape := ⟨2, ![4096, 18528]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x18528, .f32⟩
  | .hbm, ⟨2, _⟩ => ⟨S4096x18528, .f32⟩
  | .hbm, ⟨3, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x4096 : Shape := ⟨2, ![4096, 4096]⟩
abbrev S4096x18528 : Shape := ⟨2, ![4096, 18528]⟩
abbrev S18528x4096 : Shape := ⟨2, ![18528, 4096]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x18528, .f32⟩
  | .hbm, ⟨2, _⟩ => ⟨S18528x4096, .f32⟩
  | .hbm, ⟨3, _⟩ => ⟨S18528x4096, .bf16⟩
  | .hbm, ⟨4, _⟩ => ⟨S4096x4096, .bf16⟩
  | .hbm, ⟨5, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4096x18528 : Shape := ⟨2, ![4096, 18528]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x18528, .f32⟩
  | .hbm, ⟨2, _⟩ => ⟨S4096x18528, .f32⟩
  | .hbm, ⟨3, _⟩ => ⟨S4096x6144, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4096x6144 : Shape := ⟨2, ![4096, 6144]⟩
abbrev S8192x4096 : Shape := ⟨2, ![8192, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x6144, .f32⟩
  | .hbm, ⟨1, _⟩ => ⟨S8192x4096, .f32⟩
  | .hbm, ⟨2, _⟩ => ⟨S4096x4096, .f32⟩
  | .hbm, ⟨3, _⟩ => ⟨S4096x6144, .bf16⟩
  | .hbm, ⟨4, _⟩ => ⟨S8192x4096, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x6144 : Shape := ⟨2, ![4096, 6144]⟩
abbrev S8192x4096 : Shape := ⟨2, ![8192, 4096]⟩
abbrev S4096x4096 : Shape := ⟨2, ![4096, 4096]⟩
abbrev S6144x4096 : Shape := ⟨2, ![6144, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S8192x4096, .f32⟩
  | .hbm, ⟨2, _⟩ => ⟨S4096x4096, .f32⟩
  | .hbm, ⟨3, _⟩ => ⟨S6144x4096, .f32⟩
  | .hbm, ⟨4, _⟩ => ⟨S4096x4096, .f32⟩
  | .hbm, ⟨5, _⟩ => ⟨S4096x4096, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S1024x4096 : Shape := ⟨2, ![1024, 4096]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4096x4096 : Shape := ⟨2, ![4096, 4096]⟩
abbrev S4096x16384 : Shape := ⟨2, ![4096, 16384]⟩
abbrev S256x4096 : Shape := ⟨2, ![256, 4096]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .f32⟩
  | .hbm, ⟨3, _⟩ => ⟨S4096x4096, .f32⟩
  | .hbm, ⟨4, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S4096x4096 : Shape := ⟨2, ![4096, 4096]⟩
abbrev S4096x16384 : Shape := ⟨2, ![4096, 16384]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel17.lean ====
abbrev S4096x4096 : Shape := ⟨2, ![4096, 4096]⟩
abbrev S4096x16384 : Shape := ⟨2, ![4096, 16384]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x4096 : Shape := ⟨2, ![4096, 4096]⟩
abbrev S4096x16384 : Shape := ⟨2, ![4096, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel18.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel19.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S256x2048 : Shape := ⟨2, ![256, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S4096x2048 : Shape := ⟨2, ![4096, 2048]⟩
abbrev S4096x4096 : Shape := ⟨2, ![4096, 4096]⟩
abbrev S2048 : Shape := ⟨1, ![2048]⟩
abbrev S1x2048 : Shape := ⟨2, ![1, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel20.lean ====
abbrev S2048x4096 : Shape := ⟨2, ![2048, 4096]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2048x4096 : Shape := ⟨2, ![2048, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S512x2048 : Shape := ⟨2, ![512, 2048]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4104x4096 : Shape := ⟨2, ![4104, 4096]⟩
abbrev S1368x256 : Shape := ⟨2, ![1368, 256]⟩

abbrev nBuf : Space → Nat
  | .hbm => 7
  | .vmem => 14
  | .smem => 0
  | _ => 0

abbrev bufTy : (tb : Table) → Fin (tcTables nBuf tb) → BufTy
  | .hbm, ⟨0, _⟩ => ⟨S4104x4096, .f32⟩
  | .hbm, ⟨1, _⟩ => ⟨S4104x4096, .f32⟩
  | .hbm, ⟨2, _⟩ => ⟨S4104x4096, .f32⟩
  | .hbm, ⟨3, _⟩ => ⟨S4104x4096, .f32⟩
  | .hbm, ⟨4, _⟩ => ⟨S4104x4096, .f32⟩
  | .hbm, ⟨5, _⟩ => ⟨S4104x4096, .f32⟩
  | .hbm, ⟨6, _⟩ => ⟨S4104x4096, .f32⟩
  | .local _ .vmem, ⟨0, _⟩ => ⟨S1368x256, .f32⟩
  | .local _ .vmem, ⟨1, _⟩ => ⟨S1368x256, .f32⟩
  | .local _ .vmem, ⟨2, _⟩ => ⟨S1368x256, .f32⟩
  | .local _ .vmem, ⟨3, _⟩ => ⟨S1368x256, .f32⟩
  | .local _ .vmem, ⟨4, _⟩ => ⟨S1368x256, .f32⟩
  | .local _ .vmem, ⟨5, _⟩ => ⟨S1368x256, .f32⟩
  | .local _ .vmem, ⟨6, _⟩ => ⟨S1368x256, .f32⟩
  | .local _ .vmem, ⟨7, _⟩ => ⟨S1368x256, .f32⟩
  | .local _ .vmem, ⟨8, _⟩ => ⟨S1368x256, .f32⟩
  | .local _ .vmem, ⟨9, _⟩ => ⟨S1368x256, .f32⟩
  | .local _ .vmem, ⟨10, _⟩ => ⟨S1368x256, .f32⟩
  | .local _ .vmem, ⟨11, _⟩ => ⟨S1368x256, .f32⟩
  | .local _ .vmem, ⟨12, _⟩ => ⟨S1368x256, .f32⟩
  | .local _ .vmem, ⟨13, _⟩ => ⟨S1368x256, .f32⟩
  | _, _ => ⟨S4104x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1368x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1368x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1368x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1368x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1368x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1368x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1368x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S4104x4096 : Shape := ⟨2, ![4104, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4104x4096, .f32⟩
  | .hbm, ⟨1, _⟩ => ⟨S4104x4096, .f32⟩
  | .hbm, ⟨2, _⟩ => ⟨S4104x4096, .f32⟩
  | .hbm, ⟨3, _⟩ => ⟨S4104x4096, .f32⟩
  | .hbm, ⟨4, _⟩ => ⟨S_, .f32⟩
  | .hbm, ⟨5, _⟩ => ⟨S4104x4096, .f32⟩
  | .hbm, ⟨6, _⟩ => ⟨S4104x4096, .f32⟩
  | .hbm, ⟨7, _⟩ => ⟨S_, .f32⟩
  | .hbm, ⟨8, _⟩ => ⟨S4104x4096, .f32⟩
  | .hbm, ⟨9, _⟩ => ⟨S4104x4096, .f32⟩
  | .hbm, ⟨10, _⟩ => ⟨S4104x4096, .f32⟩
  | .hbm, ⟨11, _⟩ => ⟨S_, .f32⟩
  | .hbm, ⟨12, _⟩ => ⟨S4104x4096, .f32⟩
  | .hbm, ⟨13, _⟩ => ⟨S4104x4096, .f32⟩
  | .hbm, ⟨14, _⟩ => ⟨S4104x4096, .f32⟩
  | .hbm, ⟨15, _⟩ => ⟨S_, .f32⟩
  | .hbm, ⟨16, _⟩ => ⟨S4104x4096, .f32⟩
  | .hbm, ⟨17, _⟩ => ⟨S4104x4096, .f32⟩
  | .hbm, ⟨18, _⟩ => ⟨S4104x4096, .f32⟩
  | .hbm, ⟨19, _⟩ => ⟨S_, .f32⟩
  | .hbm, ⟨20, _⟩ => ⟨S4104x4096, .f32⟩
  | .hbm, ⟨21, _⟩ => ⟨S4104x4096, .f32⟩
  | .hbm, ⟨22, _⟩ => ⟨S_, .f32⟩
  | .hbm, ⟨23, _⟩ => ⟨S4104x4096, .f32⟩
  | .hbm, ⟨24, _⟩ => ⟨S4104x4096, .f32⟩
  | .hbm, ⟨25, _⟩ => ⟨S4104x4096, .f32⟩
  | .hbm, ⟨26, _⟩ => ⟨S_, .f32⟩
  | .hbm, ⟨27, _⟩ => ⟨S4104x4096, .f32⟩
  | .hbm, ⟨28, _⟩ => ⟨S4104x4096, .f32⟩
  | .hbm, ⟨29, _⟩ => ⟨S4104x4096, .f32⟩
  | .hbm, ⟨30, _⟩ => ⟨S_, .f32⟩
  | .hbm, ⟨31, _⟩ => ⟨S4104x4096, .f32⟩
  | .hbm, ⟨32, _⟩ => ⟨S4104x4096, .f32⟩
  | .hbm, ⟨33, _⟩ => ⟨S4104x4096, .f32⟩
  | .hbm, ⟨34, _⟩ => ⟨S_, .f32⟩
  | .hbm, ⟨35, _⟩ => ⟨S4104x4096, .f32⟩
  | .hbm, ⟨36, _⟩ => ⟨S4104x4096, .f32⟩
  | _, _ => ⟨S4104x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4632x4096 : Shape := ⟨2, ![4632, 4096]⟩
abbrev S1544x256 : Shape := ⟨2, ![1544, 256]⟩

abbrev nBuf : Space → Nat
  | .hbm => 7
  | .vmem => 14
  | .smem => 0
  | _ => 0

abbrev bufTy : (tb : Table) → Fin (tcTables nBuf tb) → BufTy
  | .hbm, ⟨0, _⟩ => ⟨S4632x4096, .f32⟩
  | .hbm, ⟨1, _⟩ => ⟨S4632x4096, .f32⟩
  | .hbm, ⟨2, _⟩ => ⟨S4632x4096, .f32⟩
  | .hbm, ⟨3, _⟩ => ⟨S4632x4096, .f32⟩
  | .hbm, ⟨4, _⟩ => ⟨S4632x4096, .f32⟩
  | .hbm, ⟨5, _⟩ => ⟨S4632x4096, .f32⟩
  | .hbm, ⟨6, _⟩ => ⟨S4632x4096, .f32⟩
  | .local _ .vmem, ⟨0, _⟩ => ⟨S1544x256, .f32⟩
  | .local _ .vmem, ⟨1, _⟩ => ⟨S1544x256, .f32⟩
  | .local _ .vmem, ⟨2, _⟩ => ⟨S1544x256, .f32⟩
  | .local _ .vmem, ⟨3, _⟩ => ⟨S1544x256, .f32⟩
  | .local _ .vmem, ⟨4, _⟩ => ⟨S1544x256, .f32⟩
  | .local _ .vmem, ⟨5, _⟩ => ⟨S1544x256, .f32⟩
  | .local _ .vmem, ⟨6, _⟩ => ⟨S1544x256, .f32⟩
  | .local _ .vmem, ⟨7, _⟩ => ⟨S1544x256, .f32⟩
  | .local _ .vmem, ⟨8, _⟩ => ⟨S1544x256, .f32⟩
  | .local _ .vmem, ⟨9, _⟩ => ⟨S1544x256, .f32⟩
  | .local _ .vmem, ⟨10, _⟩ => ⟨S1544x256, .f32⟩
  | .local _ .vmem, ⟨11, _⟩ => ⟨S1544x256, .f32⟩
  | .local _ .vmem, ⟨12, _⟩ => ⟨S1544x256, .f32⟩
  | .local _ .vmem, ⟨13, _⟩ => ⟨S1544x256, .f32⟩
  | _, _ => ⟨S4632x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1544x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4632x4096 : Shape := ⟨2, ![4632, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4632x4096, .f32⟩
  | .hbm, ⟨1, _⟩ => ⟨S4632x4096, .f32⟩
  | .hbm, ⟨2, _⟩ => ⟨S4632x4096, .f32⟩
  | .hbm, ⟨3, _⟩ => ⟨S4632x4096, .f32⟩
  | .hbm, ⟨4, _⟩ => ⟨S_, .f32⟩
  | .hbm, ⟨5, _⟩ => ⟨S4632x4096, .f32⟩
  | .hbm, ⟨6, _⟩ => ⟨S4632x4096, .f32⟩
  | .hbm, ⟨7, _⟩ => ⟨S_, .f32⟩
  | .hbm, ⟨8, _⟩ => ⟨S4632x4096, .f32⟩
  | .hbm, ⟨9, _⟩ => ⟨S4632x4096, .f32⟩
  | .hbm, ⟨10, _⟩ => ⟨S4632x4096, .f32⟩
  | .hbm, ⟨11, _⟩ => ⟨S_, .f32⟩
  | .hbm, ⟨12, _⟩ => ⟨S4632x4096, .f32⟩
  | .hbm, ⟨13, _⟩ => ⟨S4632x4096, .f32⟩
  | .hbm, ⟨14, _⟩ => ⟨S4632x4096, .f32⟩
  | .hbm, ⟨15, _⟩ => ⟨S_, .f32⟩
  | .hbm, ⟨16, _⟩ => ⟨S4632x4096, .f32⟩
  | .hbm, ⟨17, _⟩ => ⟨S4632x4096, .f32⟩
  | .hbm, ⟨18, _⟩ => ⟨S4632x4096, .f32⟩
  | .hbm, ⟨19, _⟩ => ⟨S_, .f32⟩
  | .hbm, ⟨20, _⟩ => ⟨S4632x4096, .f32⟩
  | .hbm, ⟨21, _⟩ => ⟨S4632x4096, .f32⟩
  | .hbm, ⟨22, _⟩ => ⟨S_, .f32⟩
  | .hbm, ⟨23, _⟩ => ⟨S4632x4096, .f32⟩
  | .hbm, ⟨24, _⟩ => ⟨S4632x4096, .f32⟩
  | .hbm, ⟨25, _⟩ => ⟨S4632x4096, .f32⟩
  | .hbm, ⟨26, _⟩ => ⟨S_, .f32⟩
  | .hbm, ⟨27, _⟩ => ⟨S4632x4096, .f32⟩
  | .hbm, ⟨28, _⟩ => ⟨S4632x4096, .f32⟩
  | .hbm, ⟨29, _⟩ => ⟨S4632x4096, .f32⟩
  | .hbm, ⟨30, _⟩ => ⟨S_, .f32⟩
  | .hbm, ⟨31, _⟩ => ⟨S4632x4096, .f32⟩
  | .hbm, ⟨32, _⟩ => ⟨S4632x4096, .f32⟩
  | .hbm, ⟨33, _⟩ => ⟨S4632x4096, .f32⟩
  | .hbm, ⟨34, _⟩ => ⟨S_, .f32⟩
  | .hbm, ⟨35, _⟩ => ⟨S4632x4096, .f32⟩
  | .hbm, ⟨36, _⟩ => ⟨S4632x4096, .f32⟩
  | _, _ => ⟨S4632x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel25.lean ====
abbrev S4096x6144 : Shape := ⟨2, ![4096, 6144]⟩
abbrev S4096x8192 : Shape := ⟨2, ![4096, 8192]⟩
abbrev S96 : Shape := ⟨1, ![96]⟩
abbrev S6144 : Shape := ⟨1, ![6144]⟩
abbrev S1x96 : Shape := ⟨2, ![1, 96]⟩
abbrev S1x96x64 : Shape := ⟨3, ![1, 96, 64]⟩
abbrev S1x6144 : Shape := ⟨2, ![1, 6144]⟩
abbrev S256x768 : Shape := ⟨2, ![256, 768]⟩
abbrev S1x768 : Shape := ⟨2, ![1, 768]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x6144, .f32⟩
  | .hbm, ⟨1, _⟩ => ⟨S4096x8192, .f32⟩
  | .hbm, ⟨2, _⟩ => ⟨S4096x6144, .f32⟩
  | .hbm, ⟨3, _⟩ => ⟨S96, .f32⟩
  | .hbm, ⟨4, _⟩ => ⟨S6144, .f32⟩
  | .hbm, ⟨5, _⟩ => ⟨S1x96, .f32⟩
  | .hbm, ⟨6, _⟩ => ⟨S1x96x64, .f32⟩
  | .hbm, ⟨7, _⟩ => ⟨S1x6144, .f32⟩
  | .hbm, ⟨8, _⟩ => ⟨S1x6144, .f32⟩
  | .hbm, ⟨9, _⟩ => ⟨S4096x6144, .bf16⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S256x768, .bf16⟩
  | .local _ .vmem, ⟨11, _⟩ => ⟨S256x768, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference25Ideal.lean ====
abbrev S4096x6144 : Shape := ⟨2, ![4096, 6144]⟩
abbrev S4096x8192 : Shape := ⟨2, ![4096, 8192]⟩
abbrev S96 : Shape := ⟨1, ![96]⟩
abbrev S6144 : Shape := ⟨1, ![6144]⟩
abbrev S4096x96x64 : Shape := ⟨3, ![4096, 96, 64]⟩
abbrev S96x1 : Shape := ⟨2, ![96, 1]⟩
abbrev S1x96x1 : Shape := ⟨3, ![1, 96, 1]⟩
abbrev S_ : Shape := ⟨0, ![]⟩
abbrev S4096x8x768 : Shape := ⟨3, ![4096, 8, 768]⟩
abbrev S4096x8 : Shape := ⟨2, ![4096, 8]⟩
abbrev S4096x8x1 : Shape := ⟨3, ![4096, 8, 1]⟩
abbrev S1x6144 : Shape := ⟨2, ![1, 6144]⟩

abbrev nBuf : Space → Nat
  | .hbm => 43
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x8192, .f32⟩
  | .hbm, ⟨2, _⟩ => ⟨S4096x6144, .f32⟩
  | .hbm, ⟨3, _⟩ => ⟨S96, .f32⟩
  | .hbm, ⟨4, _⟩ => ⟨S6144, .f32⟩
  | .hbm, ⟨5, _⟩ => ⟨S4096x6144, .f32⟩
  | .hbm, ⟨6, _⟩ => ⟨S4096x96x64, .f32⟩
  | .hbm, ⟨7, _⟩ => ⟨S4096x96x64, .f32⟩
  | .hbm, ⟨8, _⟩ => ⟨S96x1, .f32⟩
  | .hbm, ⟨9, _⟩ => ⟨S1x96x1, .f32⟩
  | .hbm, ⟨10, _⟩ => ⟨S4096x96x64, .f32⟩
  | .hbm, ⟨11, _⟩ => ⟨S4096x96x64, .f32⟩
  | .hbm, ⟨12, _⟩ => ⟨S4096x96x64, .f32⟩
  | .hbm, ⟨13, _⟩ => ⟨S4096x6144, .f32⟩
  | .hbm, ⟨14, _⟩ => ⟨S4096x6144, .f32⟩
  | .hbm, ⟨15, _⟩ => ⟨S4096x6144, .f32⟩
  | .hbm, ⟨16, _⟩ => ⟨S_, .f32⟩
  | .hbm, ⟨17, _⟩ => ⟨S4096x6144, .f32⟩
  | .hbm, ⟨18, _⟩ => ⟨S4096x6144, .f32⟩
  | .hbm, ⟨19, _⟩ => ⟨S_, .f32⟩
  | .hbm, ⟨20, _⟩ => ⟨S4096x6144, .f32⟩
  | .hbm, ⟨21, _⟩ => ⟨S4096x6144, .f32⟩
  | .hbm, ⟨22, _⟩ => ⟨S4096x6144, .f32⟩
  | .hbm, ⟨23, _⟩ => ⟨S4096x6144, .f32⟩
  | .hbm, ⟨24, _⟩ => ⟨S4096x8x768, .f32⟩
  | .hbm, ⟨25, _⟩ => ⟨S4096x8x768, .f32⟩
  | .hbm, ⟨26, _⟩ => ⟨S_, .f32⟩
  | .hbm, ⟨27, _⟩ => ⟨S4096x8, .f32⟩
  | .hbm, ⟨28, _⟩ => ⟨S4096x8x1, .f32⟩
  | .hbm, ⟨29, _⟩ => ⟨S_, .f32⟩
  | .hbm, ⟨30, _⟩ => ⟨S4096x8x1, .f32⟩
  | .hbm, ⟨31, _⟩ => ⟨S4096x8x1, .f32⟩
  | .hbm, ⟨32, _⟩ => ⟨S_, .f32⟩
  | .hbm, ⟨33, _⟩ => ⟨S4096x8x1, .f32⟩
  | .hbm, ⟨34, _⟩ => ⟨S4096x8x1, .f32⟩
  | .hbm, ⟨35, _⟩ => ⟨S4096x8x1, .f32⟩
  | .hbm, ⟨36, _⟩ => ⟨S4096x8x768, .f32⟩
  | .hbm, ⟨37, _⟩ => ⟨S4096x8x768, .f32⟩
  | .hbm, ⟨38, _⟩ => ⟨S4096x6144, .f32⟩
  | .hbm, ⟨39, _⟩ => ⟨S1x6144, .f32⟩
  | .hbm, ⟨40, _⟩ => ⟨S4096x6144, .f32⟩
  | .hbm, ⟨41, _⟩ => ⟨S4096x6144, .f32⟩
  | .hbm, ⟨42, _⟩ => ⟨S4096x6144, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Proof.Rows.lean ====
/- Extended reals that are reals, and one row of a masked softmax with the gradient of its scores. -/
module

public import Idealize.ShloMosaic.PureOps.Ideal.Laws
public import Idealize.ShloMosaic.Lib.ValueIdx

@[expose] public section

noncomputable section

namespace Cert.Rows

open Idealize.ShloMosaic

/-! ### Sums, products and the elementary functions of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type*} (s : Finset ι) (g : ι → EReal) (f : ι → ℝ) (h : ∀ i, g i = (f i : EReal)) :
    ∑ i ∈ s, g i = ((∑ i ∈ s, f i : ℝ) : EReal) := by
  rw [coe_sum]; exact Finset.sum_congr rfl fun i _ => h i

theorem exp_coe (r : ℝ) : Ideal.exp (r : EReal) = (Real.exp r : EReal) := rfl

theorem exp_bot : Ideal.exp ⊥ = ((0 : ℝ) : EReal) := rfl

theorem log_coe {r : ℝ} (h : 0 < r) : Ideal.log (r : EReal) = (Real.log r : EReal) := by
  show (if r ≤ 0 then (⊥ : EReal) else (Real.log r : EReal)) = _
  rw [if_neg (not_le.mpr h)]

theorem div_coe_coe (x : ℝ) {y : ℝ} (h : y ≠ 0) : Ideal.div (x : EReal) (y : EReal) = ((x / y : ℝ) : EReal) := by
  rw [Ideal.div_coe h, ← EReal.coe_mul, mul_one_div]

theorem bot_sub_coe (r : ℝ) : (⊥ : EReal) - (r : EReal) = ⊥ := by
  rw [sub_eq_add_neg]; exact EReal.bot_add _

/-- What lies strictly below the top together with its opposite is a real. -/
theorem toReal_of_abs_lt {x : EReal} (h : max x (-x) < ⊤) : ((x.toReal : ℝ) : EReal) = x := by
  obtain ⟨h1, h2⟩ := max_lt_iff.mp h
  refine EReal.coe_toReal h1.ne fun hb => ?_
  rw [hb, EReal.neg_bot] at h2
  exact h2.false

/-! ### Folds -/

theorem le_foldl_max {ι : Type*} (g : ι → EReal) (l : List ι) (a : EReal) :
    a ≤ l.foldl (fun r n => max r (g n)) a ∧ ∀ n ∈ l, g n ≤ l.foldl (fun r n => max r (g n)) a := by
  induction l generalizing a with
  | nil => exact ⟨le_rfl, fun n hn => by cases hn⟩
  | cons x l ih =>
    obtain ⟨h1, h2⟩ := ih (max a (g x))
    refine ⟨(le_max_left _ _).trans h1, fun n hn => ?_⟩
    rcases List.mem_cons.mp hn with rfl | hn
    · exact (le_max_right _ _).trans h1
    · exact h2 n hn

theorem foldl_max_lt {ι : Type*} (g : ι → EReal) (l : List ι) (a b : EReal) (ha : a < b) (hg : ∀ n, g n < b) :
    l.foldl (fun r n => max r (g n)) a < b := by
  induction l generalizing a with
  | nil => exact ha
  | cons x l ih => exact ih _ (max_lt ha (hg x))

theorem foldl_andi {ι : Type*} (g : ι → BitVec 1) (l : List ι) (a : BitVec 1)
    (h : l.foldl (fun r n => IntOp.andi r (g n)) a = 1#1) : a = 1#1 ∧ ∀ n ∈ l, g n = 1#1 := by
  induction l generalizing a with
  | nil => exact ⟨h, fun n hn => by cases hn⟩
  | cons x l ih =>
    obtain ⟨h1, h2⟩ := ih _ h
    have key : ∀ p q : BitVec 1, IntOp.andi p q = 1#1 → p = 1#1 ∧ q = 1#1 := by decide
    obtain ⟨h3, h4⟩ := key _ _ h1
    refine ⟨h3, fun n hn => ?_⟩
    rcases List.mem_cons.mp hn with rfl | hn
    · exact h4
    · exact h2 n hn

/-! ### One row: scores, the weights they give, and the gradient of the scores -/

variable {κ : Type*} [Fintype κ] (s dp : κ → ℝ) (b : κ → Prop) [DecidablePred b]

/-- A score, at the bottom where the mask is off. -/
def score (k : κ) : EReal := if b k then (s k : EReal) else ⊥

/-- The weight of a score before it is normalised: zero where the mask is off. -/
def weight (k : κ) : ℝ := if b k then Real.exp (s k) else 0

/-- The sum of a row's weights. -/
def total : ℝ := ∑ k, weight s b k

/-- The softmax of the row. -/
def prob (k : κ) : ℝ := weight s b k / total s b

/-- The gradient of a score from the gradients `dp` of the softmax: the softmax's Jacobian applied to them. -/
def grad (k : κ) : ℝ := prob s b k * (dp k - ∑ l, prob s b l * dp l)

theorem weight_nonneg (k : κ) : 0 ≤ weight s b k := by
  unfold weight; split
  · exact (Real.exp_pos _).le
  · exact le_rfl

theorem total_pos (h : ∃ k, b k) : 0 < total s b := by
  obtain ⟨k, hk⟩ := h
  refine Finset.sum_pos' (fun k _ => weight_nonneg s b k) ⟨k, Finset.mem_univ k, ?_⟩
  unfold weight; rw [if_pos hk]; exact Real.exp_pos _

theorem exp_score_sub (m : ℝ) (k : κ) :
    Ideal.exp (score s b k - (m : EReal)) = ((weight s b k * Real.exp (-m) : ℝ) : EReal) := by
  unfold score weight
  split
  · rw [← EReal.coe_sub, exp_coe, ← Real.exp_add, sub_eq_add_neg]
  · rw [bot_sub_coe, exp_bot, zero_mul]

theorem sum_exp_score_sub (m : ℝ) :
    ∑ k, Ideal.exp (score s b k - (m : EReal)) = ((total s b * Real.exp (-m) : ℝ) : EReal) := by
  rw [sum_coe _ _ _ (exp_score_sub s b m)]
  unfold total; rw [Finset.sum_mul]

/-- The softmax from the logarithm of the row's sum, whatever real was taken from the scores first. -/
theorem exp_sub_log (h : ∃ k, b k) (m : ℝ) (k : κ) :
    Ideal.exp (score s b k - ((m : EReal) + Ideal.log ((total s b * Real.exp (-m) : ℝ) : EReal))) = ((prob s b k : ℝ) : EReal) := by
  have ht := total_pos s b h
  rw [log_coe (mul_pos ht (Real.exp_pos _)), ← EReal.coe_add, Real.log_mul ht.ne' (Real.exp_pos _).ne', Real.log_exp,
    show m + (Real.log (total s b) + -m) = Real.log (total s b) by ring, exp_score_sub, Real.exp_neg, Real.exp_log ht]
  rfl

/-- The softmax as a quotient, whatever real was taken from the scores first. -/
theorem quot_eq_prob (h : ∃ k, b k) (m : ℝ) (k : κ) :
    weight s b k * Real.exp (-m) / (total s b * Real.exp (-m)) = prob s b k :=
  mul_div_mul_right _ _ (Real.exp_pos _).ne'

/-- The gradient of a score as the derivative of a quotient gives it. -/
theorem quot_grad (h : ∃ k, b k) (m : ℝ) (k : κ) :
    (dp k / (total s b * Real.exp (-m))
        + -∑ l, dp l * (1 / ((total s b * Real.exp (-m)) * (total s b * Real.exp (-m)))) * (weight s b l * Real.exp (-m)))
      * (weight s b k * Real.exp (-m)) = grad s dp b k := by
  have ht := (total_pos s b h).ne'
  have he := (Real.exp_pos (-m)).ne'
  have hs : ∑ l, dp l * (1 / ((total s b * Real.exp (-m)) * (total s b * Real.exp (-m)))) * (weight s b l * Real.exp (-m))
      = (∑ l, prob s b l * dp l) / (total s b * Real.exp (-m)) := by
    rw [Finset.sum_div]
    refine Finset.sum_congr rfl fun l _ => ?_
    unfold prob; field_simp
  rw [hs]
  unfold grad prob
  field_simp
  ring

/-- The gradients of a row's scores add to zero: the softmax does not change when all scores move alike. -/
theorem sum_grad (h : ∃ k, b k) : ∑ k, grad s dp b k = 0 := by
  have hp : ∑ k, prob s b k = 1 := by
    unfold prob; rw [← Finset.sum_div]; exact div_self (total_pos s b h).ne'
  unfold grad
  simp only [mul_sub]
  rw [Finset.sum_sub_distrib, ← Finset.sum_mul, hp, one_mul, sub_self]

/-- Where the mask is off the gradient is zero. -/
theorem grad_off {k : κ} (h : ¬b k) : grad s dp b k = 0 := by
  unfold grad prob weight; rw [if_neg h, zero_div, zero_mul]

theorem prob_off {k : κ} (h : ¬b k) : prob s b k = 0 := by
  unfold prob weight; rw [if_neg h, zero_div]

end Cert.Rows

end

end
-- ==== Proof.Scores.lean ====
/- The attention with a forget gate over the reals: scores, softmax, and the gradients its arguments get. -/
module

public import proofs.«01_k».proof.Proof.Rows

@[expose] public section

noncomputable section

namespace Cert.Scores

open Idealize.ShloMosaic Idealize.ShloMosaic.ValueIdx Cert.Rows

variable (x0 : (⟨2, ![4096, 16384]⟩ : Shape).Idx → EReal) (x1 : (⟨2, ![4096, 4096]⟩ : Shape).Idx → EReal)
  (x2 : (⟨2, ![4096, 32]⟩ : Shape).Idx → EReal)

/-- Column `d` of head `h`. -/
abbrev col (h : Fin 32) (d : Fin 128) : Fin 4096 := ⟨128 * h.val + d.val, by have := h.isLt; have := d.isLt; omega⟩

/-- Column `d` of head `h` in the `o`-th group of 4096 columns. -/
abbrev gcol (o : Fin 4) (h : Fin 32) (d : Fin 128) : Fin 16384 :=
  ⟨4096 * o.val + (128 * h.val + d.val), by have := o.isLt; have := h.isLt; have := d.isLt; omega⟩

/-- The factor of the scores, as the literal gives it. -/
def scale : ℝ := (Ideal.ofBits .f32 0x3DB504F3#32).toReal

theorem scale_coe : ((scale : ℝ) : EReal) = Ideal.ofBits .f32 0x3DB504F3#32 := by
  unfold scale
  simp [Ideal.ofBits, Ideal.ieee, -EReal.coe_mul]

def Q (h : Fin 32) (q : Fin 4096) (d : Fin 128) : ℝ := (x0 (ix2 q (gcol 0 h d))).toReal
def K (h : Fin 32) (k : Fin 4096) (d : Fin 128) : ℝ := (x0 (ix2 k (gcol 1 h d))).toReal
def V (h : Fin 32) (k : Fin 4096) (d : Fin 128) : ℝ := (x0 (ix2 k (gcol 2 h d))).toReal
def DO (h : Fin 32) (q : Fin 4096) (d : Fin 128) : ℝ := (x1 (ix2 q (col h d))).toReal
def C (h : Fin 32) (q : Fin 4096) : ℝ := (x2 (ix2 q h)).toReal

/-- A query sees the keys up to its own position. -/
def sees (q k : Fin 4096) : Prop := k.val ≤ q.val

instance (q : Fin 4096) : DecidablePred (sees q) := fun k => Nat.decLe k.val q.val

theorem sees_self (q : Fin 4096) : ∃ k, sees q k := ⟨q, Nat.le_refl _⟩

/-- The score of a query and a key before the mask. -/
def S (h : Fin 32) (q k : Fin 4096) : ℝ := (∑ d, Q x0 h q d * K x0 h k d) * scale + (C x2 h q - C x2 h k)

/-- The gradient the softmax gets. -/
def DP (h : Fin 32) (q k : Fin 4096) : ℝ := ∑ d, DO x1 h q d * V x0 h k d

/-- The softmax. -/
def P (h : Fin 32) (q k : Fin 4096) : ℝ := prob (S x0 x2 h q) (sees q) k

/-- The gradient the scores get. -/
def DS (h : Fin 32) (q k : Fin 4096) : ℝ := grad (S x0 x2 h q) (DP x0 x1 h q) (sees q) k

def DV (h : Fin 32) (k : Fin 4096) (d : Fin 128) : ℝ := ∑ q, P x0 x2 h q k * DO x1 h q d
def DK (h : Fin 32) (k : Fin 4096) (d : Fin 128) : ℝ := (∑ q, DS x0 x1 x2 h q k * Q x0 h q d) * scale
def DQ (h : Fin 32) (q : Fin 4096) (d : Fin 128) : ℝ := (∑ k, DS x0 x1 x2 h q k * K x0 h k d) * scale
def DC (h : Fin 32) (k : Fin 4096) : ℝ := -∑ q, DS x0 x1 x2 h q k

/-! ### Literals and indices -/

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]
  norm_num
theorem lit_bot : Ideal.ofBits .f32 0xFF800000#32 = ⊥ := by simp [Ideal.ofBits, Ideal.ieee]
theorem lit_top : Ideal.ofBits .f32 0x7F800000#32 = ⊤ := by simp [Ideal.ofBits, Ideal.ieee]

theorem ext2 {n0 n1 : Nat} {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

theorem ext3 {n0 n1 n2 : Nat} {i j : (⟨3, ![n0, n1, n2]⟩ : Shape).Idx} (h0 : (i 0).val = (j 0).val) (h1 : (i 1).val = (j 1).val)
    (h2 : (i 2).val = (j 2).val) : i = j := by
  funext a; apply Fin.ext
  match a with
  | ⟨0, _⟩ => exact h0
  | ⟨1, _⟩ => exact h1
  | ⟨2, _⟩ => exact h2

/-- The comparison of two positions as words is the comparison of the positions. -/
theorem select_sle {α : Type} (k q : Nat) (hk : k < 4096) (hq : q < 4096) (x y : α) :
    Scalar.select (IntOp.cmpi .sle (BitVec.ofNat 32 k) (BitVec.ofNat 32 q)) x y = if k ≤ q then x else y := by
  have h : IntOp.cmpi .sle (BitVec.ofNat 32 k) (BitVec.ofNat 32 q) = BitVec.ofBool (decide (k ≤ q)) := by
    show BitVec.ofBool (decide ((BitVec.ofNat 32 k).toInt ≤ (BitVec.ofNat 32 q).toInt)) = _
    rw [BitVec.toInt_eq_toNat_of_lt (by simp; omega), BitVec.toInt_eq_toNat_of_lt (by simp; omega)]
    simp only [BitVec.toNat_ofNat]
    congr 2
    rw [Nat.mod_eq_of_lt (by omega), Nat.mod_eq_of_lt (by omega)]
    exact propext Int.ofNat_le
  rw [h]
  by_cases c : k ≤ q <;> simp [c, Scalar.select]

/-- The value of an array all of whose elements are reals. -/
def Real2 {n m : Nat} (x : (⟨2, ![n, m]⟩ : Shape).Idx → EReal) : Prop := ∀ i, ((x i).toReal : EReal) = x i

end Cert.Scores

end

end
-- ==== Proof.RefValue.lean ====
/- What the reference's arrays hold when the arguments hold reals: its scores, its softmax, and the gradients. -/
module

public import proofs.«01_k».proof.Proof.Gen.ReferenceIdeal.Read
public import proofs.«01_k».proof.Proof.Scores

@[expose] public section

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.Rows Cert.Scores

variable (x0 : (⟨S4096x16384, .f32⟩ : BufTy).Contents (Elt Ideal)) (x1 : (⟨S4096x4096, .f32⟩ : BufTy).Contents (Elt Ideal))
  (x2 : (⟨S4096x32, .f32⟩ : BufTy).Contents (Elt Ideal))

theorem at4 (q : Fin 4096) (h : Fin 32) (d : Fin 128) :
    val_main_v4 (F := Ideal) x0 (ix3 q h d) = x0 (ix2 q (gcol 0 h d)) := by
  have := q.isLt; have := h.isLt; have := d.isLt
  rw [val_main_v4_apply, val_main_v0_apply]
  refine congrArg x0 (ext2 ?_ ?_)
  · show ((q.val * 32 + h.val) * 128 + d.val) / 4096 = q.val; omega
  · show ((q.val * 32 + h.val) * 128 + d.val) % 4096 = 4096 * 0 + (128 * h.val + d.val); omega

theorem at5 (q : Fin 4096) (h : Fin 32) (d : Fin 128) :
    val_main_v5 (F := Ideal) x0 (ix3 q h d) = x0 (ix2 q (gcol 1 h d)) := by
  have := q.isLt; have := h.isLt; have := d.isLt
  rw [val_main_v5_apply, val_main_v1_apply]
  refine congrArg x0 (ext2 ?_ ?_)
  · show ((q.val * 32 + h.val) * 128 + d.val) / 4096 = q.val; omega
  · show 4096 + ((q.val * 32 + h.val) * 128 + d.val) % 4096 = 4096 * 1 + (128 * h.val + d.val); omega

theorem at6 (q : Fin 4096) (h : Fin 32) (d : Fin 128) :
    val_main_v6 (F := Ideal) x0 (ix3 q h d) = x0 (ix2 q (gcol 2 h d)) := by
  have := q.isLt; have := h.isLt; have := d.isLt
  rw [val_main_v6_apply, val_main_v2_apply]
  refine congrArg x0 (ext2 ?_ ?_)
  · show ((q.val * 32 + h.val) * 128 + d.val) / 4096 = q.val; omega
  · show 8192 + ((q.val * 32 + h.val) * 128 + d.val) % 4096 = 4096 * 2 + (128 * h.val + d.val); omega

theorem at55 (q : Fin 4096) (h : Fin 32) (d : Fin 128) :
    val_main_v55 (F := Ideal) x1 (ix3 q h d) = x1 (ix2 q (col h d)) := by
  have := q.isLt; have := h.isLt; have := d.isLt
  rw [val_main_v55_apply]
  refine congrArg x1 (ext2 ?_ ?_)
  · show ((q.val * 32 + h.val) * 128 + d.val) / 4096 = q.val; omega
  · show ((q.val * 32 + h.val) * 128 + d.val) % 4096 = 128 * h.val + d.val; omega

variable {x0 x1 x2} (h0 : Real2 x0) (h1 : Real2 x1) (h2 : Real2 x2)
include h0

theorem real4 (q : Fin 4096) (h : Fin 32) (d : Fin 128) :
    val_main_v4 (F := Ideal) x0 (ix3 q h d) = ((Q x0 h q d : ℝ) : EReal) := (at4 x0 q h d).trans (h0 _).symm
theorem real5 (q : Fin 4096) (h : Fin 32) (d : Fin 128) :
    val_main_v5 (F := Ideal) x0 (ix3 q h d) = ((K x0 h q d : ℝ) : EReal) := (at5 x0 q h d).trans (h0 _).symm
theorem real6 (q : Fin 4096) (h : Fin 32) (d : Fin 128) :
    val_main_v6 (F := Ideal) x0 (ix3 q h d) = ((V x0 h q d : ℝ) : EReal) := (at6 x0 q h d).trans (h0 _).symm

theorem real8 (h : Fin 32) (q k : Fin 4096) :
    val_main_v8 (F := Ideal) x0 (ix3 h q k) = ((∑ d, Q x0 h q d * K x0 h k d : ℝ) : EReal) := by
  rw [val_main_v8_apply]
  refine sum_coe _ _ _ fun d => ?_
  rw [show lidx_main_v8 (ix3 h q k) d = ix3 q h d from ext3 rfl rfl rfl,
    show ridx_main_v8 (ix3 h q k) d = ix3 k h d from ext3 rfl rfl rfl, real4 h0, real5 h0, EReal.coe_mul]

omit h0 in
include h1 in
theorem real56 (h : Fin 32) (d : Fin 128) (q : Fin 4096) :
    val_main_v56 (F := Ideal) x1 (ix3 h d q) = ((DO x1 h q d : ℝ) : EReal) := by
  rw [val_main_v56_apply, show idx_main_v56 (ix3 h d q) = ix3 q h d from ext3 rfl rfl rfl, at55]
  exact (h1 _).symm

omit h0 in
include h2 in
theorem real15 (h : Fin 32) (q k : Fin 4096) :
    val_main_v15 (F := Ideal) x2 (ix3 h q k) = ((C x2 h q - C x2 h k : ℝ) : EReal) := by
  have e : ∀ q, val_main_v7 (F := Ideal) x2 (ix2 h q) = ((C x2 h q : ℝ) : EReal) := fun q => by
    rw [val_main_v7_apply, show idx_main_v7 (ix2 h q) = ix2 q h from ext2 rfl rfl]; exact (h2 _).symm
  rw [val_main_v15_apply, val_main_v13_apply, val_main_v14_apply, val_main_v11_apply, val_main_v12_apply,
    show idx_main_v11 (idx_main_v13 (ix3 h q k)) = ix2 h q from ext2 rfl rfl,
    show idx_main_v12 (idx_main_v14 (ix3 h q k)) = ix2 h k from ext2 rfl rfl, e, e, EReal.coe_sub]
  rfl

include h2

theorem real16 (h : Fin 32) (q k : Fin 4096) :
    val_main_v16 (F := Ideal) x0 x2 (ix3 h q k) = ((S x0 x2 h q k : ℝ) : EReal) := by
  rw [val_main_v16_apply, val_main_v10_apply, real8 h0, real15 h2, val_main_v9_apply]
  unfold S
  rw [EReal.coe_add, EReal.coe_mul, scale_coe]
  rfl

/-- The scores with the mask. -/
theorem real23 (h : Fin 32) (q k : Fin 4096) :
    val_main_v23_0 (F := Ideal) x0 x2 (ix3 h q k) = score (S x0 x2 h q) (sees q) k := by
  rw [val_main_v23_0_apply, real16 h0 h2, val_main_v23_1_apply, val_main_v22_apply, val_main_v20_apply, val_main_v21_apply,
    val_main_v18_apply, val_main_v19_apply, val_main_v17_apply, val_main_v17_apply]
  refine (select_sle k.val q.val k.isLt q.isLt _ _).trans ?_
  unfold score sees
  refine if_congr Iff.rfl rfl ?_
  exact lit_bot

/-- The largest score of a row. -/
def top (x0 : (⟨S4096x16384, .f32⟩ : BufTy).Contents (Elt Ideal)) (x2 : (⟨S4096x32, .f32⟩ : BufTy).Contents (Elt Ideal))
    (h : Fin 32) (q : Fin 4096) : ℝ := (val_main_v24 (F := Ideal) x0 x2 (ix2 h q)).toReal

/-- It is a real: the scores are reals or the bottom, and the score of a query with itself is a real. -/
theorem real24 (h : Fin 32) (q : Fin 4096) :
    val_main_v24 (F := Ideal) x0 x2 (ix2 h q) = ((top x0 x2 h q : ℝ) : EReal) := by
  refine (EReal.coe_toReal ?_ ?_).symm
  · refine (foldl_max_lt _ _ _ ⊤ ?_ fun n => ?_).ne
    · show Ideal.ofBits .f32 0xFF800000#32 < ⊤
      rw [lit_bot]; exact bot_lt_top
    · refine lt_of_eq_of_lt ((congrArg (val_main_v23_0 (F := Ideal) x0 x2) (eq_ix3 (S32x4096x4096.rowMajor.symm n))).trans
        (real23 h0 h2 _ _ _)) ?_
      unfold score; split
      · exact EReal.coe_lt_top _
      · exact bot_lt_top
  · refine ((EReal.bot_lt_coe (S x0 x2 h q q)).trans_le ?_).ne'
    have key := (le_foldl_max (fun n => val_main_v23_0 (F := Ideal) x0 x2 (S32x4096x4096.rowMajor.symm n))
      ((List.finRange S32x4096x4096.numel).filter fun n =>
        (Shape.ReducesTo.drop reducesTo_S32x4096x4096_S32x4096_d2 (S32x4096x4096.rowMajor.symm n)) = ix2 h q)
      (val_main_cst_1 (F := Ideal) (Shape.Idx.first h_S_))).2 (S32x4096x4096.rowMajor (ix3 h q q))
      (List.mem_filter.mpr ⟨List.mem_finRange _, decide_eq_true (by
        rw [Equiv.symm_apply_apply]
        exact ext2 rfl rfl)⟩)
    refine le_trans (le_of_eq ?_) key
    show _ = val_main_v23_0 (F := Ideal) x0 x2 (S32x4096x4096.rowMajor.symm (S32x4096x4096.rowMajor (ix3 h q q)))
    rw [Equiv.symm_apply_apply, real23 h0 h2]
    unfold score; rw [if_pos (show sees q q from Nat.le_refl _)]

theorem real44 (h : Fin 32) (q k : Fin 4096) :
    val_main_v44 (F := Ideal) x0 x2 (ix3 h q k)
      = ((weight (S x0 x2 h q) (sees q) k * Real.exp (-top x0 x2 h q) : ℝ) : EReal) := by
  rw [val_main_v44_apply, val_main_v43_apply, real23 h0 h2, val_main_v42_apply, val_main_v41_apply, val_main_v31_apply,
    show idx_main_v41 (idx_main_v42 (ix3 h q k)) = ix2 h q from ext2 rfl rfl, real24 h0 h2]
  have e : FloatOps.maximumf (F := Ideal) (φ := .f32) (val_main_v30 (F := Ideal) (ix2 h q)) ((top x0 x2 h q : ℝ) : EReal)
      = ((top x0 x2 h q : ℝ) : EReal) := by
    rw [val_main_v30_apply]
    show max (Ideal.ofBits .f32 0xFF800000#32) _ = _
    rw [lit_bot]; exact max_eq_right bot_le
  rw [e]
  exact exp_score_sub _ _ _ _

/-- The sum of a row's weights. -/
abbrev tot (x0 : (⟨S4096x16384, .f32⟩ : BufTy).Contents (Elt Ideal)) (x2 : (⟨S4096x32, .f32⟩ : BufTy).Contents (Elt Ideal))
    (h : Fin 32) (q : Fin 4096) : ℝ := total (S x0 x2 h q) (sees q) * Real.exp (-top x0 x2 h q)

omit h0 h2 in
theorem tot_ne (h : Fin 32) (q : Fin 4096) : tot x0 x2 h q ≠ 0 :=
  (mul_pos (total_pos _ _ (sees_self q)) (Real.exp_pos _)).ne'

theorem real45 (h : Fin 32) (q : Fin 4096) :
    val_main_v45 (F := Ideal) x0 x2 (ix2 h q) = ((tot x0 x2 h q : ℝ) : EReal) := by
  rw [val_main_v45_apply, sum_coe _ _ _ (fun k => by
    rw [show idx_main_v45 (ix2 h q) k = ix3 h q k from ext3 rfl rfl rfl]; exact real44 h0 h2 h q k)]
  show Ideal.ofBits .f32 0x00000000#32 + _ = _
  rw [lit_zero, ← EReal.coe_add, zero_add, ← Finset.sum_mul]
  rfl

theorem real46 (h : Fin 32) (q : Fin 4096) (u : Fin 1) :
    val_main_v46 (F := Ideal) x0 x2 (ix3 h q u) = ((tot x0 x2 h q : ℝ) : EReal) := by
  rw [val_main_v46_apply, show idx_main_v46 (ix3 h q u) = ix2 h q from ext2 rfl rfl, real45 h0 h2]

/-- The softmax. -/
theorem real48 (h : Fin 32) (q k : Fin 4096) :
    val_main_v48 (F := Ideal) x0 x2 (ix3 h q k) = ((P x0 x2 h q k : ℝ) : EReal) := by
  rw [val_main_v48_apply, real44 h0 h2, val_main_v47_apply, show idx_main_v47 (ix3 h q k) = ix3 h q 0 from ext3 rfl rfl rfl,
    real46 h0 h2]
  refine (div_coe_coe _ (tot_ne h q)).trans ?_
  rw [quot_eq_prob _ _ (sees_self q)]
  rfl

include h1

omit h2 in
theorem real57 (h : Fin 32) (q k : Fin 4096) :
    val_main_v57 (F := Ideal) x0 x1 (ix3 h q k) = ((DP x0 x1 h q k : ℝ) : EReal) := by
  rw [val_main_v57_apply]
  refine sum_coe _ _ _ fun d => ?_
  rw [show lidx_main_v57 (ix3 h q k) d = ix3 h d q from ext3 rfl rfl rfl,
    show ridx_main_v57 (ix3 h q k) d = ix3 k h d from ext3 rfl rfl rfl, real56 h1, real6 h0, EReal.coe_mul]

theorem real69 (h : Fin 32) (q k : Fin 4096) :
    val_main_v69 (F := Ideal) x0 x1 x2 (ix3 h q k)
      = ((-∑ l, DP x0 x1 h q l * (1 / (tot x0 x2 h q * tot x0 x2 h q))
          * (weight (S x0 x2 h q) (sees q) l * Real.exp (-top x0 x2 h q)) : ℝ) : EReal) := by
  have e62 : ∀ l, val_main_v62 (F := Ideal) x0 x1 x2 (ix3 h q l) = ((DP x0 x1 h q l * (1 / (tot x0 x2 h q * tot x0 x2 h q))
          * (weight (S x0 x2 h q) (sees q) l * Real.exp (-top x0 x2 h q)) : ℝ) : EReal) := fun l => by
    have e51 : val_main_v51 (F := Ideal) x0 x2 (ix3 h q 0) = ((1 / (tot x0 x2 h q * tot x0 x2 h q) : ℝ) : EReal) := by
      rw [val_main_v51_apply, val_main_v49_apply, real46 h0 h2, val_main_v50_apply]
      show Ideal.div (Ideal.ofBits .f32 0x3F800000#32) (((tot x0 x2 h q : ℝ) : EReal) * ((tot x0 x2 h q : ℝ) : EReal)) = _
      rw [lit_one, ← EReal.coe_mul]
      exact div_coe_coe _ (mul_ne_zero (tot_ne h q) (tot_ne h q))
    rw [val_main_v62_apply, val_main_v61_apply, real57 h0 h1, val_main_v60_apply,
      show idx_main_v60 (ix3 h q l) = ix3 h q 0 from ext3 rfl rfl rfl, e51, real44 h0 h2, EReal.coe_mul, EReal.coe_mul]
    rfl
  have e63 : val_main_v63 (F := Ideal) x0 x1 x2 (ix2 h q) = ((∑ l, DP x0 x1 h q l * (1 / (tot x0 x2 h q * tot x0 x2 h q))
          * (weight (S x0 x2 h q) (sees q) l * Real.exp (-top x0 x2 h q)) : ℝ) : EReal) := by
    rw [val_main_v63_apply, sum_coe _ _ _ (fun l => by
      rw [show idx_main_v63 (ix2 h q) l = ix3 h q l from ext3 rfl rfl rfl]; exact e62 l)]
    show Ideal.ofBits .f32 0x00000000#32 + _ = _
    rw [lit_zero, ← EReal.coe_add, zero_add]
  have := h.isLt; have := q.isLt
  rw [val_main_v69_apply, show idx_main_v69 (ix3 h q k) = ix2 h q from ext2 rfl rfl, val_main_v68_apply, Fin.sum_univ_one,
    val_main_v65_apply, val_main_v64_apply, show idx_main_v64 (idx_main_v68 (ix2 h q) 0) = ix2 h q from
      ext2 (by show ((h.val * 4096 + q.val) * 1 + 0) / 4096 = h.val; omega)
        (by show ((h.val * 4096 + q.val) * 1 + 0) % 4096 = q.val; omega), e63]
  show Ideal.ofBits .f32 0x00000000#32 + _ = _
  rw [lit_zero, EReal.coe_neg, EReal.coe_zero, zero_add]
  rfl

/-- The gradient of the scores. -/
theorem real72 (h : Fin 32) (q k : Fin 4096) :
    val_main_v72 (F := Ideal) x0 x1 x2 (ix3 h q k) = ((DS x0 x1 x2 h q k : ℝ) : EReal) := by
  rw [val_main_v72_apply, val_main_v23_1_apply, val_main_v22_apply, val_main_v20_apply, val_main_v21_apply,
    val_main_v18_apply, val_main_v19_apply, val_main_v17_apply, val_main_v17_apply]
  refine (select_sle k.val q.val k.isLt q.isLt _ _).trans ?_
  split
  · rw [val_main_v71_apply, val_main_v70_apply, val_main_v67_apply, real57 h0 h1, real69 h0 h1 h2, real44 h0 h2, val_main_v66_apply,
      show idx_main_v66 (ix3 h q k) = ix3 h q 0 from ext3 rfl rfl rfl, real46 h0 h2]
    show (Ideal.div _ _ + _) * _ = _
    rw [div_coe_coe _ (tot_ne h q), ← EReal.coe_add, ← EReal.coe_mul, quot_grad _ _ _ (sees_self q)]
    rfl
  · rename_i hk
    rw [show DS x0 x1 x2 h q k = 0 from grad_off _ _ _ hk]
    exact lit_zero

/-- The result for the keys. -/
theorem real87 (k : Fin 4096) (h : Fin 32) (d : Fin 128) :
    val_main_v87 (F := Ideal) x0 x1 x2 (ix2 k (col h d)) = ((DK x0 x1 x2 h k d : ℝ) : EReal) := by
  have := k.isLt; have := h.isLt; have := d.isLt
  rw [val_main_v87_apply, val_main_v86_apply, show idx_main_v86 (ix2 k (col h d)) = ix3 k h d from
      ext3 (by show (k.val * 4096 + (128 * h.val + d.val)) / 4096 = k.val; omega)
        (by show (k.val * 4096 + (128 * h.val + d.val)) / 128 % 32 = h.val; omega)
        (by show (k.val * 4096 + (128 * h.val + d.val)) % 128 = d.val; omega),
    val_main_v84_apply, show idx_main_v84 (ix3 k h d) = ix3 h k d from ext3 rfl rfl rfl]
  show val_main_v83 (F := Ideal) x0 x1 x2 (ix3 h k d) = _
  rw [val_main_v83_apply]
  unfold DK
  rw [Finset.sum_mul]
  refine sum_coe _ _ _ fun q => ?_
  rw [show lidx_main_v83 (ix3 h k d) q = ix3 h q k from ext3 rfl rfl rfl,
    show ridx_main_v83 (ix3 h k d) q = ix3 q h d from ext3 rfl rfl rfl, val_main_v82_apply, real72 h0 h1 h2, real4 h0,
    val_main_v81_apply, mul_right_comm, EReal.coe_mul, EReal.coe_mul, scale_coe]
  rfl

/-- The result for the values. -/
theorem real89 (k : Fin 4096) (h : Fin 32) (d : Fin 128) :
    val_main_v89 (F := Ideal) x0 x1 x2 (ix2 k (col h d)) = ((DV x0 x1 x2 h k d : ℝ) : EReal) := by
  have := k.isLt; have := h.isLt; have := d.isLt
  rw [val_main_v89_apply, val_main_v88_apply, show idx_main_v88 (ix2 k (col h d)) = ix3 k h d from
      ext3 (by show (k.val * 4096 + (128 * h.val + d.val)) / 4096 = k.val; omega)
        (by show (k.val * 4096 + (128 * h.val + d.val)) / 128 % 32 = h.val; omega)
        (by show (k.val * 4096 + (128 * h.val + d.val)) % 128 = d.val; omega),
    val_main_v59_apply, show idx_main_v59 (ix3 k h d) = ix3 h d k from ext3 rfl rfl rfl]
  show val_main_v58 (F := Ideal) x0 x1 x2 (ix3 h d k) = _
  rw [val_main_v58_apply]
  refine sum_coe _ _ _ fun q => ?_
  rw [show lidx_main_v58 (ix3 h d k) q = ix3 h d q from ext3 rfl rfl rfl,
    show ridx_main_v58 (ix3 h d k) q = ix3 h q k from ext3 rfl rfl rfl, real56 h1, real48 h0 h2, mul_comm (P _ _ _ _ _), EReal.coe_mul]

/-- The result for the running sums of the log forget gates. -/
theorem real91 (h : Fin 32) (u : Fin 1) (k : Fin 4096) :
    val_main_v91 (F := Ideal) x0 x1 x2 (ix3 h u k) = ((DC x0 x1 x2 h k : ℝ) : EReal) := by
  have := k.isLt; have := h.isLt; have := u.isLt
  have e78 : val_main_v78 (F := Ideal) x0 x1 x2 (ix2 h k) = ((∑ q, -DS x0 x1 x2 h q k : ℝ) : EReal) := by
    rw [val_main_v78_apply, Fin.sum_univ_one, val_main_v77_apply, show idx_main_v77 (idx_main_v78 (ix2 h k) 0) = ix2 h k from
      ext2 (by show ((h.val * 1 + 0) * 4096 + k.val) / 4096 = h.val; omega)
        (by show ((h.val * 1 + 0) * 4096 + k.val) % 4096 = k.val; omega), val_main_v76_apply, sum_coe _ _ _ (fun q => by
      rw [show idx_main_v76 (ix2 h k) q = ix3 h q k from ext3 rfl rfl rfl, val_main_v75_apply, real72 h0 h1 h2]
      exact (EReal.coe_neg _).symm)]
    show Ideal.ofBits .f32 0x00000000#32 + (Ideal.ofBits .f32 0x00000000#32 + _) = _
    rw [lit_zero, EReal.coe_zero, zero_add, zero_add]
  have e79 : val_main_v79 (F := Ideal) x0 x1 x2 (ix2 h k) = ((0 : ℝ) : EReal) := by
    rw [val_main_v79_apply, Fin.sum_univ_one, val_main_v74_apply, show idx_main_v74 (idx_main_v79 (ix2 h k) 0) = ix2 h k from
      ext2 (by show ((h.val * 4096 + k.val) * 1 + 0) / 4096 = h.val; omega)
        (by show ((h.val * 4096 + k.val) * 1 + 0) % 4096 = k.val; omega), val_main_v73_apply, sum_coe _ _ _ (fun l => by
      rw [show idx_main_v73 (ix2 h k) l = ix3 h k l from ext3 rfl rfl rfl]; exact real72 h0 h1 h2 h k l)]
    show Ideal.ofBits .f32 0x00000000#32 + (Ideal.ofBits .f32 0x00000000#32 + _) = _
    rw [lit_zero, show ∑ l, DS x0 x1 x2 h k l = 0 from sum_grad _ _ _ (sees_self k), EReal.coe_zero, zero_add, zero_add]
  rw [val_main_v91_apply, show idx_main_v91 (ix3 h u k) = ix2 h k from
      ext2 (by show ((h.val * 1 + u.val) * 4096 + k.val) / 4096 = h.val; omega)
        (by show ((h.val * 1 + u.val) * 4096 + k.val) % 4096 = k.val; omega), val_main_v90_apply, val_main_v85_apply,
    show idx_main_v85 (idx_main_v90 (ix2 h k)) = ix2 h k from ext2 rfl rfl, val_main_v80_apply, e78, e79]
  show _ + _ = _
  rw [EReal.coe_zero, add_zero, Finset.sum_neg_distrib]
  rfl

end Cert.ReferenceIdeal.RefValue

end

end
-- ==== Proof.HostVals.lean ====
/- What the host hands the kernel, as functions of the arguments: the row log-sums, the row products, and the running sums
   laid out by column and by row. -/
module

public import proofs.«01_k».proof.Proof.Gen.KernelIdeal.Frame.Runs
public import proofs.«01_k».proof.Proof.RefValue

@[expose] public section

set_option maxRecDepth 16384

noncomputable section

namespace Cert.KernelIdeal.HostVals

open Cert.KernelIdeal Cert.KernelIdeal.Gen Idealize.ShloMosaic Idealize.ShloMosaic.TcCoe Idealize.SL.Sem Idealize.ShloMosaic.ValueIdx
open Cert.Rows Cert.Scores Cert.ReferenceIdeal.RefValue

/-! ### The terms -/

section Terms
variable {F : FTy → Type} [FloatOps F]
variable (x0 : (⟨S4096x16384, .f32⟩ : BufTy).Contents (Elt F)) (x1 : (⟨S4096x4096, .f32⟩ : BufTy).Contents (Elt F))
  (x2 : (⟨S4096x32, .f32⟩ : BufTy).Contents (Elt F))

/-- A column of row values laid along the keys. -/
def wide (y : FVec F S32x4096x1 .f32) : FVec F S32x4096x4096 .f32 :=
  broadcastInDim S32x4096x4096 ![0, 1, 2] bcast_S32x4096x1_S32x4096x4096_0_1_2 y
/-- A row value per head and position as a column. -/
def tall (y : FVec F S32x4096 .f32) : FVec F S32x4096x1 .f32 :=
  broadcastInDim S32x4096x1 ![0, 1] bcast_S32x4096_S32x4096x1_0_1 y
/-- The sum over the keys. -/
def rowSum (y : FVec F S32x4096x4096 .f32) : FVec F S32x4096 .f32 :=
  Host.reduceAdd y (constant S_ .f32 0x00000000#32) reducesTo_S32x4096x4096_S32x4096_d2 h_S_

def scores : FVec F S32x4096x4096 .f32 := Cert.ReferenceIdeal.Read.val_main_v23_0 (F := F) x0 x2
def rowTop : FVec F S32x4096x1 .f32 := tall (Cert.ReferenceIdeal.Read.val_main_v24 (F := F) x0 x2)
def logSum : FVec F S32x4096x1 .f32 :=
  addf (rowTop x0 x2) (Host.log (tall (rowSum (Host.exp (subf (scores x0 x2) (wide (rowTop x0 x2)))))))
def pairs : FVec F S32x4096x4096 .f32 :=
  Host.dotGeneral dot_S4096x32x128_S4096x32x128_S32x4096x4096_2_2_0_0_1_1 none
    (Cert.ReferenceIdeal.Read.val_main_v55 (F := F) x1) (Cert.ReferenceIdeal.Read.val_main_v6 (F := F) x0)
def rowProd : FVec F S32x4096x1 .f32 :=
  tall (rowSum (mulf (Host.exp (subf (scores x0 x2) (wide (logSum x0 x2)))) (pairs x0 x1)))
def asCol : FVec F S32x4096x1 .f32 := tall (Cert.ReferenceIdeal.Read.val_main_v7 (F := F) x2)
def asRow : FVec F S32x1x4096 .f32 :=
  broadcastInDim S32x1x4096 ![0, 2] bcast_S32x4096_S32x1x4096_0_2 (Cert.ReferenceIdeal.Read.val_main_v7 (F := F) x2)

end Terms

/-! ### The arrays the region finds -/

section Arrays
variable {F : FTy → Type} [FloatOps F] (m : (ℓ : Loc nD τ sig) → Buf (Elt F) ℓ) (c : Dev nD)

abbrev A0 : (⟨S4096x16384, .f32⟩ : BufTy).Contents (Elt F) := m ((c : Thread nD τ).loc main_arg0)
abbrev A1 : (⟨S4096x4096, .f32⟩ : BufTy).Contents (Elt F) := m ((c : Thread nD τ).loc main_arg1)
abbrev A2 : (⟨S4096x32, .f32⟩ : BufTy).Contents (Elt F) := m ((c : Thread nD τ).loc main_arg2)

theorem V_v32 : V m c main_v32 = logSum (A0 m c) (A2 m c) := by
  show StableHlo.after (List.flatten [hostOps0, hostOps0_1, hostOps0_2]) (fun b => m (c, b)) (Proc.devRef .tc main_v32) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

theorem V_v40 : V m c main_v40 = rowProd (A0 m c) (A1 m c) (A2 m c) := by
  show StableHlo.after (List.flatten [hostOps0, hostOps0_1, hostOps0_2]) (fun b => m (c, b)) (Proc.devRef .tc main_v40) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

theorem V_v42 : V m c main_v42 = asCol (A2 m c) := by
  show StableHlo.after (List.flatten [hostOps0, hostOps0_1, hostOps0_2]) (fun b => m (c, b)) (Proc.devRef .tc main_v42) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

theorem V_v43 : V m c main_v43 = asRow (A2 m c) := by
  show StableHlo.after (List.flatten [hostOps0, hostOps0_1, hostOps0_2]) (fun b => m (c, b)) (Proc.devRef .tc main_v43) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

end Arrays

/-! ### Read at an index -/

section Read
variable {F : FTy → Type} [FloatOps F]

theorem wide_apply (y : FVec F S32x4096x1 .f32) (h : Fin 32) (q k : Fin 4096) : wide y (ix3 h q k) = y (ix3 h q 0) :=
  broadcastInDim_apply _ bcast_S32x4096x1_S32x4096x4096_0_1_2 y _ _ (fun a => match a with
    | ⟨0, _⟩ => by show h.val = if (32 : Nat) = 1 then 0 else h.val; rw [if_neg (by decide)]
    | ⟨1, _⟩ => by show q.val = if (4096 : Nat) = 1 then 0 else q.val; rw [if_neg (by decide)]
    | ⟨2, _⟩ => by show 0 = if (1 : Nat) = 1 then 0 else k.val; rw [if_pos rfl])

theorem tall_apply (y : FVec F S32x4096 .f32) (h : Fin 32) (q : Fin 4096) (u : Fin 1) : tall y (ix3 h q u) = y (ix2 h q) :=
  broadcastInDim_apply _ bcast_S32x4096_S32x4096x1_0_1 y _ _ (fun a => match a with
    | ⟨0, _⟩ => by show h.val = if (32 : Nat) = 1 then 0 else h.val; rw [if_neg (by decide)]
    | ⟨1, _⟩ => by show q.val = if (4096 : Nat) = 1 then 0 else q.val; rw [if_neg (by decide)])

theorem asRow_apply (x2 : (⟨S4096x32, .f32⟩ : BufTy).Contents (Elt F)) (h : Fin 32) (u : Fin 1) (k : Fin 4096) :
    asRow x2 (ix3 h u k) = x2 (ix2 k h) := by
  refine (broadcastInDim_apply _ bcast_S32x4096_S32x1x4096_0_2 (Cert.ReferenceIdeal.Read.val_main_v7 (F := F) x2) _ (ix2 h k) (fun a => match a with
    | ⟨0, _⟩ => by show h.val = if (32 : Nat) = 1 then 0 else h.val; rw [if_neg (by decide)]
    | ⟨1, _⟩ => by show k.val = if (4096 : Nat) = 1 then 0 else k.val; rw [if_neg (by decide)])).trans ?_
  rw [Cert.ReferenceIdeal.Read.val_main_v7_apply]
  exact congrArg x2 (ext2 rfl rfl)

theorem asCol_apply (x2 : (⟨S4096x32, .f32⟩ : BufTy).Contents (Elt F)) (h : Fin 32) (q : Fin 4096) (u : Fin 1) :
    asCol x2 (ix3 h q u) = x2 (ix2 q h) := by
  unfold asCol
  rw [tall_apply, Cert.ReferenceIdeal.Read.val_main_v7_apply]
  exact congrArg x2 (ext2 rfl rfl)

theorem rowSum_apply (y : FVec Ideal S32x4096x4096 .f32) (h : Fin 32) (q : Fin 4096) :
    rowSum y (ix2 h q) = ∑ k : Fin 4096, y (ix3 h q k) := by
  unfold rowSum
  simp only [Host.reduceAdd, Ideal.hostReduceAdd_def]
  rw [Ideal.hostReduceAdd_single reducesTo_S32x4096x4096_S32x4096_d2 (by decide)]
  show Ideal.ofBits .f32 0x00000000#32 + _ = _
  rw [lit_zero, EReal.coe_zero, zero_add]
  refine Finset.sum_congr rfl fun k _ => ?_
  exact congrArg y (funext fun a => Fin.ext (by match a with | ⟨0, _⟩ => rfl | ⟨1, _⟩ => rfl | ⟨2, _⟩ => rfl))

theorem pairs_apply (x0 : (⟨S4096x16384, .f32⟩ : BufTy).Contents (Elt Ideal)) (x1 : (⟨S4096x4096, .f32⟩ : BufTy).Contents (Elt Ideal))
    (h : Fin 32) (q k : Fin 4096) :
    pairs x0 x1 (ix3 h q k) = ∑ d : Fin 128, (x1 (ix2 q (col h d)) : EReal) * x0 (ix2 k (gcol 2 h d)) := by
  have e : ∀ y0 y1 : FVec Ideal S4096x32x128 .f32, Host.dotGeneral dot_S4096x32x128_S4096x32x128_S32x4096x4096_2_2_0_0_1_1 none y0 y1 (ix3 h q k)
      = ∑ d : Fin 128, (y0 (ix3 q h d) : EReal) * y1 (ix3 k h d) := fun y0 y1 => by
    simp only [Host.dotGeneral]
    rw [Ideal.dotGeneral_apply, ← Equiv.sum_comp (ValueIdx.contrEquiv1 dot_S4096x32x128_S4096x32x128_S32x4096x4096_2_2_0_0_1_1 128 rfl rfl).symm]
    refine Finset.sum_congr rfl fun d _ => ?_
    have hk := ValueIdx.contrEquiv1_symm_val dot_S4096x32x128_S4096x32x128_S32x4096x4096_2_2_0_0_1_1 128 rfl rfl d
    refine congrArg₂ (· * ·) (congrArg y0 (funext fun a => Fin.ext ?_)) (congrArg y1 (funext fun a => Fin.ext ?_))
    · match a with
      | ⟨0, _⟩ => rfl
      | ⟨1, _⟩ => rfl
      | ⟨2, _⟩ => exact hk
    · match a with
      | ⟨0, _⟩ => rfl
      | ⟨1, _⟩ => rfl
      | ⟨2, _⟩ => exact hk
  refine (e _ _).trans (Finset.sum_congr rfl fun d _ => ?_)
  rw [at55, at6]

end Read

/-! ### Over the reals -/

section Reals
variable {x0 : (⟨S4096x16384, .f32⟩ : BufTy).Contents (Elt Ideal)} {x1 : (⟨S4096x4096, .f32⟩ : BufTy).Contents (Elt Ideal)}
  {x2 : (⟨S4096x32, .f32⟩ : BufTy).Contents (Elt Ideal)} (h0 : Real2 x0) (h1 : Real2 x1) (h2 : Real2 x2)

omit h0 h2 in
theorem logSum_of (sc : FVec Ideal S32x4096x4096 .f32) (tp : FVec Ideal S32x4096x1 .f32) (h : Fin 32) (q : Fin 4096) (u : Fin 1)
    (s : Fin 4096 → ℝ) (b : Fin 4096 → Prop) [DecidablePred b] (m : ℝ)
    (hs : ∀ k, sc (ix3 h q k) = score s b k) (ht : ∀ u, tp (ix3 h q u) = (m : EReal)) :
    addf tp (Host.log (tall (rowSum (Host.exp (subf sc (wide tp)))))) (ix3 h q u)
      = (m : EReal) + Ideal.log ((total s b * Real.exp (-m) : ℝ) : EReal) := by
  have e2 : rowSum (Host.exp (subf sc (wide tp))) (ix2 h q) = ((total s b * Real.exp (-m) : ℝ) : EReal) := by
    rw [rowSum_apply]
    refine Eq.trans (Finset.sum_congr rfl fun k _ => ?_) (sum_exp_score_sub s b m)
    show Ideal.exp (sc (ix3 h q k) - wide tp (ix3 h q k)) = _
    rw [wide_apply, ht, hs]
  show tp (ix3 h q u) + Ideal.log (tall (rowSum (Host.exp (subf sc (wide tp)))) (ix3 h q u)) = _
  rw [ht, tall_apply, e2]

include h0 h2 in
/-- The row log-sum: the largest score and the logarithm of the sum of the weights above it. -/
theorem logSum_real (h : Fin 32) (q : Fin 4096) (u : Fin 1) :
    logSum x0 x2 (ix3 h q u)
      = ((top x0 x2 h q : ℝ) : EReal) + Ideal.log ((total (S x0 x2 h q) (sees q) * Real.exp (-top x0 x2 h q) : ℝ) : EReal) :=
  logSum_of (scores x0 x2) (rowTop x0 x2) h q u _ _ _ (real23 h0 h2 h q)
    (fun u => (tall_apply (Cert.ReferenceIdeal.Read.val_main_v24 x0 x2) h q u).trans (real24 h0 h2 h q))

include h0 h2 in
/-- A score less the row's log-sum, exponentiated, is the softmax. -/
theorem exp_score_sub_logSum (h : Fin 32) (q k : Fin 4096) (u : Fin 1) :
    Ideal.exp (score (S x0 x2 h q) (sees q) k - logSum x0 x2 (ix3 h q u)) = ((P x0 x2 h q k : ℝ) : EReal) := by
  rw [logSum_real h0 h2]
  exact exp_sub_log _ _ (sees_self q) _ _

include h0 h1 in
theorem pairs_real (h : Fin 32) (q k : Fin 4096) : pairs x0 x1 (ix3 h q k) = ((DP x0 x1 h q k : ℝ) : EReal) := by
  rw [pairs_apply]
  refine sum_coe _ _ _ fun d => ?_
  rw [EReal.coe_mul]
  exact congrArg₂ (· * ·) (h1 _).symm (h0 _).symm

omit h0 h1 h2 in
theorem rowProd_of (sc pr : FVec Ideal S32x4096x4096 .f32) (ls : FVec Ideal S32x4096x1 .f32) (h : Fin 32) (q : Fin 4096) (u : Fin 1)
    (p dp : Fin 4096 → ℝ) (hp : ∀ k, Ideal.exp (sc (ix3 h q k) - ls (ix3 h q 0)) = (p k : EReal))
    (hd : ∀ k, pr (ix3 h q k) = (dp k : EReal)) :
    tall (rowSum (mulf (Host.exp (subf sc (wide ls))) pr)) (ix3 h q u) = ((∑ k, p k * dp k : ℝ) : EReal) := by
  rw [tall_apply, rowSum_apply]
  refine sum_coe _ _ _ fun k => ?_
  show Ideal.exp (sc (ix3 h q k) - wide ls (ix3 h q k)) * pr (ix3 h q k) = _
  rw [wide_apply, hp, hd, EReal.coe_mul]

include h0 h1 h2 in
/-- The row product: the softmax with its gradients, along the keys. -/
theorem rowProd_real (h : Fin 32) (q : Fin 4096) (u : Fin 1) :
    rowProd x0 x1 x2 (ix3 h q u) = ((∑ k, P x0 x2 h q k * DP x0 x1 h q k : ℝ) : EReal) :=
  rowProd_of (scores x0 x2) (pairs x0 x1) (logSum x0 x2) h q u _ _
    (fun k => (congrArg (fun z => Ideal.exp (z - logSum x0 x2 (ix3 h q 0))) (show scores x0 x2 (ix3 h q k) = _ from real23 h0 h2 h q k)).trans
      (exp_score_sub_logSum h0 h2 h q k 0)) (pairs_real h0 h1 h q)

end Reals

end Cert.KernelIdeal.HostVals

end

end
-- ==== Proof.Upto.lean ====
/- Sums over the positions, tile by tile. -/
module

public import proofs.«01_k».proof.Proof.Scores

@[expose] public section

noncomputable section

namespace Cert.Upto

open Idealize.ShloMosaic

/-- Position `a` of tile `i`. -/
def pos (i : Fin 4) (a : Fin 1024) : Fin 4096 := ⟨1024 * i.val + a.val, by have := i.isLt; have := a.isLt; omega⟩

/-- Every position is one of a tile. -/
theorem eq_pos (q : Fin 4096) : ∃ i a, q = pos i a :=
  ⟨⟨q.val / 1024, by have := q.isLt; omega⟩, ⟨q.val % 1024, Nat.mod_lt _ (by decide)⟩, Fin.ext (by show q.val = 1024 * (q.val / 1024) + q.val % 1024; omega)⟩

/-- The sum over one tile. -/
def tile (f : Fin 4096 → ℝ) (i : Fin 4) : ℝ := ∑ a, f (pos i a)

/-- The sum over the first `n` tiles. -/
def upto (f : Fin 4096 → ℝ) (n : ℕ) : ℝ := ∑ i ∈ Finset.range n, if h : i < 4 then tile f ⟨i, h⟩ else 0

theorem upto_zero (f : Fin 4096 → ℝ) : upto f 0 = 0 := by simp [upto]

theorem upto_succ (f : Fin 4096 → ℝ) (n : ℕ) (h : n < 4) : upto f (n + 1) = upto f n + tile f ⟨n, h⟩ := by
  unfold upto; rw [Finset.sum_range_succ, dif_pos h]

theorem upto_four (f : Fin 4096 → ℝ) : upto f 4 = ∑ q, f q := by
  have e : ∑ q, f q = ∑ x : Fin 4 × Fin 1024, f (pos x.1 x.2) :=
    (Fintype.sum_equiv (finProdFinEquiv (m := 4) (n := 1024)) _ _ fun x => congrArg f (Fin.ext (by
      show 1024 * x.1.val + x.2.val = x.2.val + 1024 * x.1.val
      omega))).symm
  rw [e, Fintype.sum_prod_type, upto, Finset.sum_range]
  exact Finset.sum_congr rfl fun i _ => dif_pos i.isLt

theorem tile_zero (f : Fin 4096 → ℝ) (i : Fin 4) (h : ∀ a, f (pos i a) = 0) : tile f i = 0 :=
  Finset.sum_eq_zero fun a _ => h a

end Cert.Upto

end

end
-- ==== Proof.Blocks.lean ====
/- Where the blocks a grid point reads lie in the arrays. -/
module

public import proofs.«01_k».proof.Proof.HostVals
public import proofs.«01_k».proof.Proof.Upto
public import Idealize.ShloMosaic.Lib.Pipeline.Value

@[expose] public section

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Cert.Scores Cert.Upto Cert.KernelIdeal.HostVals

variable {F : FTy → Type} [FloatOps F] (m : (ℓ : Loc nD τ sig) → Buf (Elt F) ℓ) (c : Dev nD)

/-! ### The point's head, key tile and query tile -/

def hd (t : Fin cfg0.N) : Fin 32 := ⟨t.val / 16, by have := lt_of_lt_of_eq t.isLt (show cfg0.N = 512 from N_0); omega⟩
def kt (t : Fin cfg0.N) : Fin 4 := ⟨t.val / 4 % 4, Nat.mod_lt _ (by decide)⟩
def qt (t : Fin cfg0.N) : Fin 4 := ⟨t.val % 4, Nat.mod_lt _ (by decide)⟩

/-- The query tile the point's blocks hold: its own, or the first that sees the key tile. -/
def mt (t : Fin cfg0.N) : Fin 4 := ⟨max (t.val % 4) (t.val / 4 % 4), max_lt (Nat.mod_lt _ (by decide)) (Nat.mod_lt _ (by decide))⟩

theorem idx0 : ∀ t : Fin grid0.N, win0_0.index t 0 = max (t.val % 4) (t.val / 4 % 4) ∧ win0_0.index t 1 = t.val / 16 := by decide +kernel
theorem idx1 : ∀ t : Fin grid0.N, win0_1.index t 0 = t.val / 4 % 4 ∧ win0_1.index t 1 = 32 + t.val / 16 := by decide +kernel
theorem idx2 : ∀ t : Fin grid0.N, win0_2.index t 0 = t.val / 4 % 4 ∧ win0_2.index t 1 = 64 + t.val / 16 := by decide +kernel
theorem idx3 : ∀ t : Fin grid0.N, win0_3.index t 0 = max (t.val % 4) (t.val / 4 % 4) ∧ win0_3.index t 1 = t.val / 16 := by decide +kernel
theorem idx4 : ∀ t : Fin grid0.N, win0_4.index t 0 = t.val / 16 ∧ win0_4.index t 1 = max (t.val % 4) (t.val / 4 % 4) ∧ win0_4.index t 2 = 0 := by decide +kernel
theorem idx5 : ∀ t : Fin grid0.N, win0_5.index t 0 = t.val / 16 ∧ win0_5.index t 1 = max (t.val % 4) (t.val / 4 % 4) ∧ win0_5.index t 2 = 0 := by decide +kernel
theorem idx6 : ∀ t : Fin grid0.N, win0_6.index t 0 = t.val / 16 ∧ win0_6.index t 1 = max (t.val % 4) (t.val / 4 % 4) ∧ win0_6.index t 2 = 0 := by decide +kernel
theorem idx7 : ∀ t : Fin grid0.N, win0_7.index t 0 = t.val / 16 ∧ win0_7.index t 1 = 0 ∧ win0_7.index t 2 = t.val / 4 % 4 := by decide +kernel

theorem blk0 (t : Fin cfg0.N) (a : Fin 1024) (d : Fin 128) :
    (iblk m c 0 t : Vec F S1024x128 .f32) (ix2 a d) = A0 m c (ix2 (pos (mt t) a) (gcol 0 (hd t) d)) := by
  unfold iblk
  rw [View.read_apply]
  show V m c main_arg0 _ = _
  rw [V_main_arg0 m c]
  refine congrArg (A0 m c) (ext2 ?_ ?_)
  · show win0_0.index t 0 * 1024 + 1 * a.val = 1024 * max (t.val % 4) (t.val / 4 % 4) + a.val
    rw [(idx0 t).1]; omega
  · show win0_0.index t 1 * 128 + 1 * d.val = 4096 * 0 + (128 * (t.val / 16) + d.val)
    rw [(idx0 t).2]; omega

theorem blk1 (t : Fin cfg0.N) (a : Fin 1024) (d : Fin 128) :
    (iblk m c 1 t : Vec F S1024x128 .f32) (ix2 a d) = A0 m c (ix2 (pos (kt t) a) (gcol 1 (hd t) d)) := by
  unfold iblk
  rw [View.read_apply]
  show V m c main_arg0 _ = _
  rw [V_main_arg0 m c]
  refine congrArg (A0 m c) (ext2 ?_ ?_)
  · show win0_1.index t 0 * 1024 + 1 * a.val = 1024 * (t.val / 4 % 4) + a.val
    rw [(idx1 t).1]; omega
  · show win0_1.index t 1 * 128 + 1 * d.val = 4096 * 1 + (128 * (t.val / 16) + d.val)
    rw [(idx1 t).2]; omega

theorem blk2 (t : Fin cfg0.N) (a : Fin 1024) (d : Fin 128) :
    (iblk m c 2 t : Vec F S1024x128 .f32) (ix2 a d) = A0 m c (ix2 (pos (kt t) a) (gcol 2 (hd t) d)) := by
  unfold iblk
  rw [View.read_apply]
  show V m c main_arg0 _ = _
  rw [V_main_arg0 m c]
  refine congrArg (A0 m c) (ext2 ?_ ?_)
  · show win0_2.index t 0 * 1024 + 1 * a.val = 1024 * (t.val / 4 % 4) + a.val
    rw [(idx2 t).1]; omega
  · show win0_2.index t 1 * 128 + 1 * d.val = 4096 * 2 + (128 * (t.val / 16) + d.val)
    rw [(idx2 t).2]; omega

theorem blk3 (t : Fin cfg0.N) (a : Fin 1024) (d : Fin 128) :
    (iblk m c 3 t : Vec F S1024x128 .f32) (ix2 a d) = A1 m c (ix2 (pos (mt t) a) (col (hd t) d)) := by
  unfold iblk
  rw [View.read_apply]
  show V m c main_arg1 _ = _
  rw [V_main_arg1 m c]
  refine congrArg (A1 m c) (ext2 ?_ ?_)
  · show win0_3.index t 0 * 1024 + 1 * a.val = 1024 * max (t.val % 4) (t.val / 4 % 4) + a.val
    rw [(idx3 t).1]; omega
  · show win0_3.index t 1 * 128 + 1 * d.val = 128 * (t.val / 16) + d.val
    rw [(idx3 t).2]; omega

theorem blk4 (t : Fin cfg0.N) (a : Fin 1024) :
    (iblk m c 4 t : Vec F S1x1024x1 .f32) (ix3 0 a 0) = logSum (A0 m c) (A2 m c) (ix3 (hd t) (pos (mt t) a) 0) := by
  unfold iblk
  rw [View.read_apply]
  show V m c main_v32 _ = _
  rw [V_v32]
  refine congrArg (logSum (A0 m c) (A2 m c)) (ext3 ?_ ?_ ?_)
  · show win0_4.index t 0 * 1 + 1 * 0 = t.val / 16
    rw [(idx4 t).1]; omega
  · show win0_4.index t 1 * 1024 + 1 * a.val = 1024 * max (t.val % 4) (t.val / 4 % 4) + a.val
    rw [(idx4 t).2.1]; omega
  · show win0_4.index t 2 * 1 + 1 * 0 = 0
    rw [(idx4 t).2.2]

theorem blk5 (t : Fin cfg0.N) (a : Fin 1024) :
    (iblk m c 5 t : Vec F S1x1024x1 .f32) (ix3 0 a 0) = rowProd (A0 m c) (A1 m c) (A2 m c) (ix3 (hd t) (pos (mt t) a) 0) := by
  unfold iblk
  rw [View.read_apply]
  show V m c main_v40 _ = _
  rw [V_v40]
  refine congrArg (rowProd (A0 m c) (A1 m c) (A2 m c)) (ext3 ?_ ?_ ?_)
  · show win0_5.index t 0 * 1 + 1 * 0 = t.val / 16
    rw [(idx5 t).1]; omega
  · show win0_5.index t 1 * 1024 + 1 * a.val = 1024 * max (t.val % 4) (t.val / 4 % 4) + a.val
    rw [(idx5 t).2.1]; omega
  · show win0_5.index t 2 * 1 + 1 * 0 = 0
    rw [(idx5 t).2.2]

theorem blk6 (t : Fin cfg0.N) (a : Fin 1024) :
    (iblk m c 6 t : Vec F S1x1024x1 .f32) (ix3 0 a 0) = asCol (A2 m c) (ix3 (hd t) (pos (mt t) a) 0) := by
  unfold iblk
  rw [View.read_apply]
  show V m c main_v42 _ = _
  rw [V_v42]
  refine congrArg (asCol (A2 m c)) (ext3 ?_ ?_ ?_)
  · show win0_6.index t 0 * 1 + 1 * 0 = t.val / 16
    rw [(idx6 t).1]; omega
  · show win0_6.index t 1 * 1024 + 1 * a.val = 1024 * max (t.val % 4) (t.val / 4 % 4) + a.val
    rw [(idx6 t).2.1]; omega
  · show win0_6.index t 2 * 1 + 1 * 0 = 0
    rw [(idx6 t).2.2]

theorem blk7 (t : Fin cfg0.N) (r : Fin 1024) :
    (iblk m c 7 t : Vec F S1x1x1024 .f32) (ix3 0 0 r) = asRow (A2 m c) (ix3 (hd t) 0 (pos (kt t) r)) := by
  unfold iblk
  rw [View.read_apply]
  show V m c main_v43 _ = _
  rw [V_v43]
  refine congrArg (asRow (A2 m c)) (ext3 ?_ ?_ ?_)
  · show win0_7.index t 0 * 1 + 1 * 0 = t.val / 16
    rw [(idx7 t).1]; omega
  · show win0_7.index t 1 * 1 + 1 * 0 = 0
    rw [(idx7 t).2.1]
  · show win0_7.index t 2 * 1024 + 1 * r.val = 1024 * (t.val / 4 % 4) + r.val
    rw [(idx7 t).2.2]; omega

end Cert.KernelIdeal.Blocks

end

end
-- ==== Proof.Body.lean ====
/- What each case of the kernel's body leaves in the running sums and in the outputs, as terms over the blocks it reads. -/
module

public import proofs.«01_k».proof.Proof.Gen.KernelIdeal.Frame
public import Idealize.ShloMosaic.Lib.Pipeline.Value
public import Idealize.ShloMosaic.Lib.Tactic

@[expose] public section

set_option maxRecDepth 16384
set_option synthInstance.maxSize 4096

noncomputable section

namespace Cert.KernelIdeal.BodyValue

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1024x128 .f32) (harg3 : arg3.IsWhole)
  (arg4 : Memref sig .tc .vmem S1024x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1x1024x1 .f32) (harg8 : arg8.IsWhole)
  (arg9 : Memref sig .tc .vmem S1x1024x1 .f32) (harg9 : arg9.IsWhole)
  (arg10 : Memref sig .tc .vmem S1x1x1024 .f32) (harg10 : arg10.IsWhole)
  (arg11 : Memref sig .tc .vmem S1024x128 .bf16) (harg11 : arg11.IsWhole)
  (arg12 : Memref sig .tc .vmem S1024x128 .bf16) (harg12 : arg12.IsWhole)
  (arg13 : Memref sig .tc .vmem S1x1x1024 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1x1024 .f32) (harg16 : arg16.IsWhole)

variable (x0 : Vec F S1024x128 .f32) (x1 : Vec F S1024x128 .f32) (x2 : Vec F S1024x128 .f32) (x3 : Vec F S1024x128 .f32) (x4 : Vec F S1x1024x1 .f32) (x5 : Vec F S1x1024x1 .f32) (x6 : Vec F S1x1024x1 .f32) (x7 : Vec F S1x1x1024 .f32)
  (xs0 : Vec F S1024x128 .f32) (xs1 : Vec F S1024x128 .f32) (xs2 : Vec F S1x1024 .f32)

theorem sout0_A_0_eq (hc0 : cond0_0 i) (hc1 : ¬cond0_1 i) (hc2 : cond0_2 i) (hc3 : ¬cond0_3 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7
      = k0_pay8 (k0_pay17 x0 x1 x6 x7 x4) (k0_pay18 x3) x2 x5 (k0_pay1 (F := F)) x0 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_A
  dsimp only
  try sl_unfold_words
  rw [View.canon_cons_unit_zero (S := S1024x128) hz, View.readCov_unit_zero (S := S1024x128) _ hz]
  simp only [View.readAt_eq_ld, harg3.read_unread, harg4.read_unread, harg5.read_unread, harg6.read_unread, harg7.read_unread, harg8.read_unread, harg9.read_unread, harg10.read_unread, View.ld_unit_zero (S := S1024x128) hz, View.ld_unit_zero (S := S1x1024) hz, View.ld_unit_zero (S := S1x1024x1) hz3, View.ld_unit_zero (S := S1x1x1024) hz3]

theorem sout0_A_1_eq (hc0 : cond0_0 i) (hc1 : ¬cond0_1 i) (hc2 : cond0_2 i) (hc3 : ¬cond0_3 i) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7
      = k0_pay19 x0 x1 x6 x7 x4 x3 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_A
  dsimp only
  try sl_unfold_words
  rw [View.canon_cons_unit_zero (S := S1024x128) hz, View.readCov_unit_zero (S := S1024x128) _ hz]
  simp only [View.readAt_eq_ld, harg3.read_unread, harg4.read_unread, harg5.read_unread, harg6.read_unread, harg7.read_unread, harg8.read_unread, harg9.read_unread, harg10.read_unread, View.ld_unit_zero (S := S1024x128) hz, View.ld_unit_zero (S := S1x1024) hz, View.ld_unit_zero (S := S1x1024x1) hz3, View.ld_unit_zero (S := S1x1x1024) hz3]

theorem sout0_A_2_eq (hc0 : cond0_0 i) (hc1 : ¬cond0_1 i) (hc2 : cond0_2 i) (hc3 : ¬cond0_3 i) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7
      = k0_pay9 (k0_pay17 x0 x1 x6 x7 x4) (k0_pay18 x3) x2 x5 (k0_pay3 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_A
  dsimp only
  try sl_unfold_words
  rw [View.canon_cons_unit_zero (S := S1x1024) hz, View.readCov_unit_zero (S := S1x1024) _ hz]
  simp only [View.readAt_eq_ld, harg3.read_unread, harg4.read_unread, harg5.read_unread, harg6.read_unread, harg7.read_unread, harg8.read_unread, harg9.read_unread, harg10.read_unread, View.ld_unit_zero (S := S1024x128) hz, View.ld_unit_zero (S := S1x1024) hz, View.ld_unit_zero (S := S1x1024x1) hz3, View.ld_unit_zero (S := S1x1x1024) hz3]

theorem sout0_B_0_eq (hc0 : ¬cond0_0 i) (hc1 : cond0_1 i) (hc2 : ¬cond0_2 i) (hc3 : ¬cond0_3 i) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay5 (k0_pay13 x0 x1 x6 x7 x4) (k0_pay16 x3 x2) x5 xs0 x0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_B
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_B_1_eq (hc0 : ¬cond0_0 i) (hc1 : cond0_1 i) (hc2 : ¬cond0_2 i) (hc3 : ¬cond0_3 i) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay15 x0 x1 x6 x7 x4 x3 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_B
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_B_2_eq (hc0 : ¬cond0_0 i) (hc1 : cond0_1 i) (hc2 : ¬cond0_2 i) (hc3 : ¬cond0_3 i) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay6 (k0_pay13 x0 x1 x6 x7 x4) (k0_pay16 x3 x2) x5 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_B
  dsimp only
  try sl_unfold_words
  rw [View.canon_unit_zero (S := S1x1024) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_C_0_eq (hc0 : ¬cond0_0 i) (hc1 : cond0_1 i) (hc2 : ¬cond0_2 i) (hc3 : cond0_3 i) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay5 (k0_pay13 x0 x1 x6 x7 x4) (k0_pay16 x3 x2) x5 xs0 x0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_C
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_C_1_eq (hc0 : ¬cond0_0 i) (hc1 : cond0_1 i) (hc2 : ¬cond0_2 i) (hc3 : cond0_3 i) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay15 x0 x1 x6 x7 x4 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_C
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_C_2_eq (hc0 : ¬cond0_0 i) (hc1 : cond0_1 i) (hc2 : ¬cond0_2 i) (hc3 : cond0_3 i) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay6 (k0_pay13 x0 x1 x6 x7 x4) (k0_pay16 x3 x2) x5 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_C
  dsimp only
  try sl_unfold_words
  rw [View.canon_unit_zero (S := S1x1024) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem out0_C_8_eq (hc0 : ¬cond0_0 i) (hc1 : cond0_1 i) (hc2 : ¬cond0_2 i) (hc3 : cond0_3 i) :
    out0_C_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay10 (k0_pay5 (k0_pay13 x0 x1 x6 x7 x4) (k0_pay16 x3 x2) x5 xs0 x0) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_C
  dsimp only
  try sl_unfold_words
  rw [View.canon_unit_zero (S := S1024x128) hz]
  rw [View.readCov_unit_zero (S := S1024x128) _ hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem out0_C_9_eq (hc0 : ¬cond0_0 i) (hc1 : cond0_1 i) (hc2 : ¬cond0_2 i) (hc3 : cond0_3 i) :
    out0_C_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay11 (k0_pay15 x0 x1 x6 x7 x4 x3 xs1) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_C
  dsimp only
  try sl_unfold_words
  rw [View.canon_unit_zero (S := S1024x128) hz]
  rw [View.readCov_unit_zero (S := S1024x128) _ hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem out0_C_10_eq (hc0 : ¬cond0_0 i) (hc1 : cond0_1 i) (hc2 : ¬cond0_2 i) (hc3 : cond0_3 i) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay12 (k0_pay6 (k0_pay13 x0 x1 x6 x7 x4) (k0_pay16 x3 x2) x5 xs2) := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_C
  dsimp only
  try sl_unfold_words
  rw [View.canon_unit_zero (S := S1x1x1024) hz3]
  rw [View.readCov_unit_zero (S := S1x1024) _ hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_D_0_eq (hc0 : cond0_0 i) (hc1 : ¬cond0_1 i) (hc2 : ¬cond0_2 i) (hc3 : ¬cond0_3 i) :
    sout0_D_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7
      = k0_pay1 := by
  unfold sout0_D_0
  rw [View.read_writes_eq_canon _ _ _ (scover0_D_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_D
  dsimp only
  try sl_unfold_words
  rw [View.canon_unit_zero (S := S1024x128) hz]

theorem sout0_D_1_eq (hc0 : cond0_0 i) (hc1 : ¬cond0_1 i) (hc2 : ¬cond0_2 i) (hc3 : ¬cond0_3 i) :
    sout0_D_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7
      = k0_pay2 := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_D
  dsimp only
  try sl_unfold_words
  rw [View.canon_unit_zero (S := S1024x128) hz]

theorem sout0_D_2_eq (hc0 : cond0_0 i) (hc1 : ¬cond0_1 i) (hc2 : ¬cond0_2 i) (hc3 : ¬cond0_3 i) :
    sout0_D_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7
      = k0_pay3 := by
  unfold sout0_D_2
  rw [View.read_writes_eq_canon _ _ _ (scover0_D_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_D
  dsimp only
  try sl_unfold_words
  rw [View.canon_unit_zero (S := S1x1024) hz]

theorem sout0_E_0_eq (hc0 : ¬cond0_0 i) (hc1 : ¬cond0_1 i) (hc2 : cond0_2 i) (hc3 : ¬cond0_3 i) :
    sout0_E_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay8 (k0_pay17 x0 x1 x6 x7 x4) (k0_pay18 x3) x2 x5 xs0 x0 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_E
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_E_1_eq (hc0 : ¬cond0_0 i) (hc1 : ¬cond0_1 i) (hc2 : cond0_2 i) (hc3 : ¬cond0_3 i) :
    sout0_E_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay19 x0 x1 x6 x7 x4 x3 xs1 := by
  unfold sout0_E_1
  rw [View.read_writes_eq_canon _ _ _ (scover0_E_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_E
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_E_2_eq (hc0 : ¬cond0_0 i) (hc1 : ¬cond0_1 i) (hc2 : cond0_2 i) (hc3 : ¬cond0_3 i) :
    sout0_E_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay9 (k0_pay17 x0 x1 x6 x7 x4) (k0_pay18 x3) x2 x5 xs2 := by
  unfold sout0_E_2
  rw [View.read_writes_eq_canon _ _ _ (scover0_E_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_E
  dsimp only
  try sl_unfold_words
  rw [View.canon_unit_zero (S := S1x1024) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_G_0_eq (hc0 : ¬cond0_0 i) (hc1 : ¬cond0_1 i) (hc2 : cond0_2 i) (hc3 : cond0_3 i) :
    sout0_G_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay8 (k0_pay17 x0 x1 x6 x7 x4) (k0_pay18 x3) x2 x5 xs0 x0 := by
  unfold sout0_G_0
  rw [View.read_writes_eq_canon _ _ _ (scover0_G_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_G
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_G_1_eq (hc0 : ¬cond0_0 i) (hc1 : ¬cond0_1 i) (hc2 : cond0_2 i) (hc3 : cond0_3 i) :
    sout0_G_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay19 x0 x1 x6 x7 x4 x3 xs1 := by
  unfold sout0_G_1
  rw [View.read_writes_eq_canon _ _ _ (scover0_G_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_G
  dsimp only
  try sl_unfold_words
  rw [View.canon_unit_zero (S := S1024x128) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem sout0_G_2_eq (hc0 : ¬cond0_0 i) (hc1 : ¬cond0_1 i) (hc2 : cond0_2 i) (hc3 : cond0_3 i) :
    sout0_G_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay9 (k0_pay17 x0 x1 x6 x7 x4) (k0_pay18 x3) x2 x5 xs2 := by
  unfold sout0_G_2
  rw [View.read_writes_eq_canon _ _ _ (scover0_G_2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_G
  dsimp only
  try sl_unfold_words
  rw [View.canon_unit_zero (S := S1x1024) hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem out0_G_8_eq (hc0 : ¬cond0_0 i) (hc1 : ¬cond0_1 i) (hc2 : cond0_2 i) (hc3 : cond0_3 i) :
    out0_G_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay10 (k0_pay8 (k0_pay17 x0 x1 x6 x7 x4) (k0_pay18 x3) x2 x5 xs0 x0) := by
  unfold out0_G_8
  rw [View.read_writes_eq_canon _ _ _ (cover0_G_8 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_G
  dsimp only
  try sl_unfold_words
  rw [View.canon_unit_zero (S := S1024x128) hz]
  rw [View.readCov_unit_zero (S := S1024x128) _ hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem out0_G_9_eq (hc0 : ¬cond0_0 i) (hc1 : ¬cond0_1 i) (hc2 : cond0_2 i) (hc3 : cond0_3 i) :
    out0_G_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay11 (k0_pay19 x0 x1 x6 x7 x4 x3 xs1) := by
  unfold out0_G_9
  rw [View.read_writes_eq_canon _ _ _ (cover0_G_9 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_G
  dsimp only
  try sl_unfold_words
  rw [View.canon_unit_zero (S := S1024x128) hz]
  rw [View.readCov_unit_zero (S := S1024x128) _ hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

theorem out0_G_10_eq (hc0 : ¬cond0_0 i) (hc1 : ¬cond0_1 i) (hc2 : cond0_2 i) (hc3 : cond0_3 i) :
    out0_G_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2
      = k0_pay12 (k0_pay9 (k0_pay17 x0 x1 x6 x7 x4) (k0_pay18 x3) x2 x5 xs2) := by
  unfold out0_G_10
  rw [View.read_writes_eq_canon _ _ _ (cover0_G_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 xs2)]
  unfold kernelRun0_G
  dsimp only
  try sl_unfold_words
  rw [View.canon_unit_zero (S := S1x1x1024) hz3]
  rw [View.readCov_unit_zero (S := S1x1024) _ hz]
  simp only [View.readAt_eq_ld, harg3.read_unread, harg4.read_unread, harg5.read_unread, harg6.read_unread, harg7.read_unread, harg8.read_unread, harg9.read_unread, harg10.read_unread, harg14.read_unread, harg15.read_unread, harg16.read_unread, View.ld_unit_zero (S := S1024x128) hz, View.ld_unit_zero (S := S1x1024) hz, View.ld_unit_zero (S := S1x1024x1) hz3, View.ld_unit_zero (S := S1x1x1024) hz3]

end Cert.KernelIdeal.BodyValue

end
-- ==== Proof.Tile.lean ====
/- A tile's operations read at an index: the casts between a block and its tile, the broadcasts of a column and of a row, the
   products of two tiles and the sum over a tile's rows. -/
module

public import proofs.«01_k».proof.Proof.Scores
public import Idealize.ShloMosaic.Lib.Pipeline.Value
public import Idealize.ShloMosaic.PureOps.Ideal.Laws

@[expose] public section

noncomputable section

namespace Cert.Tile

open Idealize.ShloMosaic Idealize.ShloMosaic.ValueIdx Cert.Rows Cert.Scores

section Casts
variable {α : Type} {n m : Nat}

theorem cast_col (x : (⟨3, ![1, n, 1]⟩ : Shape).Idx → α) (h : (⟨3, ![1, n, 1]⟩ : Shape).ShapeCasts ⟨2, ![n, 1]⟩) (a : Fin n) (u : Fin 1) :
    shapeCast ⟨2, ![n, 1]⟩ x h (ix2 a u) = x (ix3 0 a 0) :=
  shapeCast_apply x h _ _ (by
    rw [Shape.rowMajor_val_three, Shape.rowMajor_val_two]
    show ((0 : ℕ) * n + a.val) * 1 + 0 = a.val * 1 + u.val
    have := u.isLt; omega)

theorem cast_row (x : (⟨3, ![1, 1, n]⟩ : Shape).Idx → α) (h : (⟨3, ![1, 1, n]⟩ : Shape).ShapeCasts ⟨2, ![1, n]⟩) (a : Fin n) (u : Fin 1) :
    shapeCast ⟨2, ![1, n]⟩ x h (ix2 u a) = x (ix3 0 0 a) :=
  shapeCast_apply x h _ _ (by
    rw [Shape.rowMajor_val_three, Shape.rowMajor_val_two]
    show ((0 : ℕ) * 1 + 0) * n + a.val = u.val * n + a.val
    have hu : u.val = 0 := by have := u.isLt; omega
    rw [hu])

theorem cast_out (x : (⟨2, ![1, n]⟩ : Shape).Idx → α) (h : (⟨2, ![1, n]⟩ : Shape).ShapeCasts ⟨3, ![1, 1, n]⟩) (a : Fin n) (u v : Fin 1) :
    shapeCast ⟨3, ![1, 1, n]⟩ x h (ix3 u v a) = x (ix2 0 a) :=
  shapeCast_apply x h _ _ (by
    rw [Shape.rowMajor_val_three, Shape.rowMajor_val_two]
    show (0 : ℕ) * n + a.val = (u.val * 1 + v.val) * n + a.val
    have hu : u.val = 0 := by have := u.isLt; omega
    have hv : v.val = 0 := by have := v.isLt; omega
    rw [hu, hv])

theorem cast_line (x : (⟨1, ![n]⟩ : Shape).Idx → α) (h : (⟨1, ![n]⟩ : Shape).ShapeCasts ⟨2, ![1, n]⟩) (a : Fin n) (u : Fin 1) :
    shapeCast ⟨2, ![1, n]⟩ x h (ix2 u a) = x (ix1 a) :=
  shapeCast_apply x h _ _ (by
    rw [Shape.rowMajor_val_one, Shape.rowMajor_val_two]
    show a.val = u.val * n + a.val
    have hu : u.val = 0 := by have := u.isLt; omega
    rw [hu]; simp)

theorem cast_stand (x : (⟨1, ![n]⟩ : Shape).Idx → α) (h : (⟨1, ![n]⟩ : Shape).ShapeCasts ⟨2, ![n, 1]⟩) (a : Fin n) (u : Fin 1) :
    shapeCast ⟨2, ![n, 1]⟩ x h (ix2 a u) = x (ix1 a) :=
  shapeCast_apply x h _ _ (by
    rw [Shape.rowMajor_val_one, Shape.rowMajor_val_two]
    show a.val = a.val * 1 + u.val
    have := u.isLt; omega)

theorem spread_col (x : (⟨2, ![n, 1]⟩ : Shape).Idx → α) (h : (⟨2, ![n, 1]⟩ : Shape).Broadcasts ⟨2, ![n, m]⟩) (hn : n ≠ 1) (a : Fin n) (r : Fin m) :
    broadcastTo ⟨2, ![n, m]⟩ x h (ix2 a r) = x (ix2 a 0) :=
  broadcastTo_apply x h _ _ (fun b => match b with
    | ⟨0, _⟩ => by show a.val = if n = 1 then 0 else a.val; rw [if_neg hn]
    | ⟨1, _⟩ => by exact (if_pos rfl).symm)

theorem spread_row (x : (⟨2, ![1, m]⟩ : Shape).Idx → α) (h : (⟨2, ![1, m]⟩ : Shape).Broadcasts ⟨2, ![n, m]⟩) (hm : m ≠ 1) (a : Fin n) (r : Fin m) :
    broadcastTo ⟨2, ![n, m]⟩ x h (ix2 a r) = x (ix2 0 r) :=
  broadcastTo_apply x h _ _ (fun b => match b with
    | ⟨0, _⟩ => by exact (if_pos rfl).symm
    | ⟨1, _⟩ => by show r.val = if m = 1 then 0 else r.val; rw [if_neg hm])

end Casts

section Products
variable {n m p : Nat} {φ₁ φ₂ : FTy}

/-- A product of real tiles along both tiles' last axis. -/
theorem dot_nt (d : DotDims ⟨2, ![n, m]⟩ ⟨2, ![p, m]⟩ ⟨2, ![n, p]⟩) (e : Fin m ≃ d.contr.Idx)
    (hl : ∀ a b k, d.lhsIdx (ix2 a b) (e k) = ix2 a k) (hr : ∀ a b k, d.rhsIdx (ix2 a b) (e k) = ix2 b k)
    (x : FVec Ideal ⟨2, ![n, m]⟩ φ₁) (y : FVec Ideal ⟨2, ![p, m]⟩ φ₂) (f : Fin n → Fin m → ℝ) (g : Fin p → Fin m → ℝ)
    (hx : ∀ a k, x (ix2 a k) = (f a k : EReal)) (hy : ∀ b k, y (ix2 b k) = (g b k : EReal)) (a : Fin n) (b : Fin p) :
    matmul d none x y (constant ⟨2, ![n, p]⟩ .f32 0x00000000#32) (ix2 a b) = ((∑ k, f a k * g b k : ℝ) : EReal) := by
  refine (Ideal.matmul_constant_zero_apply d none x y (ix2 a b)).trans ?_
  rw [← Equiv.sum_comp e]
  refine sum_coe _ _ _ fun k => ?_
  rw [hl, hr, hx, hy, EReal.coe_mul]

/-- A product of real tiles along both tiles' first axis. -/
theorem dot_tn (d : DotDims ⟨2, ![m, n]⟩ ⟨2, ![m, p]⟩ ⟨2, ![n, p]⟩) (e : Fin m ≃ d.contr.Idx)
    (hl : ∀ a b k, d.lhsIdx (ix2 a b) (e k) = ix2 k a) (hr : ∀ a b k, d.rhsIdx (ix2 a b) (e k) = ix2 k b)
    (x : FVec Ideal ⟨2, ![m, n]⟩ φ₁) (y : FVec Ideal ⟨2, ![m, p]⟩ φ₂) (f : Fin m → Fin n → ℝ) (g : Fin m → Fin p → ℝ)
    (hx : ∀ k a, x (ix2 k a) = (f k a : EReal)) (hy : ∀ k b, y (ix2 k b) = (g k b : EReal)) (a : Fin n) (b : Fin p) :
    matmul d none x y (constant ⟨2, ![n, p]⟩ .f32 0x00000000#32) (ix2 a b) = ((∑ k, f k a * g k b : ℝ) : EReal) := by
  refine (Ideal.matmul_constant_zero_apply d none x y (ix2 a b)).trans ?_
  rw [← Equiv.sum_comp e]
  refine sum_coe _ _ _ fun k => ?_
  rw [hl, hr, hx, hy, EReal.coe_mul]

/-- A product of real tiles along the left tile's last axis and the right tile's first. -/
theorem dot_nn (d : DotDims ⟨2, ![n, m]⟩ ⟨2, ![m, p]⟩ ⟨2, ![n, p]⟩) (e : Fin m ≃ d.contr.Idx)
    (hl : ∀ a b k, d.lhsIdx (ix2 a b) (e k) = ix2 a k) (hr : ∀ a b k, d.rhsIdx (ix2 a b) (e k) = ix2 k b)
    (x : FVec Ideal ⟨2, ![n, m]⟩ φ₁) (y : FVec Ideal ⟨2, ![m, p]⟩ φ₂) (f : Fin n → Fin m → ℝ) (g : Fin m → Fin p → ℝ)
    (hx : ∀ a k, x (ix2 a k) = (f a k : EReal)) (hy : ∀ k b, y (ix2 k b) = (g k b : EReal)) (a : Fin n) (b : Fin p) :
    matmul d none x y (constant ⟨2, ![n, p]⟩ .f32 0x00000000#32) (ix2 a b) = ((∑ k, f a k * g k b : ℝ) : EReal) := by
  refine (Ideal.matmul_constant_zero_apply d none x y (ix2 a b)).trans ?_
  rw [← Equiv.sum_comp e]
  refine sum_coe _ _ _ fun k => ?_
  rw [hl, hr, hx, hy, EReal.coe_mul]

/-- The sum of a real tile over its rows. -/
theorem sum_rows (x : FVec Ideal ⟨2, ![n, m]⟩ .f32) (h : (⟨2, ![n, m]⟩ : Shape).Reduces [(0 : Fin 2)] ⟨1, ![m]⟩) (hφ : FKind.Formats .f32)
    (hacc : (0x00000000#32 : BitVec 32) = FKind.add.neutral .f32 hφ) (f : Fin n → Fin m → ℝ) (r : Fin m) (hx : ∀ a, x (ix2 a r) = (f a r : EReal)) :
    multiReduction (F := Ideal) .add [(0 : Fin 2)] ⟨1, ![m]⟩ x 0x00000000#32 h hφ hacc (ix1 r) = ((∑ a, f a r : ℝ) : EReal) := by
  refine (Ideal.multiReduction_add_single x _ h hφ hacc (ix1 r)).trans (sum_coe _ _ _ fun a => ?_)
  exact (congrArg x (show h.lift (ix1 r) a = ix2 a r from ext2 rfl rfl)).trans (hx a)

/-- The sum of a real tile over its columns. -/
theorem sum_cols (x : FVec Ideal ⟨2, ![n, m]⟩ .f32) (h : (⟨2, ![n, m]⟩ : Shape).Reduces [(1 : Fin 2)] ⟨1, ![n]⟩) (hφ : FKind.Formats .f32)
    (hacc : (0x00000000#32 : BitVec 32) = FKind.add.neutral .f32 hφ) (f : Fin n → Fin m → ℝ) (a : Fin n) (hx : ∀ r, x (ix2 a r) = (f a r : EReal)) :
    multiReduction (F := Ideal) .add [(1 : Fin 2)] ⟨1, ![n]⟩ x 0x00000000#32 h hφ hacc (ix1 a) = ((∑ r, f a r : ℝ) : EReal) := by
  refine (Ideal.multiReduction_add_single x _ h hφ hacc (ix1 a)).trans (sum_coe _ _ _ fun r => ?_)
  exact (congrArg x (show h.lift (ix1 a) r = ix2 a r from ext2 rfl rfl)).trans (hx r)

end Products

end Cert.Tile

end

end
-- ==== Proof.KvTile.lean ====
/- What a tile adds to the running sums, read at an index. -/
module

public import proofs.«01_k».proof.Proof.Gen.KernelIdeal.Skeleton
public import proofs.«01_k».proof.Proof.Tile

@[expose] public section

set_option maxRecDepth 16384

noncomputable section

namespace Cert.KernelIdeal.KvTile

open Cert.KernelIdeal Cert.KernelIdeal.Gen Idealize.ShloMosaic Idealize.ShloMosaic.ValueIdx
open Cert.Rows Cert.Scores Cert.Tile

/-- The contraction of two tiles along the head's columns, and along the tile's rows. -/
abbrev eN := (contrEquiv1 dot_S1024x128_S1024x128_S1024x1024_1_1_0_0_n_n 128 rfl rfl).symm
abbrev eT := (contrEquiv1 dot_S1024x1024_S1024x128_S1024x128_0_0_1_1_n_n 1024 rfl rfl).symm

theorem nl (a b : Fin 1024) (k : Fin 128) : dot_S1024x128_S1024x128_S1024x1024_1_1_0_0_n_n.lhsIdx (ix2 a b) (eN k) = ix2 a k :=
  ext2 rfl (contrEquiv1_symm_val dot_S1024x128_S1024x128_S1024x1024_1_1_0_0_n_n 128 rfl rfl k)
theorem nr (a b : Fin 1024) (k : Fin 128) : dot_S1024x128_S1024x128_S1024x1024_1_1_0_0_n_n.rhsIdx (ix2 a b) (eN k) = ix2 b k :=
  ext2 rfl (contrEquiv1_symm_val dot_S1024x128_S1024x128_S1024x1024_1_1_0_0_n_n 128 rfl rfl k)
theorem tl (a : Fin 1024) (b : Fin 128) (k : Fin 1024) : dot_S1024x1024_S1024x128_S1024x128_0_0_1_1_n_n.lhsIdx (ix2 a b) (eT k) = ix2 k a :=
  ext2 (contrEquiv1_symm_val dot_S1024x1024_S1024x128_S1024x128_0_0_1_1_n_n 1024 rfl rfl k) rfl
theorem tr (a : Fin 1024) (b : Fin 128) (k : Fin 1024) : dot_S1024x1024_S1024x128_S1024x128_0_0_1_1_n_n.rhsIdx (ix2 a b) (eT k) = ix2 k b :=
  ext2 (contrEquiv1_symm_val dot_S1024x1024_S1024x128_S1024x128_0_0_1_1_n_n 1024 rfl rfl k) rfl

variable {x0 x1 x2 x3 : Vec Ideal S1024x128 .f32} {x4 x5 x6 : Vec Ideal S1x1024x1 .f32} {x7 : Vec Ideal S1x1x1024 .f32}
variable {q k v o : Fin 1024 → Fin 128 → ℝ} {D cc cr : Fin 1024 → ℝ} {p : Fin 1024 → Fin 1024 → ℝ}
variable (hq : ∀ a d, x0 (ix2 a d) = (q a d : EReal)) (hk : ∀ a d, x1 (ix2 a d) = (k a d : EReal))
  (hv : ∀ a d, x2 (ix2 a d) = (v a d : EReal)) (ho : ∀ a d, x3 (ix2 a d) = (o a d : EReal))
  (hD : ∀ a, x5 (ix3 0 a 0) = (D a : EReal)) (hc : ∀ a, x6 (ix3 0 a 0) = (cc a : EReal)) (hr : ∀ r, x7 (ix3 0 0 r) = (cr r : EReal))

include hq hk hc hr in
/-- A tile wholly below the diagonal: the exponential of the scores less the row's log-sum. -/
theorem p_full (a r : Fin 1024) :
    k0_pay13 x0 x1 x6 x7 x4 (ix2 a r)
      = Ideal.exp ((((∑ d, q a d * k r d) * scale + (cc a - cr r) : ℝ) : EReal) - x4 (ix3 0 a 0)) := by
  unfold k0_pay13
  show Ideal.exp (_ * Ideal.ofBits .f32 0x3DB504F3#32 + (_ - _) - _) = _
  refine (congrArg Ideal.exp (congrArg₂ (· - ·) (congrArg₂ (· + ·)
    (congrArg₂ (· * ·) (dot_nt (φ₁ := .bf16) (φ₂ := .bf16) _ eN nl nr _ _ q k (fun a d => hq a d) (fun a d => hk a d) a r) scale_coe.symm)
    (congrArg₂ (· - ·) (((spread_col _ _ (by decide) a r).trans (cast_col _ _ a 0)).trans (hc a))
      (((spread_row _ _ (by decide) a r).trans (cast_row _ _ r 0)).trans (hr r))))
    ((spread_col _ _ (by decide) a r).trans (cast_col _ _ a 0)))).trans ?_
  rw [← EReal.coe_mul, ← EReal.coe_sub, ← EReal.coe_add]

include hq hk hc hr in
/-- A tile on the diagonal: the keys past the query are masked. -/
theorem p_diag (a r : Fin 1024) :
    k0_pay17 x0 x1 x6 x7 x4 (ix2 a r)
      = Ideal.exp ((if r.val ≤ a.val then (((∑ d, q a d * k r d) * scale + (cc a - cr r) : ℝ) : EReal) else ⊥) - x4 (ix3 0 a 0)) := by
  unfold k0_pay17
  show Ideal.exp (Scalar.select (IntOp.cmpi .sle (iota .tc S1024x1024 32 [1] iota_S1024x1024_d1_w32 (ix2 a r))
    (iota .tc S1024x1024 32 [0] iota_S1024x1024_d0_w32 (ix2 a r))) (_ * Ideal.ofBits .f32 0x3DB504F3#32 + (_ - _)) (Ideal.ofBits .f32 0xFF800000#32) - _) = _
  rw [iota_single_apply, iota_single_apply, lit_bot]
  refine (congrArg Ideal.exp (congrArg₂ (· - ·) ((congrArg (fun z => Scalar.select _ z ⊥) (congrArg₂ (· + ·)
    (congrArg₂ (· * ·) (dot_nt (φ₁ := .bf16) (φ₂ := .bf16) _ eN nl nr _ _ q k (fun a d => hq a d) (fun a d => hk a d) a r) scale_coe.symm)
    (congrArg₂ (· - ·) (((spread_col _ _ (by decide) a r).trans (cast_col _ _ a 0)).trans (hc a))
      (((spread_row _ _ (by decide) a r).trans (cast_row _ _ r 0)).trans (hr r))))).trans
      (select_sle r.val a.val (by have := r.isLt; omega) (by have := a.isLt; omega) _ _))
    ((spread_col _ _ (by decide) a r).trans (cast_col _ _ a 0)))).trans ?_
  rw [← EReal.coe_mul, ← EReal.coe_sub, ← EReal.coe_add]

section
variable {pt : FVec Ideal S1024x1024 .f32} (hp : ∀ a r, pt (ix2 a r) = (p a r : EReal))

include hv ho hD hp in
theorem ds_full (a r : Fin 1024) : k0_pay4 pt (k0_pay16 x3 x2) x5 (ix2 a r) = ((p a r * ((∑ d, o a d * v r d) - D a) : ℝ) : EReal) := by
  unfold k0_pay4 k0_pay16 k0_pay14
  show pt (ix2 a r) * (_ - _) = _
  refine (congrArg₂ (· * ·) (hp a r) (congrArg₂ (· - ·) (dot_nt (φ₁ := .bf16) (φ₂ := .bf16) _ eN nl nr _ _ o v (fun a d => ho a d) (fun a d => hv a d) a r)
    (((spread_col _ _ (by decide) a r).trans (cast_col _ _ a 0)).trans (hD a)))).trans ?_
  rw [← EReal.coe_sub, ← EReal.coe_mul]

include hq hv ho hD hp in
theorem dk_full (acc : Vec Ideal S1024x128 .f32) (r : Fin 1024) (d : Fin 128) (w : ℝ) (hw : acc (ix2 r d) = (w : EReal)) :
    k0_pay5 pt (k0_pay16 x3 x2) x5 acc x0 (ix2 r d) = ((w + ∑ a, p a r * ((∑ d, o a d * v r d) - D a) * q a d : ℝ) : EReal) := by
  unfold k0_pay5
  rw [shapeCast_self]
  show acc (ix2 r d) + _ = _
  refine (congrArg₂ (· + ·) hw (dot_tn (φ₁ := .bf16) (φ₂ := .bf16) _ eT tl tr _ _ (fun a r => p a r * ((∑ d, o a d * v r d) - D a)) q
    (fun a r => ds_full hv ho hD hp a r) (fun a d => hq a d) r d)).trans (EReal.coe_add _ _).symm

include hv ho hD hp in
theorem dc_full (acc : Vec Ideal S1x1024 .f32) (r : Fin 1024) (w : ℝ) (hw : acc (ix2 0 r) = (w : EReal)) :
    k0_pay6 pt (k0_pay16 x3 x2) x5 acc (ix2 0 r) = ((w - ∑ a, p a r * ((∑ d, o a d * v r d) - D a) : ℝ) : EReal) := by
  unfold k0_pay6
  rw [shapeCast_self]
  show acc (ix2 0 r) - _ = _
  refine (congrArg₂ (· - ·) hw ((cast_line _ _ r 0).trans (sum_rows _ _ _ _ (fun a r => p a r * ((∑ d, o a d * v r d) - D a)) r
    (fun a => ds_full hv ho hD hp a r)))).trans (EReal.coe_sub _ _).symm

end

include ho in
theorem dv_full (hp : ∀ a r, k0_pay13 x0 x1 x6 x7 x4 (ix2 a r) = (p a r : EReal)) (acc : Vec Ideal S1024x128 .f32) (r : Fin 1024) (d : Fin 128) (w : ℝ)
    (hw : acc (ix2 r d) = (w : EReal)) :
    k0_pay15 x0 x1 x6 x7 x4 x3 acc (ix2 r d) = ((w + ∑ a, p a r * o a d : ℝ) : EReal) := by
  unfold k0_pay15 k0_pay14
  rw [shapeCast_self]
  show acc (ix2 r d) + _ = _
  refine (congrArg₂ (· + ·) hw (dot_tn (φ₁ := .bf16) (φ₂ := .bf16) _ eT tl tr _ _ p o (fun a r => hp a r) (fun a d => ho a d) r d)).trans (EReal.coe_add _ _).symm

section
variable {pt : FVec Ideal S1024x1024 .f32} (hp : ∀ a r, pt (ix2 a r) = (p a r : EReal))

include hv ho hD hp in
theorem ds_diag (a r : Fin 1024) : k0_pay7 pt (k0_pay18 x3) x2 x5 (ix2 a r) = ((p a r * ((∑ d, o a d * v r d) - D a) : ℝ) : EReal) := by
  unfold k0_pay7 k0_pay18
  show pt (ix2 a r) * (_ - _) = _
  refine (congrArg₂ (· * ·) (hp a r) (congrArg₂ (· - ·) (dot_nt (φ₁ := .bf16) (φ₂ := .bf16) _ eN nl nr _ _ o v (fun a d => ho a d) (fun a d => hv a d) a r)
    (((spread_col _ _ (by decide) a r).trans (cast_col _ _ a 0)).trans (hD a)))).trans ?_
  rw [← EReal.coe_sub, ← EReal.coe_mul]

include hq hv ho hD hp in
theorem dk_diag (acc : Vec Ideal S1024x128 .f32) (r : Fin 1024) (d : Fin 128) (w : ℝ) (hw : acc (ix2 r d) = (w : EReal)) :
    k0_pay8 pt (k0_pay18 x3) x2 x5 acc x0 (ix2 r d) = ((w + ∑ a, p a r * ((∑ d, o a d * v r d) - D a) * q a d : ℝ) : EReal) := by
  unfold k0_pay8
  rw [shapeCast_self]
  show acc (ix2 r d) + _ = _
  refine (congrArg₂ (· + ·) hw (dot_tn (φ₁ := .bf16) (φ₂ := .bf16) _ eT tl tr _ _ (fun a r => p a r * ((∑ d, o a d * v r d) - D a)) q
    (fun a r => ds_diag hv ho hD hp a r) (fun a d => hq a d) r d)).trans (EReal.coe_add _ _).symm

include hv ho hD hp in
theorem dc_diag (acc : Vec Ideal S1x1024 .f32) (r : Fin 1024) (w : ℝ) (hw : acc (ix2 0 r) = (w : EReal)) :
    k0_pay9 pt (k0_pay18 x3) x2 x5 acc (ix2 0 r) = ((w - ∑ a, p a r * ((∑ d, o a d * v r d) - D a) : ℝ) : EReal) := by
  unfold k0_pay9
  rw [shapeCast_self]
  show acc (ix2 0 r) - _ = _
  refine (congrArg₂ (· - ·) hw ((cast_line _ _ r 0).trans (sum_rows _ _ _ _ (fun a r => p a r * ((∑ d, o a d * v r d) - D a)) r
    (fun a => ds_diag hv ho hD hp a r)))).trans (EReal.coe_sub _ _).symm

end

include ho in
theorem dv_diag (hp : ∀ a r, k0_pay17 x0 x1 x6 x7 x4 (ix2 a r) = (p a r : EReal)) (acc : Vec Ideal S1024x128 .f32) (r : Fin 1024) (d : Fin 128) (w : ℝ)
    (hw : acc (ix2 r d) = (w : EReal)) :
    k0_pay19 x0 x1 x6 x7 x4 x3 acc (ix2 r d) = ((w + ∑ a, p a r * o a d : ℝ) : EReal) := by
  unfold k0_pay19 k0_pay18
  rw [shapeCast_self]
  show acc (ix2 r d) + _ = _
  refine (congrArg₂ (· + ·) hw (dot_tn (φ₁ := .bf16) (φ₂ := .bf16) _ eT tl tr _ _ p o (fun a r => hp a r) (fun a d => ho a d) r d)).trans (EReal.coe_add _ _).symm

/-! ### The resets and the results -/

theorem reset_dk (i : S1024x128.Idx) : k0_pay1 (F := Ideal) i = ((0 : ℝ) : EReal) := by
  unfold k0_pay1; rw [shapeCast_self]; exact lit_zero
theorem reset_dv (i : S1024x128.Idx) : k0_pay2 (F := Ideal) i = ((0 : ℝ) : EReal) := by
  unfold k0_pay2; rw [shapeCast_self]; exact lit_zero
theorem reset_dc (i : S1x1024.Idx) : k0_pay3 (F := Ideal) i = ((0 : ℝ) : EReal) := by
  unfold k0_pay3; rw [shapeCast_self]; exact lit_zero

theorem out_dk (acc : Vec Ideal S1024x128 .f32) (r : Fin 1024) (d : Fin 128) (w : ℝ) (hw : acc (ix2 r d) = (w : EReal)) :
    k0_pay10 acc (ix2 r d) = ((w * scale : ℝ) : EReal) := by
  unfold k0_pay10
  show acc (ix2 r d) * Ideal.ofBits .f32 0x3DB504F3#32 = _
  rw [hw, ← scale_coe, ← EReal.coe_mul]
theorem out_dv (acc : Vec Ideal S1024x128 .f32) (i : S1024x128.Idx) : k0_pay11 acc i = acc i := rfl
theorem out_dc (acc : Vec Ideal S1x1024 .f32) (u v : Fin 1) (r : Fin 1024) : k0_pay12 acc (ix3 u v r) = acc (ix2 0 r) := by
  unfold k0_pay12; exact cast_out _ _ _ _ _

end Cert.KernelIdeal.KvTile

end

end
-- ==== Proof.Sums.lean ====
/- The running sums of a key tile after each query tile, and the blocks written at the last. -/
module

public import proofs.«01_k».proof.Proof.Blocks
public import proofs.«01_k».proof.Proof.Body
public import proofs.«01_k».proof.Proof.KvTile

@[expose] public section

set_option maxRecDepth 16384

noncomputable section

namespace Cert.KernelIdeal.Sums

open Cert.KernelIdeal Cert.KernelIdeal.Gen Idealize.ShloMosaic Idealize.ShloMosaic.TcCoe Idealize.SL.Sem Idealize.ShloMosaic.ValueIdx
open Cert.Rows Cert.Scores Cert.Upto Cert.KernelIdeal.HostVals Cert.KernelIdeal.Blocks Cert.KernelIdeal.BodyValue Cert.KernelIdeal.KvTile

variable {m : (ℓ : Loc nD τ sig) → Buf (Elt Ideal) ℓ} {c : Dev nD}
variable (h0 : Real2 (A0 m c)) (h1 : Real2 (A1 m c)) (h2 : Real2 (A2 m c))

/-! ### The blocks as reals -/

section Reals

include h0 in
theorem q_real (t : Fin cfg0.N) (a : Fin 1024) (d : Fin 128) :
    (iblk m c 0 t : Vec Ideal S1024x128 .f32) (ix2 a d) = ((Q (A0 m c) (hd t) (pos (mt t) a) d : ℝ) : EReal) := (blk0 m c t a d).trans (h0 _).symm
include h0 in
theorem k_real (t : Fin cfg0.N) (a : Fin 1024) (d : Fin 128) :
    (iblk m c 1 t : Vec Ideal S1024x128 .f32) (ix2 a d) = ((K (A0 m c) (hd t) (pos (kt t) a) d : ℝ) : EReal) := (blk1 m c t a d).trans (h0 _).symm
include h0 in
theorem v_real (t : Fin cfg0.N) (a : Fin 1024) (d : Fin 128) :
    (iblk m c 2 t : Vec Ideal S1024x128 .f32) (ix2 a d) = ((Scores.V (A0 m c) (hd t) (pos (kt t) a) d : ℝ) : EReal) := (blk2 m c t a d).trans (h0 _).symm
include h1 in
theorem o_real (t : Fin cfg0.N) (a : Fin 1024) (d : Fin 128) :
    (iblk m c 3 t : Vec Ideal S1024x128 .f32) (ix2 a d) = ((DO (A1 m c) (hd t) (pos (mt t) a) d : ℝ) : EReal) := (blk3 m c t a d).trans (h1 _).symm
include h0 h1 h2 in
theorem d_real (t : Fin cfg0.N) (a : Fin 1024) :
    (iblk m c 5 t : Vec Ideal S1x1024x1 .f32) (ix3 0 a 0)
      = ((∑ k, P (A0 m c) (A2 m c) (hd t) (pos (mt t) a) k * DP (A0 m c) (A1 m c) (hd t) (pos (mt t) a) k : ℝ) : EReal) :=
  (blk5 m c t a).trans (rowProd_real h0 h1 h2 _ _ _)
include h2 in
theorem c_real (t : Fin cfg0.N) (a : Fin 1024) :
    (iblk m c 6 t : Vec Ideal S1x1024x1 .f32) (ix3 0 a 0) = ((C (A2 m c) (hd t) (pos (mt t) a) : ℝ) : EReal) :=
  (blk6 m c t a).trans ((asCol_apply _ _ _ _).trans (h2 _).symm)
include h2 in
theorem r_real (t : Fin cfg0.N) (r : Fin 1024) :
    (iblk m c 7 t : Vec Ideal S1x1x1024 .f32) (ix3 0 0 r) = ((C (A2 m c) (hd t) (pos (kt t) r) : ℝ) : EReal) :=
  (blk7 m c t r).trans ((asRow_apply _ _ _ _).trans (h2 _).symm)

end Reals

theorem mt_of_le {t : Fin cfg0.N} (h : t.val / 4 % 4 ≤ t.val % 4) : mt t = qt t := Fin.ext (max_eq_left h)

/-! ### The softmax of a tile -/

include h0 h2 in
theorem p_real_full (t : Fin cfg0.N) (h : t.val / 4 % 4 + 1 ≤ t.val % 4) (a r : Fin 1024) :
    k0_pay13 (F := Ideal) (iblk m c 0 t) (iblk m c 1 t) (iblk m c 6 t) (iblk m c 7 t) (iblk m c 4 t) (ix2 a r)
      = ((P (A0 m c) (A2 m c) (hd t) (pos (mt t) a) (pos (kt t) r) : ℝ) : EReal) := by
  refine (p_full (q_real h0 t) (k_real h0 t) (c_real h2 t) (r_real h2 t) a r).trans ?_
  rw [blk4 m c t a, ← exp_score_sub_logSum h0 h2 (hd t) (pos (mt t) a) (pos (kt t) r) 0]
  refine congrArg (fun z => Ideal.exp (z - _)) ?_
  have hs : sees (pos (mt t) a) (pos (kt t) r) := by
    show 1024 * (t.val / 4 % 4) + r.val ≤ 1024 * max (t.val % 4) (t.val / 4 % 4) + a.val
    have := r.isLt; omega
  exact (if_pos hs).symm

include h0 h2 in
theorem p_real_diag (t : Fin cfg0.N) (h : t.val / 4 % 4 = t.val % 4) (a r : Fin 1024) :
    k0_pay17 (F := Ideal) (iblk m c 0 t) (iblk m c 1 t) (iblk m c 6 t) (iblk m c 7 t) (iblk m c 4 t) (ix2 a r)
      = ((P (A0 m c) (A2 m c) (hd t) (pos (mt t) a) (pos (kt t) r) : ℝ) : EReal) := by
  refine (p_diag (q_real h0 t) (k_real h0 t) (c_real h2 t) (r_real h2 t) a r).trans ?_
  rw [blk4 m c t a, ← exp_score_sub_logSum h0 h2 (hd t) (pos (mt t) a) (pos (kt t) r) 0]
  refine congrArg (fun z => Ideal.exp (z - _)) ?_
  have hs : sees (pos (mt t) a) (pos (kt t) r) ↔ r.val ≤ a.val := by
    show 1024 * (t.val / 4 % 4) + r.val ≤ 1024 * max (t.val % 4) (t.val / 4 % 4) + a.val ↔ _
    omega
  unfold score
  by_cases hh : r.val ≤ a.val
  · rw [if_pos hh, if_pos (hs.mpr hh)]; rfl
  · rw [if_neg hh, if_neg (fun x => hh (hs.mp x))]

/-! ### The three running sums -/

/-- What a query adds to the key's gradient, the value's gradient and the gate's sum. -/
abbrev fK (m : (ℓ : Loc nD τ sig) → Buf (Elt Ideal) ℓ) (c : Dev nD) (h : Fin 32) (k : Fin 4096) (d : Fin 128) (q : Fin 4096) : ℝ :=
  DS (A0 m c) (A1 m c) (A2 m c) h q k * Q (A0 m c) h q d
abbrev fV (m : (ℓ : Loc nD τ sig) → Buf (Elt Ideal) ℓ) (c : Dev nD) (h : Fin 32) (k : Fin 4096) (d : Fin 128) (q : Fin 4096) : ℝ :=
  P (A0 m c) (A2 m c) h q k * DO (A1 m c) h q d
abbrev fC (m : (ℓ : Loc nD τ sig) → Buf (Elt Ideal) ℓ) (c : Dev nD) (h : Fin 32) (k : Fin 4096) (q : Fin 4096) : ℝ :=
  DS (A0 m c) (A1 m c) (A2 m c) h q k

include h0 h1 h2 in
theorem addK_full (t : Fin cfg0.N) (h : t.val / 4 % 4 + 1 ≤ t.val % 4) (acc : Vec Ideal S1024x128 .f32) (r : Fin 1024) (d : Fin 128) (w : ℝ)
    (hw : acc (ix2 r d) = (w : EReal)) :
    k0_pay5 (F := Ideal) (k0_pay13 (iblk m c 0 t) (iblk m c 1 t) (iblk m c 6 t) (iblk m c 7 t) (iblk m c 4 t)) (k0_pay16 (iblk m c 3 t) (iblk m c 2 t)) (iblk m c 5 t) acc (iblk m c 0 t) (ix2 r d)
      = ((w + tile (fK m c (hd t) (pos (kt t) r) d) (qt t) : ℝ) : EReal) := by
  refine (dk_full (q_real h0 t) (v_real h0 t) (o_real h1 t) (d_real h0 h1 h2 t) (p_real_full h0 h2 t h) acc r d w hw).trans ?_
  rw [← mt_of_le (by omega : t.val / 4 % 4 ≤ t.val % 4)]
  rfl

include h0 h1 h2 in
theorem addV_full (t : Fin cfg0.N) (h : t.val / 4 % 4 + 1 ≤ t.val % 4) (acc : Vec Ideal S1024x128 .f32) (r : Fin 1024) (d : Fin 128) (w : ℝ)
    (hw : acc (ix2 r d) = (w : EReal)) :
    k0_pay15 (F := Ideal) (iblk m c 0 t) (iblk m c 1 t) (iblk m c 6 t) (iblk m c 7 t) (iblk m c 4 t) (iblk m c 3 t) acc (ix2 r d)
      = ((w + tile (fV m c (hd t) (pos (kt t) r) d) (qt t) : ℝ) : EReal) := by
  refine (dv_full (o_real h1 t) (p_real_full h0 h2 t h) acc r d w hw).trans ?_
  rw [← mt_of_le (by omega : t.val / 4 % 4 ≤ t.val % 4)]
  rfl

include h0 h1 h2 in
theorem addC_full (t : Fin cfg0.N) (h : t.val / 4 % 4 + 1 ≤ t.val % 4) (acc : Vec Ideal S1x1024 .f32) (r : Fin 1024) (w : ℝ)
    (hw : acc (ix2 0 r) = (w : EReal)) :
    k0_pay6 (F := Ideal) (k0_pay13 (iblk m c 0 t) (iblk m c 1 t) (iblk m c 6 t) (iblk m c 7 t) (iblk m c 4 t)) (k0_pay16 (iblk m c 3 t) (iblk m c 2 t)) (iblk m c 5 t) acc (ix2 0 r)
      = ((w - tile (fC m c (hd t) (pos (kt t) r)) (qt t) : ℝ) : EReal) := by
  refine (dc_full (v_real h0 t) (o_real h1 t) (d_real h0 h1 h2 t) (p_real_full h0 h2 t h) acc r w hw).trans ?_
  rw [← mt_of_le (by omega : t.val / 4 % 4 ≤ t.val % 4)]
  rfl

include h0 h1 h2 in
theorem addK_diag (t : Fin cfg0.N) (h : t.val / 4 % 4 = t.val % 4) (acc : Vec Ideal S1024x128 .f32) (r : Fin 1024) (d : Fin 128) (w : ℝ)
    (hw : acc (ix2 r d) = (w : EReal)) :
    k0_pay8 (F := Ideal) (k0_pay17 (iblk m c 0 t) (iblk m c 1 t) (iblk m c 6 t) (iblk m c 7 t) (iblk m c 4 t)) (k0_pay18 (iblk m c 3 t)) (iblk m c 2 t) (iblk m c 5 t) acc (iblk m c 0 t) (ix2 r d)
      = ((w + tile (fK m c (hd t) (pos (kt t) r) d) (qt t) : ℝ) : EReal) := by
  refine (dk_diag (q_real h0 t) (v_real h0 t) (o_real h1 t) (d_real h0 h1 h2 t) (p_real_diag h0 h2 t h) acc r d w hw).trans ?_
  rw [← mt_of_le (by omega : t.val / 4 % 4 ≤ t.val % 4)]
  rfl

include h0 h1 h2 in
theorem addV_diag (t : Fin cfg0.N) (h : t.val / 4 % 4 = t.val % 4) (acc : Vec Ideal S1024x128 .f32) (r : Fin 1024) (d : Fin 128) (w : ℝ)
    (hw : acc (ix2 r d) = (w : EReal)) :
    k0_pay19 (F := Ideal) (iblk m c 0 t) (iblk m c 1 t) (iblk m c 6 t) (iblk m c 7 t) (iblk m c 4 t) (iblk m c 3 t) acc (ix2 r d)
      = ((w + tile (fV m c (hd t) (pos (kt t) r) d) (qt t) : ℝ) : EReal) := by
  refine (dv_diag (o_real h1 t) (p_real_diag h0 h2 t h) acc r d w hw).trans ?_
  rw [← mt_of_le (by omega : t.val / 4 % 4 ≤ t.val % 4)]
  rfl

include h0 h1 h2 in
theorem addC_diag (t : Fin cfg0.N) (h : t.val / 4 % 4 = t.val % 4) (acc : Vec Ideal S1x1024 .f32) (r : Fin 1024) (w : ℝ)
    (hw : acc (ix2 0 r) = (w : EReal)) :
    k0_pay9 (F := Ideal) (k0_pay17 (iblk m c 0 t) (iblk m c 1 t) (iblk m c 6 t) (iblk m c 7 t) (iblk m c 4 t)) (k0_pay18 (iblk m c 3 t)) (iblk m c 2 t) (iblk m c 5 t) acc (ix2 0 r)
      = ((w - tile (fC m c (hd t) (pos (kt t) r)) (qt t) : ℝ) : EReal) := by
  refine (dc_diag (v_real h0 t) (o_real h1 t) (d_real h0 h1 h2 t) (p_real_diag h0 h2 t h) acc r w hw).trans ?_
  rw [← mt_of_le (by omega : t.val / 4 % 4 ≤ t.val % 4)]
  rfl

/-! ### A tile above the diagonal adds nothing -/

theorem not_sees (t : Fin cfg0.N) (h : t.val % 4 < t.val / 4 % 4) (a r : Fin 1024) : ¬sees (pos (qt t) a) (pos (kt t) r) := by
  show ¬(1024 * (t.val / 4 % 4) + r.val ≤ 1024 * (t.val % 4) + a.val)
  have := a.isLt; omega

theorem noK (t : Fin cfg0.N) (h : t.val % 4 < t.val / 4 % 4) (r : Fin 1024) (d : Fin 128) :
    tile (fK m c (hd t) (pos (kt t) r) d) (qt t) = 0 :=
  tile_zero _ _ fun a => by
    show grad _ _ _ _ * _ = 0
    rw [grad_off _ _ _ (not_sees t h a r), zero_mul]
theorem noV (t : Fin cfg0.N) (h : t.val % 4 < t.val / 4 % 4) (r : Fin 1024) (d : Fin 128) :
    tile (fV m c (hd t) (pos (kt t) r) d) (qt t) = 0 :=
  tile_zero _ _ fun a => by
    show prob _ _ _ * _ = 0
    rw [prob_off _ _ (not_sees t h a r), zero_mul]
theorem noC (t : Fin cfg0.N) (h : t.val % 4 < t.val / 4 % 4) (r : Fin 1024) : tile (fC m c (hd t) (pos (kt t) r)) (qt t) = 0 :=
  tile_zero _ _ fun a => grad_off _ _ _ (not_sees t h a r)

/-! ### After each point -/

/-- The running sums hold the query tiles up to the point's own. -/
def Good (m : (ℓ : Loc nD τ sig) → Buf (Elt Ideal) ℓ) (c : Dev nD) (t : Fin cfg0.N) (n : ℕ)
    (z : Vec Ideal S1024x128 .f32 × Vec Ideal S1024x128 .f32 × Vec Ideal S1x1024 .f32) : Prop :=
  (∀ r d, z.1 (ix2 r d) = ((upto (fK m c (hd t) (pos (kt t) r) d) n : ℝ) : EReal))
  ∧ (∀ r d, z.2.1 (ix2 r d) = ((upto (fV m c (hd t) (pos (kt t) r) d) n : ℝ) : EReal))
  ∧ (∀ r, z.2.2 (ix2 0 r) = ((-upto (fC m c (hd t) (pos (kt t) r)) n : ℝ) : EReal))

theorem upto_qt (f : Fin 4096 → ℝ) (t : Fin cfg0.N) : upto f (t.val % 4 + 1) = upto f (t.val % 4) + tile f (qt t) :=
  upto_succ f _ _

theorem good_reset (t : Fin cfg0.N) : Good m c t 0 (k0_pay1 (F := Ideal), k0_pay2 (F := Ideal), k0_pay3 (F := Ideal)) :=
  ⟨fun r d => by rw [upto_zero]; exact reset_dk (ix2 r d), fun r d => by rw [upto_zero]; exact reset_dv (ix2 r d),
    fun r => by rw [upto_zero, neg_zero]; exact reset_dc (ix2 0 r)⟩

theorem good_idle (t : Fin cfg0.N) (h : t.val % 4 < t.val / 4 % 4) {z : Vec Ideal S1024x128 .f32 × Vec Ideal S1024x128 .f32 × Vec Ideal S1x1024 .f32}
    (hz : Good m c t (t.val % 4) z) : Good m c t (t.val % 4 + 1) z :=
  ⟨fun r d => by rw [upto_qt, noK t h, add_zero]; exact hz.1 r d, fun r d => by rw [upto_qt, noV t h, add_zero]; exact hz.2.1 r d,
    fun r => by rw [upto_qt, noC t h, add_zero]; exact hz.2.2 r⟩

include h0 h1 h2 in
theorem good_full (t : Fin cfg0.N) (h : t.val / 4 % 4 + 1 ≤ t.val % 4) {z : Vec Ideal S1024x128 .f32 × Vec Ideal S1024x128 .f32 × Vec Ideal S1x1024 .f32}
    (hz : Good m c t (t.val % 4) z) :
    Good m c t (t.val % 4 + 1) (k0_pay5 (k0_pay13 (iblk m c 0 t) (iblk m c 1 t) (iblk m c 6 t) (iblk m c 7 t) (iblk m c 4 t)) (k0_pay16 (iblk m c 3 t) (iblk m c 2 t)) (iblk m c 5 t) z.1 (iblk m c 0 t),
      k0_pay15 (iblk m c 0 t) (iblk m c 1 t) (iblk m c 6 t) (iblk m c 7 t) (iblk m c 4 t) (iblk m c 3 t) z.2.1,
      k0_pay6 (k0_pay13 (iblk m c 0 t) (iblk m c 1 t) (iblk m c 6 t) (iblk m c 7 t) (iblk m c 4 t)) (k0_pay16 (iblk m c 3 t) (iblk m c 2 t)) (iblk m c 5 t) z.2.2) :=
  ⟨fun r d => by rw [upto_qt]; exact addK_full h0 h1 h2 t h _ r d _ (hz.1 r d),
    fun r d => by rw [upto_qt]; exact addV_full h0 h1 h2 t h _ r d _ (hz.2.1 r d),
    fun r => by rw [upto_qt, neg_add']; exact addC_full h0 h1 h2 t h _ r _ (hz.2.2 r)⟩

include h0 h1 h2 in
theorem good_diag (t : Fin cfg0.N) (h : t.val / 4 % 4 = t.val % 4) {z : Vec Ideal S1024x128 .f32 × Vec Ideal S1024x128 .f32 × Vec Ideal S1x1024 .f32}
    (hz : Good m c t (t.val % 4) z) :
    Good m c t (t.val % 4 + 1) (k0_pay8 (k0_pay17 (iblk m c 0 t) (iblk m c 1 t) (iblk m c 6 t) (iblk m c 7 t) (iblk m c 4 t)) (k0_pay18 (iblk m c 3 t)) (iblk m c 2 t) (iblk m c 5 t) z.1 (iblk m c 0 t),
      k0_pay19 (iblk m c 0 t) (iblk m c 1 t) (iblk m c 6 t) (iblk m c 7 t) (iblk m c 4 t) (iblk m c 3 t) z.2.1,
      k0_pay9 (k0_pay17 (iblk m c 0 t) (iblk m c 1 t) (iblk m c 6 t) (iblk m c 7 t) (iblk m c 4 t)) (k0_pay18 (iblk m c 3 t)) (iblk m c 2 t) (iblk m c 5 t) z.2.2) :=
  ⟨fun r d => by rw [upto_qt]; exact addK_diag h0 h1 h2 t h _ r d _ (hz.1 r d),
    fun r d => by rw [upto_qt]; exact addV_diag h0 h1 h2 t h _ r d _ (hz.2.1 r d),
    fun r => by rw [upto_qt, neg_add']; exact addC_diag h0 h1 h2 t h _ r _ (hz.2.2 r)⟩

/-- What the point leaves in the running sums. -/
abbrev left (m : (ℓ : Loc nD τ sig) → Buf (Elt Ideal) ℓ) (c : Dev nD) (n : ℕ) (hn : n < cfg0.N) :
    Vec Ideal S1024x128 .f32 × Vec Ideal S1024x128 .f32 × Vec Ideal S1x1024 .f32 := (outsAt0 m c n hn).2.2.2

theorem good_prev (t : Fin cfg0.N) (h : ¬t.val % 4 = 0) (hn : t.val - 1 < cfg0.N)
    (hg : Good m c ⟨t.val - 1, hn⟩ ((t.val - 1) % 4 + 1) (left m c (t.val - 1) hn)) : Good m c t (t.val % 4) (left m c (t.val - 1) hn) := by
  have e1 : hd ⟨t.val - 1, hn⟩ = hd t := Fin.ext (by show (t.val - 1) / 16 = t.val / 16; omega)
  have e2 : kt ⟨t.val - 1, hn⟩ = kt t := Fin.ext (by show (t.val - 1) / 4 % 4 = t.val / 4 % 4; omega)
  have e3 : (t.val - 1) % 4 + 1 = t.val % 4 := by omega
  unfold Good at hg ⊢
  rw [e1, e2, e3] at hg
  exact hg

include h0 h1 h2 in
/-- After every point the running sums hold the query tiles up to its own. -/
theorem good_all (n : ℕ) : ∀ hn : n < cfg0.N, Good m c ⟨n, hn⟩ (n % 4 + 1) (left m c n hn) := by
  induction n using Nat.strong_induction_on with
  | _ n ih =>
    intro hn
    have hN := lt_of_lt_of_eq hn (show cfg0.N = 512 from N_0)
    have hp : ¬n % 4 = 0 → Good m c ⟨n, hn⟩ (n % 4) (left m c (n - 1) (Nat.lt_of_le_of_lt (Nat.sub_le _ _) hn)) := fun h =>
      good_prev ⟨n, hn⟩ h _ (ih (n - 1) (by omega) _)
    by_cases c0 : n % 4 = 0
    · have hz : Good m c ⟨n, hn⟩ (n % 4) (k0_pay1 (F := Ideal), k0_pay2 (F := Ideal), k0_pay3 (F := Ideal)) := by rw [c0]; exact good_reset _
      by_cases c2 : n / 4 % 4 = n % 4
      · have e := outsAt0_A m c ⟨n, hn⟩ c0 (by show ¬n / 4 % 4 + 1 ≤ n % 4; omega) c2 (by show ¬n % 4 = 3; omega)
        rw [sout0_A_0_eq, sout0_A_1_eq, sout0_A_2_eq] at e
        exact (congrArg (fun z => Good m c ⟨n, hn⟩ (n % 4 + 1) z.2.2.2) e).mpr (good_diag h0 h1 h2 ⟨n, hn⟩ c2 hz)
      · have e := outsAt0_D m c ⟨n, hn⟩ c0 (by show ¬n / 4 % 4 + 1 ≤ n % 4; omega) c2 (by show ¬n % 4 = 3; omega)
        rw [sout0_D_0_eq, sout0_D_1_eq, sout0_D_2_eq] at e
        exact (congrArg (fun z => Good m c ⟨n, hn⟩ (n % 4 + 1) z.2.2.2) e).mpr (good_idle ⟨n, hn⟩ (by show n % 4 < n / 4 % 4; omega) hz)
    · by_cases c1 : n / 4 % 4 + 1 ≤ n % 4
      · by_cases c3 : n % 4 = 3
        · have e := outsAt0_C m c ⟨n, hn⟩ c0 c1 (by show ¬n / 4 % 4 = n % 4; omega) c3
          rw [sout0_C_0_eq, sout0_C_1_eq, sout0_C_2_eq] at e
          exact (congrArg (fun z => Good m c ⟨n, hn⟩ (n % 4 + 1) z.2.2.2) e).mpr (good_full h0 h1 h2 ⟨n, hn⟩ c1 (hp c0))
        · have e := outsAt0_B m c ⟨n, hn⟩ c0 c1 (by show ¬n / 4 % 4 = n % 4; omega) c3
          rw [sout0_B_0_eq, sout0_B_1_eq, sout0_B_2_eq] at e
          exact (congrArg (fun z => Good m c ⟨n, hn⟩ (n % 4 + 1) z.2.2.2) e).mpr (good_full h0 h1 h2 ⟨n, hn⟩ c1 (hp c0))
      · by_cases c2 : n / 4 % 4 = n % 4
        · by_cases c3 : n % 4 = 3
          · have e := outsAt0_G m c ⟨n, hn⟩ c0 c1 c2 c3
            rw [sout0_G_0_eq, sout0_G_1_eq, sout0_G_2_eq] at e
            exact (congrArg (fun z => Good m c ⟨n, hn⟩ (n % 4 + 1) z.2.2.2) e).mpr (good_diag h0 h1 h2 ⟨n, hn⟩ c2 (hp c0))
          · have e := outsAt0_E m c ⟨n, hn⟩ c0 c1 c2 c3
            rw [sout0_E_0_eq, sout0_E_1_eq, sout0_E_2_eq] at e
            exact (congrArg (fun z => Good m c ⟨n, hn⟩ (n % 4 + 1) z.2.2.2) e).mpr (good_diag h0 h1 h2 ⟨n, hn⟩ c2 (hp c0))
        · have e := outsAt0_F m c ⟨n, hn⟩ c0 c1 c2 (by show ¬n % 4 = 3; omega)
          exact (congrArg (fun z => Good m c ⟨n, hn⟩ (n % 4 + 1) z.2.2.2) e).mpr (good_idle ⟨n, hn⟩ (by show n % 4 < n / 4 % 4; omega) (hp c0))

/-- The blocks written at a key tile's last point are its running sums there. -/
theorem written (n : ℕ) (hn : n < cfg0.N) (h3 : n % 4 = 3) :
    (outsAt0 m c n hn).1 = k0_pay10 (left m c n hn).1 ∧ (outsAt0 m c n hn).2.1 = k0_pay11 (left m c n hn).2.1
      ∧ (outsAt0 m c n hn).2.2.1 = k0_pay12 (left m c n hn).2.2 := by
  have hN := lt_of_lt_of_eq hn (show cfg0.N = 512 from N_0)
  by_cases c2 : n / 4 % 4 = n % 4
  · have e := outsAt0_G m c ⟨n, hn⟩ (by show ¬n % 4 = 0; omega) (by show ¬n / 4 % 4 + 1 ≤ n % 4; omega) c2 h3
    rw [out0_G_8_eq, out0_G_9_eq, out0_G_10_eq, sout0_G_0_eq, sout0_G_1_eq, sout0_G_2_eq] at e
    refine (congrArg (fun z => z.1 = k0_pay10 z.2.2.2.1 ∧ z.2.1 = k0_pay11 z.2.2.2.2.1 ∧ z.2.2.1 = k0_pay12 z.2.2.2.2.2) e).mpr ⟨rfl, rfl, rfl⟩
  · have e := outsAt0_C m c ⟨n, hn⟩ (by show ¬n % 4 = 0; omega) (by show n / 4 % 4 + 1 ≤ n % 4; omega) c2 h3
    rw [out0_C_8_eq, out0_C_9_eq, out0_C_10_eq, sout0_C_0_eq, sout0_C_1_eq, sout0_C_2_eq] at e
    refine (congrArg (fun z => z.1 = k0_pay10 z.2.2.2.1 ∧ z.2.1 = k0_pay11 z.2.2.2.2.1 ∧ z.2.2.1 = k0_pay12 z.2.2.2.2.2) e).mpr ⟨rfl, rfl, rfl⟩

end Cert.KernelIdeal.Sums

end

end
-- ==== Proof.Final.lean ====
/- The kernel's three results are the reference's, element by element, when the arguments hold reals. -/
module

public import proofs.«01_k».proof.Proof.Sums
public import proofs.«01_k».proof.Proof.RefValue
public import Idealize.ShloMosaic.Lib.Pipeline.Value

@[expose] public section

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Cert.Rows Cert.Scores Cert.Upto Cert.KernelIdeal.HostVals Cert.KernelIdeal.Blocks Cert.KernelIdeal.BodyValue Cert.KernelIdeal.KvTile
open Cert.KernelIdeal.Sums

variable {m : (ℓ : Loc nD τ sig) → Buf (Elt Ideal) ℓ} {c : Dev nD}
variable (h0 : Real2 (A0 m c)) (h1 : Real2 (A1 m c)) (h2 : Real2 (A2 m c))

section Blocks
include h0 h1 h2

/-! ### The blocks written after the last query tile -/

theorem out_k (n : ℕ) (hn : n < cfg0.N) (h3 : n % 4 = 3) (r : Fin 1024) (d : Fin 128) :
    (outsAt0 m c n hn).1 (ix2 r d)
      = ((DK (A0 m c) (A1 m c) (A2 m c) (hd ⟨n, hn⟩) (pos (kt ⟨n, hn⟩) r) d : ℝ) : EReal) := by
  have g := (good_all h0 h1 h2 n hn).1 r d
  rw [show n % 4 + 1 = 4 from by omega, upto_four] at g
  exact (congrFun (written n hn h3).1 _).trans (out_dk _ r d _ g)

theorem out_v (n : ℕ) (hn : n < cfg0.N) (h3 : n % 4 = 3) (r : Fin 1024) (d : Fin 128) :
    (outsAt0 m c n hn).2.1 (ix2 r d)
      = ((DV (A0 m c) (A1 m c) (A2 m c) (hd ⟨n, hn⟩) (pos (kt ⟨n, hn⟩) r) d : ℝ) : EReal) := by
  have g := (good_all h0 h1 h2 n hn).2.1 r d
  rw [show n % 4 + 1 = 4 from by omega, upto_four] at g
  exact (congrFun (written n hn h3).2.1 _).trans ((out_dv _ _).trans g)

theorem out_c (n : ℕ) (hn : n < cfg0.N) (h3 : n % 4 = 3) (u v : Fin 1) (r : Fin 1024) :
    (outsAt0 m c n hn).2.2.1 (ix3 u v r)
      = ((DC (A0 m c) (A1 m c) (A2 m c) (hd ⟨n, hn⟩) (pos (kt ⟨n, hn⟩) r) : ℝ) : EReal) := by
  have g := (good_all h0 h1 h2 n hn).2.2 r
  rw [show n % 4 + 1 = 4 from by omega, upto_four] at g
  exact (congrFun (written n hn h3).2.2 _).trans ((out_dc _ u v r).trans g)

end Blocks

/-! ### The arrays -/

theorem idx8 : ∀ t : Fin cfg0.N, win0_8.index t 0 = t.val / 4 % 4 ∧ win0_8.index t 1 = t.val / 16 :=
  (by decide +kernel : ∀ t : Fin grid0.N, _)
theorem idx9 : ∀ t : Fin cfg0.N, win0_9.index t 0 = t.val / 4 % 4 ∧ win0_9.index t 1 = t.val / 16 :=
  (by decide +kernel : ∀ t : Fin grid0.N, _)
theorem idx10 : ∀ t : Fin cfg0.N, win0_10.index t 0 = t.val / 16 ∧ win0_10.index t 1 = 0 ∧ win0_10.index t 2 = t.val / 4 % 4 :=
  (by decide +kernel : ∀ t : Fin grid0.N, _)

/-- The grid point that writes the block of key tile `j` of head `h`. -/
def lastPt (h : ℕ) (j : ℕ) (hh : h < 32) (hj : j < 4) : Fin cfg0.N :=
  ⟨16 * h + 4 * j + 3, lt_of_lt_of_eq (by omega : _ < 512) (show 512 = cfg0.N from N_0.symm)⟩

theorem cover8 (i : S4096x4096.Idx) : ∃ t : Fin cfg0.N, (cfg0.win 8).flush t = true ∧ i ∈ ((cfg0.win 8).blk t).view.set := by
  have b0 : (i 0).val < 4096 := (i 0).isLt
  have b1 : (i 1).val < 4096 := (i 1).isLt
  let t := lastPt ((i 1).val / 128) ((i 0).val / 1024) (by omega) (by omega)
  have ht : t.val = 16 * ((i 1).val / 128) + 4 * ((i 0).val / 1024) + 3 := rfl
  have e := idx8 t
  refine ⟨t, (flush0_8 t).mpr (by omega), ?_⟩
  show i ∈ ((View.whole main_v44_0).slice (win0_8.rect t)).set
  rw [View.set_slice_whole, Rect.mem_set_unit]
  intro a
  match a with
  | ⟨0, _⟩ => show win0_8.index t 0 * 1024 ≤ (i 0).val ∧ (i 0).val < win0_8.index t 0 * 1024 + 1024; rw [e.1]; omega
  | ⟨1, _⟩ => show win0_8.index t 1 * 128 ≤ (i 1).val ∧ (i 1).val < win0_8.index t 1 * 128 + 128; rw [e.2]; omega

theorem cover9 (i : S4096x4096.Idx) : ∃ t : Fin cfg0.N, (cfg0.win 9).flush t = true ∧ i ∈ ((cfg0.win 9).blk t).view.set := by
  have b0 : (i 0).val < 4096 := (i 0).isLt
  have b1 : (i 1).val < 4096 := (i 1).isLt
  let t := lastPt ((i 1).val / 128) ((i 0).val / 1024) (by omega) (by omega)
  have ht : t.val = 16 * ((i 1).val / 128) + 4 * ((i 0).val / 1024) + 3 := rfl
  have e := idx9 t
  refine ⟨t, (flush0_9 t).mpr (by omega), ?_⟩
  show i ∈ ((View.whole main_v44_1).slice (win0_9.rect t)).set
  rw [View.set_slice_whole, Rect.mem_set_unit]
  intro a
  match a with
  | ⟨0, _⟩ => show win0_9.index t 0 * 1024 ≤ (i 0).val ∧ (i 0).val < win0_9.index t 0 * 1024 + 1024; rw [e.1]; omega
  | ⟨1, _⟩ => show win0_9.index t 1 * 128 ≤ (i 1).val ∧ (i 1).val < win0_9.index t 1 * 128 + 128; rw [e.2]; omega

theorem cover10 (i : S32x1x4096.Idx) : ∃ t : Fin cfg0.N, (cfg0.win 10).flush t = true ∧ i ∈ ((cfg0.win 10).blk t).view.set := by
  have b0 : (i 0).val < 32 := (i 0).isLt
  have b1 : (i 1).val < 1 := (i 1).isLt
  have b2 : (i 2).val < 4096 := (i 2).isLt
  let t := lastPt (i 0).val ((i 2).val / 1024) (by omega) (by omega)
  have ht : t.val = 16 * (i 0).val + 4 * ((i 2).val / 1024) + 3 := rfl
  have e := idx10 t
  refine ⟨t, (flush0_10 t).mpr (by omega), ?_⟩
  show i ∈ ((View.whole main_v44_2).slice (win0_10.rect t)).set
  rw [View.set_slice_whole, Rect.mem_set_unit]
  intro a
  match a with
  | ⟨0, _⟩ => show win0_10.index t 0 * 1 ≤ (i 0).val ∧ (i 0).val < win0_10.index t 0 * 1 + 1; rw [e.1]; omega
  | ⟨1, _⟩ => show win0_10.index t 1 * 1 ≤ (i 1).val ∧ (i 1).val < win0_10.index t 1 * 1 + 1; rw [e.2.1]; omega
  | ⟨2, _⟩ => show win0_10.index t 2 * 1024 ≤ (i 2).val ∧ (i 2).val < win0_10.index t 2 * 1024 + 1024; rw [e.2.2]; omega

section Arrays
include h0 h1 h2

theorem dk_eq : (dats m 0 c).arrAt 8 cfg0.N = (Cert.ReferenceIdeal.Read.val_main_v87 (F := Ideal) (A0 m c) (A1 m c) (A2 m c) : S4096x4096.Idx → EReal) := by
  refine (dats m 0 c).arrAt_eq_of_cover 8 _ (fun t hf => ?_) cover8
  have h3 : t.val % 4 = 3 := (flush0_8 t).mp hf
  have e := idx8 t
  show (cfg0.win 8).cut (grid0.coords t) ((dats m 0 c).after 8 t) = _
  rw [after0_8]
  funext y
  have y0 : (y 0).val < 1024 := (y 0).isLt
  have y1 : (y 1).val < 128 := (y 1).isLt
  have ey : ((cfg0.win 8).xinj (grid0.coords t) y : S1024x128.Idx) = ix2 (⟨(y 0).val, y0⟩ : Fin 1024) (⟨(y 1).val, y1⟩ : Fin 128) := ext2 rfl rfl
  show (outsAt0 m c t.val t.isLt).1 ((cfg0.win 8).xinj (grid0.coords t) y) = Cert.ReferenceIdeal.Read.val_main_v87 (F := Ideal) (A0 m c) (A1 m c) (A2 m c) (((cfg0.win 8).blk t).view.emb y)
  rw [ey, out_k h0 h1 h2 t.val t.isLt h3]
  refine (Cert.ReferenceIdeal.RefValue.real87 h0 h1 h2 _ _ _).symm.trans (congrArg _ (ext2 ?_ ?_))
  · show 1024 * (t.val / 4 % 4) + (y 0).val = win0_8.index t 0 * 1024 + 1 * (y 0).val
    rw [e.1]; omega
  · show 128 * (t.val / 16) + (y 1).val = win0_8.index t 1 * 128 + 1 * (y 1).val
    rw [e.2]; omega

theorem dv_eq : (dats m 0 c).arrAt 9 cfg0.N = (Cert.ReferenceIdeal.Read.val_main_v89 (F := Ideal) (A0 m c) (A1 m c) (A2 m c) : S4096x4096.Idx → EReal) := by
  refine (dats m 0 c).arrAt_eq_of_cover 9 _ (fun t hf => ?_) cover9
  have h3 : t.val % 4 = 3 := (flush0_9 t).mp hf
  have e := idx9 t
  show (cfg0.win 9).cut (grid0.coords t) ((dats m 0 c).after 9 t) = _
  rw [after0_9]
  funext y
  have y0 : (y 0).val < 1024 := (y 0).isLt
  have y1 : (y 1).val < 128 := (y 1).isLt
  have ey : ((cfg0.win 9).xinj (grid0.coords t) y : S1024x128.Idx) = ix2 (⟨(y 0).val, y0⟩ : Fin 1024) (⟨(y 1).val, y1⟩ : Fin 128) := ext2 rfl rfl
  show (outsAt0 m c t.val t.isLt).2.1 ((cfg0.win 9).xinj (grid0.coords t) y) = Cert.ReferenceIdeal.Read.val_main_v89 (F := Ideal) (A0 m c) (A1 m c) (A2 m c) (((cfg0.win 9).blk t).view.emb y)
  rw [ey, out_v h0 h1 h2 t.val t.isLt h3]
  refine (Cert.ReferenceIdeal.RefValue.real89 h0 h1 h2 _ _ _).symm.trans (congrArg _ (ext2 ?_ ?_))
  · show 1024 * (t.val / 4 % 4) + (y 0).val = win0_9.index t 0 * 1024 + 1 * (y 0).val
    rw [e.1]; omega
  · show 128 * (t.val / 16) + (y 1).val = win0_9.index t 1 * 128 + 1 * (y 1).val
    rw [e.2]; omega

theorem dc_eq : (dats m 0 c).arrAt 10 cfg0.N = (Cert.ReferenceIdeal.Read.val_main_v91 (F := Ideal) (A0 m c) (A1 m c) (A2 m c) : S32x1x4096.Idx → EReal) := by
  refine (dats m 0 c).arrAt_eq_of_cover 10 _ (fun t hf => ?_) cover10
  have h3 : t.val % 4 = 3 := (flush0_10 t).mp hf
  have e := idx10 t
  show (cfg0.win 10).cut (grid0.coords t) ((dats m 0 c).after 10 t) = _
  rw [after0_10]
  funext y
  have y0 : (y 0).val < 1 := (y 0).isLt
  have y1 : (y 1).val < 1 := (y 1).isLt
  have y2 : (y 2).val < 1024 := (y 2).isLt
  have ey : ((cfg0.win 10).xinj (grid0.coords t) y : S1x1x1024.Idx) = ix3 (⟨(y 0).val, y0⟩ : Fin 1) (⟨(y 1).val, y1⟩ : Fin 1) (⟨(y 2).val, y2⟩ : Fin 1024) := ext3 rfl rfl rfl
  show (outsAt0 m c t.val t.isLt).2.2.1 ((cfg0.win 10).xinj (grid0.coords t) y) = Cert.ReferenceIdeal.Read.val_main_v91 (F := Ideal) (A0 m c) (A1 m c) (A2 m c) (((cfg0.win 10).blk t).view.emb y)
  rw [ey, out_c h0 h1 h2 t.val t.isLt h3]
  refine (Cert.ReferenceIdeal.RefValue.real91 h0 h1 h2 _ (0 : Fin 1) _).symm.trans (congrArg _ (ext3 ?_ ?_ ?_))
  · show t.val / 16 = win0_10.index t 0 * 1 + 1 * (y 0).val
    rw [e.1]; omega
  · show 0 = win0_10.index t 1 * 1 + 1 * (y 1).val
    rw [e.2.1]; omega
  · show 1024 * (t.val / 4 % 4) + (y 2).val = win0_10.index t 2 * 1024 + 1 * (y 2).val
    rw [e.2.2]; omega

end Arrays

/-- After the run each result array is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v44_0) = (dats m 0 c).arrAt 8 cfg0.N
      ∧ r.2.mem ((c : Thread nD τ).loc main_v44_1) = (dats m 0 c).arrAt 9 cfg0.N
      ∧ r.2.mem ((c : Thread nD τ).loc main_v44_2) = (dats m 0 c).arrAt 10 cfg0.N :=
  (θ_run defs _ _).mono (fun _ g c => ⟨(g c).1 8, (g c).1 9, (g c).1 10⟩) (run_main m ρ)

/-- The kernel's run: its results are the reference's arrays of its arguments, which it keeps. -/
theorem run (m : (ℓ : Loc nD τ sig) → Buf (Elt Ideal) ℓ) (ρ : Dev nD → PrngReg)
    (h : ∀ c, Real2 (A0 m c) ∧ Real2 (A1 m c) ∧ Real2 (A2 m c)) :
    θ_run defs (onTc (τ := τ) (main (F := Ideal))) ⟨m, fun _ => 0, ρ⟩ fun r => ∀ c : Dev nD,
      r.2.mem ((c : Thread nD τ).loc main_v44_0) = (Cert.ReferenceIdeal.Read.val_main_v87 (F := Ideal) (A0 m c) (A1 m c) (A2 m c) : S4096x4096.Idx → EReal)
      ∧ r.2.mem ((c : Thread nD τ).loc main_v44_1) = (Cert.ReferenceIdeal.Read.val_main_v89 (F := Ideal) (A0 m c) (A1 m c) (A2 m c) : S4096x4096.Idx → EReal)
      ∧ r.2.mem ((c : Thread nD τ).loc main_v44_2) = (Cert.ReferenceIdeal.Read.val_main_v91 (F := Ideal) (A0 m c) (A1 m c) (A2 m c) : S32x1x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).1.trans (dk_eq (h c).1 (h c).2.1 (h c).2.2), (g.2 c).2.1.trans (dv_eq (h c).1 (h c).2.1 (h c).2.2),
      (g.2 c).2.2.trans (dc_eq (h c).1 (h c).2.1 (h c).2.2), g.1 c⟩)
    (θ_run_and (unchanged m ρ) (arrays m ρ))

end Cert.KernelIdeal.Final

end
-- ==== Proof.Finite.lean ====
/- What the precondition says: every element of the three arguments is a real. -/
module

public import proofs.«01_k».proof.Pre_finite
public import proofs.«01_k».proof.Proof.Gen.Pre_finite
public import proofs.«01_k».proof.Proof.Scores

@[expose] public section

set_option maxRecDepth 16384

noncomputable section

namespace Cert.Finite

open Idealize.ShloMosaic Idealize.ShloMosaic.ValueIdx
open Cert.Rows Cert.Scores

theorem both {a b : BitVec 1} (h : IntOp.andi a b = 1#1) : a = 1#1 ∧ b = 1#1 := by revert a b; decide

theorem nil_eq (i j : Cert.Pre_finite.S_.Idx) : i = j := funext fun a => a.elim0

/-- A conjunction over an array of `|x| < ∞` leaves reals. -/
theorem real_of_all {n k : Nat} (x : FVec Ideal (⟨2, ![n, k]⟩ : Shape) .f32) (y : FVec Ideal (⟨2, ![n, k]⟩ : Shape) .f32)
    (hy : ∀ i, y i = ⊤) (init : IVec Cert.Pre_finite.S_ 1)
    (h : (⟨2, ![n, k]⟩ : Shape).ReducesTo [0, 1] Cert.Pre_finite.S_) (hu : 0 < Cert.Pre_finite.S_.numel) (j : Cert.Pre_finite.S_.Idx)
    (e : Host.reduce IntOp.andi (cmpf .olt (Host.absf x) y) init h hu j = 1#1) : Real2 x := by
  intro i
  have key := (foldl_andi _ _ _ e).2 ((⟨2, ![n, k]⟩ : Shape).rowMajor i)
    (List.mem_filter.mpr ⟨List.mem_finRange _, decide_eq_true (nil_eq _ _)⟩)
  rw [Equiv.symm_apply_apply] at key
  refine toReal_of_abs_lt ?_
  have k2 : BitVec.ofBool (decide (max (x i) (-(x i)) < y i)) = 1#1 := key
  rw [hy] at k2
  by_contra hc
  rw [decide_eq_false hc] at k2
  exact absurd k2 (by decide)

theorem reals (a0 : FVec Ideal Cert.Pre_finite.S4096x16384 .f32) (a1 : FVec Ideal Cert.Pre_finite.S4096x4096 .f32)
    (a2 : FVec Ideal Cert.Pre_finite.S4096x32 .f32)
    (h : Cert.Pre_finite.fn (F := Ideal) a0 a1 a2 = fun _ => 1#1) : Real2 a0 ∧ Real2 a1 ∧ Real2 a2 := by
  have h' := congrFun h (fun a => a.elim0)
  unfold Cert.Pre_finite.fn at h'
  obtain ⟨h01, e2⟩ := both h'
  obtain ⟨e0, e1⟩ := both h01
  exact ⟨real_of_all a0 _ (fun _ => lit_top) _ _ _ _ e0, real_of_all a1 _ (fun _ => lit_top) _ _ _ _ e1,
    real_of_all a2 _ (fun _ => lit_top) _ _ _ _ e2⟩

end Cert.Finite

end
-- ==== Proof.Prod.lean ====
/- Matrix products taken block by block, for all the products here: entries at plain numbers, the product of two tiles in the three
   ways they lie, and the running sum over the tiles of a block. -/
module

public import Idealize.ShloMosaic.Lib.Pipeline.Value
public import Idealize.ShloMosaic.PureOps.Ideal.Laws
public import Idealize.ShloMosaic.Lib.ValueIdx

@[expose] public section

noncomputable section

namespace Cert.Prod

open Idealize.ShloMosaic Idealize.ShloMosaic.TcCoe Idealize.ShloMosaic.ValueIdx

/-- The entry of a matrix at two numbers, zero outside the matrix. -/
def at2 {n0 n1 : ℕ} (A : (⟨2, ![n0, n1]⟩ : Shape).Idx → EReal) (r c : ℕ) : EReal :=
  if h : r < n0 ∧ c < n1 then A (ix2 ⟨r, h.1⟩ ⟨c, h.2⟩) else 0

theorem eq_at2 {n0 n1 : ℕ} (A : (⟨2, ![n0, n1]⟩ : Shape).Idx → EReal) (i : (⟨2, ![n0, n1]⟩ : Shape).Idx) {r c : ℕ}
    (hr : (i 0).val = r) (hc : (i 1).val = c) : A i = at2 A r c := by
  subst hr hc
  have h : (i 0).val < n0 ∧ (i 1).val < n1 := ⟨(i 0).isLt, (i 1).isLt⟩
  unfold at2
  rw [dif_pos h]
  exact congrArg A (funext fun a => match a with | ⟨0, _⟩ => rfl | ⟨1, _⟩ => rfl)

/-- A product of two matrices, from the pairs of entries it multiplies. -/
theorem dot {s t u : Shape} {φ₁ φ₂ : FTy} {m : ℕ} (d : DotDims s t u) (e : Fin m ≃ d.contr.Idx)
    (x : FVec Ideal s φ₁) (y : FVec Ideal t φ₂) (i : u.Idx) (f : ℕ → EReal)
    (h : ∀ k : Fin m, (x (d.lhsIdx i (e k)) : EReal) * y (d.rhsIdx i (e k)) = f k.val) :
    (matmul d none x y (constant u .f32 0x00000000#32) i : EReal) = ∑ k ∈ Finset.range m, f k := by
  refine (Ideal.matmul_constant_zero_apply d none x y i).trans ?_
  rw [← Equiv.sum_comp e, ← Fin.sum_univ_eq_sum_range]
  exact Finset.sum_congr rfl fun k _ => h k

/-- A tile of zeros. -/
theorem zero_tile {s : Shape} (i : s.Idx) : (broadcast (α := EReal) s (Ideal.ofBits .f32 0x00000000#32) i) = 0 := by
  simp [broadcast, Ideal.ofBits, Ideal.ieee]

/-- A sum over a matrix's rows or columns, from its terms. -/
theorem sum_eq {n : ℕ} (f : Fin n → EReal) (g : ℕ → EReal) (h : ∀ k, f k = g k.val) : ∑ k, f k = ∑ k ∈ Finset.range n, g k := by
  rw [← Fin.sum_univ_eq_sum_range]
  exact Finset.sum_congr rfl fun k _ => h k

/-! ### The product of two tiles, added to a tile -/

abbrev Tile (n0 n1 : ℕ) : Shape := ⟨2, ![n0, n1]⟩

/-- Columns of the left tile against rows of the right, columns against columns, and rows against rows. -/
def nn : DotDims (Tile 1024 2048) (Tile 2048 1024) (Tile 1024 1024) where
  lhsContracting := [1]
  rhsContracting := [0]
  lhsNonContracting := [0]
  rhsNonContracting := [1]
  lhsBatch := []
  rhsBatch := []
  wf := by decide
def nt : DotDims (Tile 1024 2048) (Tile 1024 2048) (Tile 1024 1024) where
  lhsContracting := [1]
  rhsContracting := [1]
  lhsNonContracting := [0]
  rhsNonContracting := [0]
  lhsBatch := []
  rhsBatch := []
  wf := by decide
def tn : DotDims (Tile 2048 1024) (Tile 2048 1024) (Tile 1024 1024) where
  lhsContracting := [0]
  rhsContracting := [0]
  lhsNonContracting := [1]
  rhsNonContracting := [1]
  lhsBatch := []
  rhsBatch := []
  wf := by decide

theorem tile_nn (acc : FVec Ideal (Tile 1024 1024) .f32) (x : FVec Ideal (Tile 1024 2048) .bf16) (y : FVec Ideal (Tile 2048 1024) .bf16)
    (r s : Fin 1024) (f : ℕ → EReal) (h : ∀ k : Fin 2048, (x (ix2 r k) : EReal) * y (ix2 k s) = f k.val) :
    (addf acc (matmul nn none x y (constant (Tile 1024 1024) .f32 0x00000000#32)) (ix2 r s) : EReal) = acc (ix2 r s) + ∑ k ∈ Finset.range 2048, f k :=
  congrArg ((acc (ix2 r s) : EReal) + ·) (dot nn (contrEquiv1 nn 2048 rfl rfl).symm x y (ix2 r s) f fun k => by
    have hk := contrEquiv1_symm_val nn 2048 rfl rfl k
    have el : nn.lhsIdx (ix2 r s) ((contrEquiv1 nn 2048 rfl rfl).symm k) = ix2 r k := funext fun a => Fin.ext (match a with | ⟨0, _⟩ => rfl | ⟨1, _⟩ => hk)
    have er : nn.rhsIdx (ix2 r s) ((contrEquiv1 nn 2048 rfl rfl).symm k) = ix2 k s := funext fun a => Fin.ext (match a with | ⟨0, _⟩ => hk | ⟨1, _⟩ => rfl)
    rw [el, er]
    exact h k)

theorem tile_nt (acc : FVec Ideal (Tile 1024 1024) .f32) (x y : FVec Ideal (Tile 1024 2048) .bf16)
    (r s : Fin 1024) (f : ℕ → EReal) (h : ∀ k : Fin 2048, (x (ix2 r k) : EReal) * y (ix2 s k) = f k.val) :
    (addf acc (matmul nt none x y (constant (Tile 1024 1024) .f32 0x00000000#32)) (ix2 r s) : EReal) = acc (ix2 r s) + ∑ k ∈ Finset.range 2048, f k :=
  congrArg ((acc (ix2 r s) : EReal) + ·) (dot nt (contrEquiv1 nt 2048 rfl rfl).symm x y (ix2 r s) f fun k => by
    have hk := contrEquiv1_symm_val nt 2048 rfl rfl k
    have el : nt.lhsIdx (ix2 r s) ((contrEquiv1 nt 2048 rfl rfl).symm k) = ix2 r k := funext fun a => Fin.ext (match a with | ⟨0, _⟩ => rfl | ⟨1, _⟩ => hk)
    have er : nt.rhsIdx (ix2 r s) ((contrEquiv1 nt 2048 rfl rfl).symm k) = ix2 s k := funext fun a => Fin.ext (match a with | ⟨0, _⟩ => rfl | ⟨1, _⟩ => hk)
    rw [el, er]
    exact h k)

theorem tile_tn (acc : FVec Ideal (Tile 1024 1024) .f32) (x y : FVec Ideal (Tile 2048 1024) .bf16)
    (r s : Fin 1024) (f : ℕ → EReal) (h : ∀ k : Fin 2048, (x (ix2 k r) : EReal) * y (ix2 k s) = f k.val) :
    (addf acc (matmul tn none x y (constant (Tile 1024 1024) .f32 0x00000000#32)) (ix2 r s) : EReal) = acc (ix2 r s) + ∑ k ∈ Finset.range 2048, f k :=
  congrArg ((acc (ix2 r s) : EReal) + ·) (dot tn (contrEquiv1 tn 2048 rfl rfl).symm x y (ix2 r s) f fun k => by
    have hk := contrEquiv1_symm_val tn 2048 rfl rfl k
    have el : tn.lhsIdx (ix2 r s) ((contrEquiv1 tn 2048 rfl rfl).symm k) = ix2 k r := funext fun a => Fin.ext (match a with | ⟨0, _⟩ => hk | ⟨1, _⟩ => rfl)
    have er : tn.rhsIdx (ix2 r s) ((contrEquiv1 tn 2048 rfl rfl).symm k) = ix2 k s := funext fun a => Fin.ext (match a with | ⟨0, _⟩ => hk | ⟨1, _⟩ => rfl)
    rw [el, er]
    exact h k)

/-! ### The running sum over a block's tiles -/

/-- A further tile's sum. -/
theorem next_tile (b n : ℕ) (f : ℕ → EReal) :
    ∑ k ∈ Finset.range (b * n), f k + ∑ k ∈ Finset.range b, f (b * n + k) = ∑ k ∈ Finset.range (b * (n + 1)), f k := by
  rw [Nat.mul_add b n 1, Nat.mul_one, Finset.sum_range_add]

/-- The number before one inside a block lies in the same block. -/
theorem before (n nk : ℕ) (hk : 0 < nk) (h : n % nk ≠ 0) : (n - 1) / nk = n / nk ∧ (n - 1) % nk + 1 = n % nk := by
  have e := Nat.div_add_mod n nk
  have l := Nat.mod_lt n hk
  have q : n - 1 = (n % nk - 1) + nk * (n / nk) := by omega
  rw [q, Nat.add_mul_div_left _ _ hk, Nat.add_mul_mod_self_left, Nat.div_eq_of_lt (by omega), Nat.mod_eq_of_lt (by omega)]
  omega

/-- A sum `o` over the points of a grid whose last axis has `nk` tiles of `b` terms each: a block's first tile begins it, the others go on.
    Before the last tile it is the sum of the block's terms so far. -/
theorem sums {N : ℕ} (b nk : ℕ) (hk : 2 ≤ nk) (o : (n : ℕ) → n < N → EReal) (g : ℕ → ℕ → EReal)
    (first : ∀ n h, n % nk = 0 → o n h = ∑ k ∈ Finset.range b, g (n / nk) (b * (n % nk) + k))
    (mid : ∀ n h h', n % nk ≠ 0 → n % nk + 1 ≠ nk → o n h = o (n - 1) h' + ∑ k ∈ Finset.range b, g (n / nk) (b * (n % nk) + k))
    (n : ℕ) (hn : n < N) (h : n % nk + 1 ≠ nk) : o n hn = ∑ k ∈ Finset.range (b * (n % nk + 1)), g (n / nk) k := by
  induction n with
  | zero =>
    have h0 : 0 % nk = 0 := Nat.zero_mod nk
    rw [first 0 hn h0, h0]
    simp
  | succ n ih =>
    by_cases h0 : (n + 1) % nk = 0
    · rw [first (n + 1) hn h0, h0]
      simp
    · have hm := before (n + 1) nk (by omega) h0
      rw [mid (n + 1) hn (by omega) h0 h, ← next_tile b ((n + 1) % nk) (g ((n + 1) / nk))]
      refine congrArg (· + _) ?_
      show o n _ = _
      rw [ih (by omega) (by have := hm.2; have := Nat.mod_lt (n + 1) (show 0 < nk by omega); simp only [Nat.add_sub_cancel] at hm; omega)]
      have h1 := hm.1
      have h2 := hm.2
      simp only [Nat.add_sub_cancel] at h1 h2
      rw [h1, h2]

/-- What the last tile completes is the sum of all the block's terms. -/
theorem last {N : ℕ} (b nk : ℕ) (hk : 2 ≤ nk) (o : (n : ℕ) → n < N → EReal) (g : ℕ → ℕ → EReal)
    (first : ∀ n h, n % nk = 0 → o n h = ∑ k ∈ Finset.range b, g (n / nk) (b * (n % nk) + k))
    (mid : ∀ n h h', n % nk ≠ 0 → n % nk + 1 ≠ nk → o n h = o (n - 1) h' + ∑ k ∈ Finset.range b, g (n / nk) (b * (n % nk) + k))
    (n : ℕ) (hn : n - 1 < N) (h : n % nk + 1 = nk) :
    o (n - 1) hn + ∑ k ∈ Finset.range b, g (n / nk) (b * (n % nk) + k) = ∑ k ∈ Finset.range (b * nk), g (n / nk) k := by
  have hm := before n nk (by omega) (by omega)
  rw [sums b nk hk o g first mid (n - 1) hn (by omega), hm.1, hm.2, next_tile b (n % nk) (g (n / nk)), h]

end Cert.Prod

end

end
-- ==== Proof.OutDw.lean ====
/- The gradient of the second layer's output weights: the call's array is the product of the layer's mixed heads, turned, and the
   gradient of its output. -/
module

public import proofs.«01_k».proof.Proof.Prod
public import proofs.«01_k».proof.Proof.Gen.Kernel3Ideal.Frame
public import proofs.«01_k».proof.Proof.Gen.Reference3Ideal.Read
public import Idealize.ShloMosaic.Lib.Pipeline.Value
public import Idealize.ShloMosaic.Lib.Tactic

@[expose] public section

set_option maxRecDepth 16384

noncomputable section

namespace Cert.Kernel3Ideal.OutDw

open Cert.Kernel3Ideal Cert.Kernel3Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S2048x1024) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S2048x1024) hz]

end Body

section Value
variable (m : (ℓ : Loc nD τ sig) → Buf (Elt Ideal) ℓ) (c : Dev nD)

/-- The mixed heads and the gradient of the layer's output. -/
abbrev X : S4096x4096.Idx → EReal := m ((c : Thread nD τ).loc main_arg0)
abbrev Y : S4096x4096.Idx → EReal := m ((c : Thread nD τ).loc main_arg2)

theorem V_left : (V m c main_v0 : S4096x4096.Idx → EReal) = X m c := by
  show StableHlo.after hostOps0 (fun b => m (c, b)) (Proc.devRef .tc main_v0) = _
  simp only [hostOps0]
  after_results_simp
  rfl

theorem V_right : (V m c main_v1 : S4096x4096.Idx → EReal) = Y m c := by
  show StableHlo.after hostOps0 (fun b => m (c, b)) (Proc.devRef .tc main_v1) = _
  simp only [hostOps0]
  after_results_simp
  rfl

/-! ### The tiles a point reads -/

theorem idxs : ∀ t : Fin grid0.N, (win0_0.index t 0 = t.val % 2 ∧ win0_0.index t 1 = t.val / 2 / 4)
    ∧ (win0_1.index t 0 = t.val % 2 ∧ win0_1.index t 1 = t.val / 2 % 4)
    ∧ (win0_2.index t 0 = t.val / 2 / 4 ∧ win0_2.index t 1 = t.val / 2 % 4) := by decide +kernel

theorem left (t : Fin cfg0.N) (k : Fin 2048) (r : Fin 1024) :
    (iblk m c 0 t : Vec Ideal S2048x1024 .bf16) (ix2 k r) = at2 (X m c) (2048 * (t.val % 2) + k.val) (1024 * (t.val / 2 / 4) + r.val) := by
  unfold iblk
  rw [View.read_apply]
  show (V m c main_v0 : S4096x4096.Idx → EReal) _ = _
  rw [V_left m c]
  refine eq_at2 _ _ ?_ ?_
  · show win0_0.index t 0 * 2048 + 1 * k.val = _
    rw [(idxs t).1.1]; omega
  · show win0_0.index t 1 * 1024 + 1 * r.val = _
    rw [(idxs t).1.2]; omega

theorem right (t : Fin cfg0.N) (k : Fin 2048) (s : Fin 1024) :
    (iblk m c 1 t : Vec Ideal S2048x1024 .bf16) (ix2 k s) = at2 (Y m c) (2048 * (t.val % 2) + k.val) (1024 * (t.val / 2 % 4) + s.val) := by
  unfold iblk
  rw [View.read_apply]
  show (V m c main_v1 : S4096x4096.Idx → EReal) _ = _
  rw [V_right m c]
  refine eq_at2 _ _ ?_ ?_
  · show win0_1.index t 0 * 2048 + 1 * k.val = _
    rw [(idxs t).2.1.1]; omega
  · show win0_1.index t 1 * 1024 + 1 * s.val = _
    rw [(idxs t).2.1.2]; omega

/-! ### A tile's product -/

/-- The term the entry at `r`, `s` of block `j` takes from row `k` of both matrices. -/
def term (j r s k : ℕ) : EReal := at2 (X m c) k (1024 * (j / 4) + r) * at2 (Y m c) k (1024 * (j % 4) + s)

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 2) r.val s.val (2048 * (t.val % 2) + k) := by
  unfold k0_pay2
  simp only [shapeCast_self]
  exact tile_tn acc _ _ r s _ fun k => congrArg₂ (· * ·) (left m c t k r) (right m c t k s)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, entry by entry. -/
theorem entry (i : S4096x4096.Idx) (j r s : ℕ) (h0 : (i 0).val = 1024 * (j / 4) + r) (h1 : (i 1).val = 1024 * (j % 4) + s) :
    (Cert.Reference3Ideal.Read.val_main_v2 (F := Ideal) (X m c) (Y m c) i : EReal) = ∑ k ∈ Finset.range 4096, term m c j r s k := by
  rw [Cert.Reference3Ideal.Read.val_main_v2_apply, Cert.Reference3Ideal.Read.val_main_v1_apply]
  refine sum_eq _ _ fun k => (mul_comm _ _).trans (congrArg₂ (· * ·) ?_ ?_)
  · exact eq_at2 _ _ rfl h0
  · exact eq_at2 _ _ rfl h1

theorem cover (i : S4096x4096.Idx) : ∃ t : Fin cfg0.N, (cfg0.win 2).flush t = true ∧ i ∈ ((cfg0.win 2).blk t).view.set := by
  have b0 : (i 0).val < 4096 := (i 0).isLt
  have b1 : (i 1).val < 4096 := (i 1).isLt
  let t : Fin cfg0.N := ⟨8 * ((i 0).val / 1024) + 2 * ((i 1).val / 1024) + 1, lt_of_lt_of_eq (by omega : _ < 32) (show 32 = cfg0.N from N_0.symm)⟩
  have ht : t.val = 8 * ((i 0).val / 1024) + 2 * ((i 1).val / 1024) + 1 := rfl
  have e := (idxs t).2.2
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e.1]; omega
  | ⟨1, _⟩ => show win0_2.index t 1 * 1024 ≤ (i 1).val ∧ (i 1).val < win0_2.index t 1 * 1024 + 1024; rw [e.2]; omega

theorem array : (dats m 0 c).arrAt 2 cfg0.N = (Cert.Reference3Ideal.Read.val_main_v2 (F := Ideal) (X m c) (Y m c) : S4096x4096.Idx → EReal) := by
  refine (dats m 0 c).arrAt_eq_of_cover 2 _ (fun t hf => ?_) cover
  have h1 : t.val % 2 = 1 := (flush0_2 t).mp hf
  have e := (idxs t).2.2
  show (cfg0.win 2).cut (grid0.coords t) ((dats m 0 c).after 2 t) = _
  rw [after0_2]
  funext y
  have y0 : (y 0).val < 1024 := (y 0).isLt
  have y1 : (y 1).val < 1024 := (y 1).isLt
  have ey : ((cfg0.win 2).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (outsAt0 m c t.val t.isLt).1 ((cfg0.win 2).xinj (grid0.coords t) y) = Cert.Reference3Ideal.Read.val_main_v2 (F := Ideal) (X m c) (Y m c) (((cfg0.win 2).blk t).view.emb y)
  rw [ey, block m c t h1]
  refine (entry m c _ (t.val / 2) (y 0).val (y 1).val ?_ ?_).symm
  · show win0_2.index t 0 * 1024 + 1 * (y 0).val = _
    rw [e.1]; omega
  · show win0_2.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference3Ideal.Read.val_main_v2 (F := Ideal) (X m c) (Y m c) : S4096x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel3Ideal.OutDw

end
-- ==== Proof.OutDx.lean ====
/- The gradient of what the second layer's output weights multiply: the call's array is the product of the gradient of the layer's
   output and the weights, turned. -/
module

public import proofs.«01_k».proof.Proof.Prod
public import proofs.«01_k».proof.Proof.Gen.Kernel4Ideal.Frame
public import proofs.«01_k».proof.Proof.Gen.Reference4Ideal.Read
public import Idealize.ShloMosaic.Lib.Pipeline.Value
public import Idealize.ShloMosaic.Lib.Tactic

@[expose] public section

set_option maxRecDepth 16384

noncomputable section

namespace Cert.Kernel4Ideal.OutDx

open Cert.Kernel4Ideal Cert.Kernel4Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S1024x2048) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz]

end Body

section Value
variable (m : (ℓ : Loc nD τ sig) → Buf (Elt Ideal) ℓ) (c : Dev nD)

/-- The gradient of the layer's output, and the weights. -/
abbrev X : S4096x4096.Idx → EReal := m ((c : Thread nD τ).loc main_arg2)
abbrev Y : S4096x4096.Idx → EReal := m ((c : Thread nD τ).loc main_arg1)

theorem V_left : (V m c main_v0 : S4096x4096.Idx → EReal) = X m c := by
  show StableHlo.after hostOps0 (fun b => m (c, b)) (Proc.devRef .tc main_v0) = _
  simp only [hostOps0]
  after_results_simp
  rfl

theorem V_right : (V m c main_v1 : S4096x4096.Idx → EReal) = Y m c := by
  show StableHlo.after hostOps0 (fun b => m (c, b)) (Proc.devRef .tc main_v1) = _
  simp only [hostOps0]
  after_results_simp
  rfl

/-! ### The tiles a point reads -/

theorem idxs : ∀ t : Fin grid0.N, (win0_0.index t 0 = t.val / 2 / 4 ∧ win0_0.index t 1 = t.val % 2)
    ∧ (win0_1.index t 0 = t.val / 2 % 4 ∧ win0_1.index t 1 = t.val % 2)
    ∧ (win0_2.index t 0 = t.val / 2 / 4 ∧ win0_2.index t 1 = t.val / 2 % 4) := by decide +kernel

theorem left (t : Fin cfg0.N) (r : Fin 1024) (k : Fin 2048) :
    (iblk m c 0 t : Vec Ideal S1024x2048 .bf16) (ix2 r k) = at2 (X m c) (1024 * (t.val / 2 / 4) + r.val) (2048 * (t.val % 2) + k.val) := by
  unfold iblk
  rw [View.read_apply]
  show (V m c main_v0 : S4096x4096.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (s : Fin 1024) (k : Fin 2048) :
    (iblk m c 1 t : Vec Ideal S1024x2048 .bf16) (ix2 s k) = at2 (Y m c) (1024 * (t.val / 2 % 4) + s.val) (2048 * (t.val % 2) + k.val) := by
  unfold iblk
  rw [View.read_apply]
  show (V m c main_v1 : S4096x4096.Idx → EReal) _ = _
  rw [V_right m c]
  refine eq_at2 _ _ ?_ ?_
  · show win0_1.index t 0 * 1024 + 1 * s.val = _
    rw [(idxs t).2.1.1]; omega
  · show win0_1.index t 1 * 2048 + 1 * k.val = _
    rw [(idxs t).2.1.2]; omega

/-! ### A tile's product -/

/-- The term the entry at `r`, `s` of block `j` takes from column `k` of both matrices. -/
def term (j r s k : ℕ) : EReal := at2 (X m c) (1024 * (j / 4) + r) k * at2 (Y m c) (1024 * (j % 4) + s) k

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 2) r.val s.val (2048 * (t.val % 2) + k) := by
  unfold k0_pay2
  simp only [shapeCast_self]
  exact tile_nt acc _ _ r s _ fun k => congrArg₂ (· * ·) (left m c t r k) (right m c t s k)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, entry by entry. -/
theorem entry (i : S4096x4096.Idx) (j r s : ℕ) (h0 : (i 0).val = 1024 * (j / 4) + r) (h1 : (i 1).val = 1024 * (j % 4) + s) :
    (Cert.Reference4Ideal.Read.val_main_v1 (F := Ideal) (Y m c) (X m c) i : EReal) = ∑ k ∈ Finset.range 4096, term m c j r s k := by
  rw [Cert.Reference4Ideal.Read.val_main_v1_apply]
  refine sum_eq _ _ fun k => congrArg₂ (· * ·) ?_ ?_
  · exact eq_at2 _ _ h0 rfl
  · exact eq_at2 _ _ h1 rfl

theorem cover (i : S4096x4096.Idx) : ∃ t : Fin cfg0.N, (cfg0.win 2).flush t = true ∧ i ∈ ((cfg0.win 2).blk t).view.set := by
  have b0 : (i 0).val < 4096 := (i 0).isLt
  have b1 : (i 1).val < 4096 := (i 1).isLt
  let t : Fin cfg0.N := ⟨8 * ((i 0).val / 1024) + 2 * ((i 1).val / 1024) + 1, lt_of_lt_of_eq (by omega : _ < 32) (show 32 = cfg0.N from N_0.symm)⟩
  have ht : t.val = 8 * ((i 0).val / 1024) + 2 * ((i 1).val / 1024) + 1 := rfl
  have e := (idxs t).2.2
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e.1]; omega
  | ⟨1, _⟩ => show win0_2.index t 1 * 1024 ≤ (i 1).val ∧ (i 1).val < win0_2.index t 1 * 1024 + 1024; rw [e.2]; omega

theorem array : (dats m 0 c).arrAt 2 cfg0.N = (Cert.Reference4Ideal.Read.val_main_v1 (F := Ideal) (Y m c) (X m c) : S4096x4096.Idx → EReal) := by
  refine (dats m 0 c).arrAt_eq_of_cover 2 _ (fun t hf => ?_) cover
  have h1 : t.val % 2 = 1 := (flush0_2 t).mp hf
  have e := (idxs t).2.2
  show (cfg0.win 2).cut (grid0.coords t) ((dats m 0 c).after 2 t) = _
  rw [after0_2]
  funext y
  have y0 : (y 0).val < 1024 := (y 0).isLt
  have y1 : (y 1).val < 1024 := (y 1).isLt
  have ey : ((cfg0.win 2).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (outsAt0 m c t.val t.isLt).1 ((cfg0.win 2).xinj (grid0.coords t) y) = Cert.Reference4Ideal.Read.val_main_v1 (F := Ideal) (Y m c) (X m c) (((cfg0.win 2).blk t).view.emb y)
  rw [ey, block m c t h1]
  refine (entry m c _ (t.val / 2) (y 0).val (y 1).val ?_ ?_).symm
  · show win0_2.index t 0 * 1024 + 1 * (y 0).val = _
    rw [e.1]; omega
  · show win0_2.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference4Ideal.Read.val_main_v1 (F := Ideal) (Y m c) (X m c) : S4096x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel4Ideal.OutDx

end
-- ==== Proof.InProj.lean ====
/- The second layer's input projection, forward: the call's array is the product of the layer's input and the first 16384 columns
   of its weights, which the host turns for the kernel. -/
module

public import proofs.«01_k».proof.Proof.Prod
public import proofs.«01_k».proof.Proof.Gen.Kernel5Ideal.Frame
public import proofs.«01_k».proof.Proof.Gen.Reference5Ideal.Read
public import Idealize.ShloMosaic.Lib.Pipeline.Value
public import Idealize.ShloMosaic.Lib.Tactic

@[expose] public section

set_option maxRecDepth 16384

noncomputable section

namespace Cert.Kernel5Ideal.InProj

open Cert.Kernel5Ideal Cert.Kernel5Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (X0_1 m c t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S1024x2048) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (X0_1 m c t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz]

end Body

section Value
variable (m : (ℓ : Loc nD τ sig) → Buf (Elt Ideal) ℓ) (c : Dev nD)

/-- The layer's input, and the weights. -/
abbrev X : S4096x4096.Idx → EReal := m ((c : Thread nD τ).loc main_arg0)
abbrev Y : S4096x16416.Idx → EReal := m ((c : Thread nD τ).loc main_arg1)

theorem V_left : (V m c main_v2 : S4096x4096.Idx → EReal) = X m c := by
  show StableHlo.after hostOps0 (fun b => m (c, b)) (Proc.devRef .tc main_v2) = _
  simp only [hostOps0]
  after_results_simp
  rfl

theorem V_right : (V m c main_v1 : S16416x4096.Idx → EReal) = transpose S16416x4096 [1, 0] (Y m c) transposes_S4096x16416_S16416x4096_1_0 := by
  show StableHlo.after hostOps0 (fun b => m (c, b)) (Proc.devRef .tc main_v1) = _
  simp only [hostOps0]
  after_results_simp
  rfl

/-! ### The tiles a point reads -/

theorem idxs : ∀ t : Fin grid0.N, (win0_0.index t 0 = t.val / 2 / 16 ∧ win0_0.index t 1 = t.val % 2)
    ∧ (win0_1.index t 0 = t.val / 2 % 16 ∧ win0_1.index t 1 = t.val % 2)
    ∧ (win0_2.index t 0 = t.val / 2 / 16 ∧ win0_2.index t 1 = t.val / 2 % 16) := by decide +kernel

theorem left (t : Fin cfg0.N) (r : Fin 1024) (k : Fin 2048) :
    (iblk m c 0 t : Vec Ideal S1024x2048 .bf16) (ix2 r k) = at2 (X m c) (1024 * (t.val / 2 / 16) + r.val) (2048 * (t.val % 2) + k.val) := by
  unfold iblk
  rw [View.read_apply]
  show (V m c main_v2 : S4096x4096.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (s : Fin 1024) (k : Fin 2048) :
    (X0_1 m c t : Vec Ideal S1024x2048 .bf16) (ix2 s k) = at2 (Y m c) (2048 * (t.val % 2) + k.val) (1024 * (t.val / 2 % 16) + s.val) := by
  unfold X0_1 Pipeline.Window.fill
  rw [dif_pos (moved0_1 t _)]
  unfold iblk
  rw [View.read_apply]
  show (V m c main_v1 : S16416x4096.Idx → EReal) _ = _
  rw [V_right m c]
  refine (transpose_apply [1, 0] (Y m c) _ _ (ix2 ⟨2048 * (t.val % 2) + k.val, by omega⟩ ⟨1024 * (t.val / 2 % 16) + s.val, by omega⟩) (fun b => match b with
    | ⟨0, _⟩ => ?_
    | ⟨1, _⟩ => ?_)).trans (eq_at2 _ _ rfl rfl)
  · show 1024 * (t.val / 2 % 16) + s.val = win0_1.index t 0 * 1024 + 1 * s.val
    rw [(idxs t).2.1.1]; omega
  · show 2048 * (t.val % 2) + k.val = win0_1.index t 1 * 2048 + 1 * k.val
    rw [(idxs t).2.1.2]; omega

/-! ### A tile's product -/

/-- The term the entry at `r`, `s` of block `j` takes from column `k` of the input and row `k` of the weights. -/
def term (j r s k : ℕ) : EReal := at2 (X m c) (1024 * (j / 16) + r) k * at2 (Y m c) k (1024 * (j % 16) + s)

theorem step (t : Fin cfg0.N) (acc : Vec Ideal S1024x1024 .f32) (r s : Fin 1024) :
    (k0_pay2 acc (iblk m c 0 t) (X0_1 m c t) (ix2 r s) : EReal)
      = acc (ix2 r s) + ∑ k ∈ Finset.range 2048, term m c (t.val / 2) r.val s.val (2048 * (t.val % 2) + k) := by
  unfold k0_pay2
  simp only [shapeCast_self]
  exact tile_nt acc _ _ r s _ fun k => congrArg₂ (· * ·) (left m c t r k) (right m c t s k)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, entry by entry. -/
theorem entry (i : S4096x16384.Idx) (j r s : ℕ) (h0 : (i 0).val = 1024 * (j / 16) + r) (h1 : (i 1).val = 1024 * (j % 16) + s) :
    (Cert.Reference5Ideal.Read.val_main_v1 (F := Ideal) (X m c) (Y m c) i : EReal) = ∑ k ∈ Finset.range 4096, term m c j r s k := by
  rw [Cert.Reference5Ideal.Read.val_main_v1_apply, Cert.Reference5Ideal.Read.val_main_v0_apply]
  refine sum_eq _ _ fun k => congrArg₂ (· * ·) ?_ ?_
  · exact eq_at2 _ _ h0 rfl
  · exact eq_at2 _ _ rfl h1

theorem cover (i : S4096x16384.Idx) : ∃ t : Fin cfg0.N, (cfg0.win 2).flush t = true ∧ i ∈ ((cfg0.win 2).blk t).view.set := by
  have b0 : (i 0).val < 4096 := (i 0).isLt
  have b1 : (i 1).val < 16384 := (i 1).isLt
  let t : Fin cfg0.N := ⟨32 * ((i 0).val / 1024) + 2 * ((i 1).val / 1024) + 1, lt_of_lt_of_eq (by omega : _ < 128) (show 128 = cfg0.N from N_0.symm)⟩
  have ht : t.val = 32 * ((i 0).val / 1024) + 2 * ((i 1).val / 1024) + 1 := rfl
  have e := (idxs t).2.2
  refine ⟨t, (flush0_2 t).mpr (by omega), ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e.1]; omega
  | ⟨1, _⟩ => show win0_2.index t 1 * 1024 ≤ (i 1).val ∧ (i 1).val < win0_2.index t 1 * 1024 + 1024; rw [e.2]; omega

theorem array : (dats m 0 c).arrAt 2 cfg0.N = (Cert.Reference5Ideal.Read.val_main_v1 (F := Ideal) (X m c) (Y m c) : S4096x16384.Idx → EReal) := by
  refine (dats m 0 c).arrAt_eq_of_cover 2 _ (fun t hf => ?_) cover
  have h1 : t.val % 2 = 1 := (flush0_2 t).mp hf
  have e := (idxs t).2.2
  show (cfg0.win 2).cut (grid0.coords t) ((dats m 0 c).after 2 t) = _
  rw [after0_2]
  funext y
  have y0 : (y 0).val < 1024 := (y 0).isLt
  have y1 : (y 1).val < 1024 := (y 1).isLt
  have ey : ((cfg0.win 2).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (outsAt0 m c t.val t.isLt).1 ((cfg0.win 2).xinj (grid0.coords t) y) = Cert.Reference5Ideal.Read.val_main_v1 (F := Ideal) (X m c) (Y m c) (((cfg0.win 2).blk t).view.emb y)
  rw [ey, block m c t h1]
  refine (entry m c _ (t.val / 2) (y 0).val (y 1).val ?_ ?_).symm
  · show win0_2.index t 0 * 1024 + 1 * (y 0).val = _
    rw [e.1]; omega
  · show win0_2.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (Cert.Reference5Ideal.Read.val_main_v1 (F := Ideal) (X m c) (Y m c) : S4096x16384.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ g c => ⟨(g.2 c).trans (array m c), g.1 c⟩) (θ_run_and (unchanged m ρ) (arrays m ρ))

end Cert.Kernel5Ideal.InProj

end
-- ==== Proof.KeptRows.lean ====
/- A matrix put together from three parts by rows, of which the middle one is new and the outer two are kept. -/
module

public import proofs.«01_k».proof.Proof.Prod
public import Idealize.ShloMosaic.Lib.Pointwise.SelectCore

@[expose] public section

noncomputable section

namespace Cert.Prod

open Idealize.ShloMosaic.TcCoe Idealize.ShloMosaic.ValueIdx
open Idealize.ShloMosaic hiding ix2

/-- A matrix whose rows from `n0` on, `n1` of them, are another's, and whose other rows are kept, put together from three parts. -/
theorem kept_rows {n0 n1 n2 n m : ℕ} (A : (Tile n0 m).Idx → EReal) (G : (Tile n1 m).Idx → EReal) (C : (Tile n2 m).Idx → EReal) (B : (Tile n m).Idx → EReal)
    (h : Shape.Concatenates [Tile n0 m, Tile n1 m, Tile n2 m] (Tile n m) 0) {g : ℕ → ℕ → EReal}
    (hA : ∀ q, A q = at2 B (q 0).val (q 1).val) (hC : ∀ q, C q = at2 B (n0 + n1 + (q 0).val) (q 1).val) (hG : ∀ q, G q = g (q 0).val (q 1).val)
    (i : (Tile n m).Idx) :
    concatenate (Tile n m) 0 [⟨Tile n0 m, A⟩, ⟨Tile n1 m, G⟩, ⟨Tile n2 m, C⟩] h i
      = if n0 ≤ (i 0).val ∧ (i 0).val < n0 + n1 then g ((i 0).val - n0) (i 1).val else B i := by
  rw [concatenate_apply, concatenateAt_cons]
  split
  · rename_i h0
    have h0' : (i 0).val < n0 := h0
    rw [if_neg (by omega), hA]
    exact (eq_at2 B i rfl rfl).symm
  · rename_i h0
    have h0' : ¬ (i 0).val < n0 := h0
    rw [concatenateAt_cons]
    split
    · rename_i h1
      have h1' : (i 0).val - n0 < n1 := h1
      rw [if_pos (by omega), hG]
      rfl
    · rename_i h1
      have h1' : ¬ (i 0).val - n0 < n1 := h1
      rw [if_neg (by omega), concatenateAt_singleton, hC]
      refine (eq_at2 B i ?_ rfl).symm
      show (i 0).val = n0 + n1 + ((i 0).val - n0 - n1)
      omega

end Cert.Prod

end

end
-- ==== Proof.InDw.lean ====
/- The gradient of the first layer's input weights, the part of its second branch: the call's array holds the product of the
   gradient of that part of the projection, turned, and the layer's input in rows 10240 to 18431, and keeps the other rows. -/
module

public import proofs.«01_k».proof.Proof.KeptRows
public import proofs.«01_k».proof.Proof.Gen.Kernel6Ideal.Frame
public import proofs.«01_k».proof.Proof.Gen.Reference6Ideal.Read
public import Idealize.ShloMosaic.Lib.Pipeline.Value
public import Idealize.ShloMosaic.Lib.Pipeline.ValueKit.Partial
public import Idealize.ShloMosaic.Lib.Tactic

@[expose] public section

set_option maxRecDepth 16384

noncomputable section

namespace Cert.Kernel6Ideal.InDw

open Cert.Kernel6Ideal Cert.Kernel6Ideal.Gen Idealize.ShloMosaic.TcCoe Idealize.SL.Sem Idealize.ShloMosaic.ValueIdx
open Cert.Prod
open Idealize.ShloMosaic hiding ix2

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S2048x1024) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S2048x1024) hz]

end Body

section Value
variable (m : (ℓ : Loc nD τ sig) → Buf (Elt Ideal) ℓ) (c : Dev nD)

/-- The gradient of that part of the projection, the layer's input, and the array whose other rows are kept. -/
abbrev X : S4096x8192.Idx → EReal := m ((c : Thread nD τ).loc main_arg0)
abbrev Y : S4096x4096.Idx → EReal := m ((c : Thread nD τ).loc main_arg1)
abbrev B : S18528x4096.Idx → EReal := m ((c : Thread nD τ).loc main_arg2)

theorem V_left : (V m c main_v0 : S4096x8192.Idx → EReal) = X m c := by
  show StableHlo.after hostOps0 (fun b => m (c, b)) (Proc.devRef .tc main_v0) = _
  simp only [hostOps0]
  after_results_simp
  rfl

theorem V_right : (V m c main_v1 : S4096x4096.Idx → EReal) = Y m c := by
  show StableHlo.after hostOps0 (fun b => m (c, b)) (Proc.devRef .tc main_v1) = _
  simp only [hostOps0]
  after_results_simp
  rfl

/-- The result's buffer holds the third argument when the grid starts. -/
theorem V_out : (V m c main_v2 : S18528x4096.Idx → EReal) = B m c := by
  show StableHlo.after hostOps0 (fun b => m (c, b)) (Proc.devRef .tc main_v2) = _
  simp only [hostOps0]
  after_results_simp
  rfl

/-! ### The tiles a point reads -/

theorem idxs : ∀ t : Fin grid0.N, (win0_0.index t 0 = t.val % 2 ∧ win0_0.index t 1 = t.val / 2 / 4)
    ∧ (win0_1.index t 0 = t.val % 2 ∧ win0_1.index t 1 = t.val / 2 % 4)
    ∧ (win0_2.index t 0 = t.val / 2 / 4 + 10 ∧ win0_2.index t 1 = t.val / 2 % 4) := by decide +kernel

theorem left (t : Fin cfg0.N) (k : Fin 2048) (r : Fin 1024) :
    (iblk m c 0 t : Vec Ideal S2048x1024 .bf16) (ix2 k r) = at2 (X m c) (2048 * (t.val % 2) + k.val) (1024 * (t.val / 2 / 4) + r.val) := by
  unfold iblk
  rw [View.read_apply]
  show (V m c main_v0 : S4096x8192.Idx → EReal) _ = _
  rw [V_left m c]
  refine eq_at2 _ _ ?_ ?_
  · show win0_0.index t 0 * 2048 + 1 * k.val = _
    rw [(idxs t).1.1]; omega
  · show win0_0.index t 1 * 1024 + 1 * r.val = _
    rw [(idxs t).1.2]; omega

theorem right (t : Fin cfg0.N) (k : Fin 2048) (s : Fin 1024) :
    (iblk m c 1 t : Vec Ideal S2048x1024 .bf16) (ix2 k s) = at2 (Y m c) (2048 * (t.val % 2) + k.val) (1024 * (t.val / 2 % 4) + s.val) := by
  unfold iblk
  rw [View.read_apply]
  show (V m c main_v1 : S4096x4096.Idx → EReal) _ = _
  rw [V_right m c]
  refine eq_at2 _ _ ?_ ?_
  · show win0_1.index t 0 * 2048 + 1 * k.val = _
    rw [(idxs t).2.1.1]; omega
  · show win0_1.index t 1 * 1024 + 1 * s.val = _
    rw [(idxs t).2.1.2]; omega

/-! ### A tile's product -/

/-- The term the entry at `r`, `s` of block `j` takes from row `k` of both matrices. -/
def term (j r s k : ℕ) : EReal := at2 (X m c) k (1024 * (j / 4) + r) * at2 (Y m c) k (1024 * (j % 4) + s)

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 2) r.val s.val (2048 * (t.val % 2) + k) := by
  unfold k0_pay2
  simp only [shapeCast_self]
  exact tile_tn acc _ _ r s _ fun k => congrArg₂ (· * ·) (left m c t k r) (right m c t k s)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, read in its three parts. -/
theorem parts (i : S18528x4096.Idx) :
    (Cert.Reference6Ideal.Read.val_main_v7 (F := Ideal) (X m c) (Y m c) (B m c) i : EReal)
      = if 10240 ≤ (i 0).val ∧ (i 0).val < 18432 then ∑ k ∈ Finset.range 4096, at2 (X m c) k ((i 0).val - 10240) * at2 (Y m c) k (i 1).val
        else B m c i := by
  unfold Cert.Reference6Ideal.Read.val_main_v7
  refine kept_rows (n0 := 10240) (n1 := 8192) (n2 := 96) _ _ _ (B m c) _
    (g := fun r s => ∑ k ∈ Finset.range 4096, at2 (X m c) k r * at2 (Y m c) k s) (fun q => ?_) (fun q => ?_) (fun q => ?_) i
  · rw [Cert.Reference6Ideal.Read.val_main_v4_apply]
    exact eq_at2 _ _ rfl rfl
  · rw [Cert.Reference6Ideal.Read.val_main_v6_apply]
    exact eq_at2 _ _ rfl rfl
  · rw [Cert.Reference6Ideal.Read.val_main_v5_apply, Cert.Reference6Ideal.Read.val_main_v3_apply, Cert.Reference6Ideal.Read.val_main_v2_apply]
    exact sum_eq _ _ fun k => congrArg₂ (· * ·) (eq_at2 _ _ rfl rfl) (eq_at2 _ _ rfl rfl)

/-- The reference's array in the rows written. -/
theorem entry (i : S18528x4096.Idx) (j r s : ℕ) (hj : j < 32) (hr : r < 1024) (h0 : (i 0).val = 1024 * (j / 4 + 10) + r) (h1 : (i 1).val = 1024 * (j % 4) + s) :
    (Cert.Reference6Ideal.Read.val_main_v7 (F := Ideal) (X m c) (Y m c) (B m c) i : EReal) = ∑ k ∈ Finset.range 4096, term m c j r s k := by
  rw [parts, if_pos (by omega), h0, h1]
  refine Finset.sum_congr rfl fun k _ => ?_
  unfold term
  rw [show 1024 * (j / 4 + 10) + r - 10240 = 1024 * (j / 4) + r by omega]

/-- The reference's array in the rows kept. -/
theorem entry_kept (i : S18528x4096.Idx) (h : ¬ (10240 ≤ (i 0).val ∧ (i 0).val < 18432)) :
    (Cert.Reference6Ideal.Read.val_main_v7 (F := Ideal) (X m c) (Y m c) (B m c) i : EReal) = B m c i := by
  rw [parts, if_neg h]

theorem array : (dats m 0 c).arrAt 2 cfg0.N = (Cert.Reference6Ideal.Read.val_main_v7 (F := Ideal) (X m c) (Y m c) (B m c) : S18528x4096.Idx → EReal) := by
  refine (dats m 0 c).arrAt_eq_of_coversWhere_of_agree 2 _ (fun β => 10 ≤ β (0 : Fin 2) ∧ β (0 : Fin 2) < 18) (by decide +kernel) (fun t hf y => ?_) (fun j hj => ?_)
  · have h1 : t.val % 2 = 1 := (flush0_2 t).mp hf
    have e := (idxs t).2.2
    have y0 : (y 0).val < 1024 := Nat.lt_of_lt_of_le (y 0).isLt ((cfg0.win 2).xsize_le (grid0.coords t) 0)
    have y1 : (y 1).val < 1024 := Nat.lt_of_lt_of_le (y 1).isLt ((cfg0.win 2).xsize_le (grid0.coords t) 1)
    have ey : ((cfg0.win 2).xinj (grid0.coords t) y : S1024x1024.Idx) = ix2 (⟨(y 0).val, y0⟩ : Fin 1024) (⟨(y 1).val, y1⟩ : Fin 1024) :=
      funext fun a => match a with | ⟨0, _⟩ => rfl | ⟨1, _⟩ => rfl
    show (dats m 0 c).after 2 t ((cfg0.win 2).xinj (grid0.coords t) y) = Cert.Reference6Ideal.Read.val_main_v7 (F := Ideal) (X m c) (Y m c) (B m c) (((cfg0.win 2).blk t).view.emb y)
    rw [after0_2, ey, block m c t h1]
    refine (entry m c _ (t.val / 2) (y 0).val (y 1).val (by have hN : t.val < 64 := lt_of_lt_of_eq t.isLt N_0; omega) y0 ?_ ?_).symm
    · show win0_2.index t 0 * 1024 + 1 * (y 0).val = _
      rw [e.1]; omega
    · show win0_2.index t 1 * 1024 + 1 * (y 1).val = _
      rw [e.2]; omega
  · show (V m c main_v2 : S18528x4096.Idx → EReal) j = _
    rw [V_out m c]
    have b0 : (j 0).val < 18528 := (j 0).isLt
    refine (entry_kept m c j ?_).symm
    have h : ¬ (10 ≤ (j 0).val / 1024 ∧ (j 0).val / 1024 < 18) := hj
    omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference6Ideal.Read.val_main_v7 (F := Ideal) (X m c) (Y m c) (B m c) : S18528x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel6Ideal.InDw

end
-- ==== Proof.InDx.lean ====
/- The gradient of the first layer's input, the part of its second branch: the call's array is what the other branches gave plus the
   product of the gradient of that part of the projection and the weights' columns 10240 to 18431, turned by the host. -/
module

public import proofs.«01_k».proof.Proof.Prod
public import proofs.«01_k».proof.Proof.Gen.Kernel7Ideal.Frame
public import proofs.«01_k».proof.Proof.Gen.Reference7Ideal.Read
public import Idealize.ShloMosaic.Lib.Pipeline.Value
public import Idealize.ShloMosaic.Lib.Pipeline.ValueKit.Geometry
public import Idealize.ShloMosaic.Lib.Tactic

@[expose] public section

set_option maxRecDepth 16384

noncomputable section

namespace Cert.Kernel7Ideal.InDx

open Cert.Kernel7Ideal Cert.Kernel7Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 4 = 0) :
    (outsAt0 m c t.val t.isLt).2 = k0_pay2 (k0_pay1 (F := F)) (iblk m c 0 t) (X0_1 m c t) := by
  rw [outsAt0_A m c t h (by omega)]
  dsimp only
  unfold sout0_A_0
  rw [View.read_writes_eq_canon _ _ _ (scover0_A_0 c _ _ _ _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz, View.ld_unit_zero (S := S2048x1024) hz]

/-- The sum after a tile in the middle of a block. -/
theorem sum_mid (t : Fin cfg0.N) (h0 : ¬ t.val % 4 = 0) (h1 : ¬ t.val % 4 = 3) :
    (outsAt0 m c t.val t.isLt).2
      = k0_pay2 (outsAt0 m c (t.val - 1) (Nat.lt_of_le_of_lt (Nat.sub_le _ _) t.isLt)).2 (iblk m c 0 t) (X0_1 m c t) := by
  rw [outsAt0_B m c t h0 h1]
  dsimp only
  unfold sout0_B_0
  rw [View.read_writes_eq_canon _ _ _ (scover0_B_0 c _ _ _ _ _ _ _ _ _ _ _ _ _ _ _ _ _)]
  unfold kernelRun0_B
  dsimp only
  try sl_unfold_words
  rw [View.canon_unit_zero (S := S1024x1024) hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz, View.ld_unit_zero (S := S2048x1024) hz]

/-- The block written after the last tile. -/
theorem out_last (t : Fin cfg0.N) (h : t.val % 4 = 3) :
    (outsAt0 m c t.val t.isLt).1
      = k0_pay3 (k0_pay2 (outsAt0 m c (t.val - 1) (Nat.lt_of_le_of_lt (Nat.sub_le _ _) t.isLt)).2 (iblk m c 0 t) (X0_1 m c t)) (iblk m c 2 t) := by
  rw [outsAt0_C m c t (by omega) h]
  dsimp only
  unfold out0_C_3
  rw [View.read_writes_eq_canon _ _ _ (cover0_C_3 c _ _ _ _ _ _ _ _ _ _ _ _ _ _ _ _ _)]
  unfold kernelRun0_C
  dsimp only
  try sl_unfold_words
  rw [View.canon_unit_zero (S := S1024x1024) hz, View.readCov_unit_zero (S := S1024x1024) _ hz]
  simp only [View.readAt_eq_ld, (hs0_0 t).read_unread, (hs0_1 t).read_unread, (hs0_2 t).read_unread, (Memref.isWhole_whole _ : scM0_0.IsWhole).read_unread, View.ld_unit_zero (S := S1024x1024) hz, View.ld_unit_zero (S := S1024x2048) hz, View.ld_unit_zero (S := S2048x1024) hz]

end Body

section Value
variable (m : (ℓ : Loc nD τ sig) → Buf (Elt Ideal) ℓ) (c : Dev nD)

/-- The gradient of that part of the projection, the weights, and what the other branches gave. -/
abbrev X : S4096x8192.Idx → EReal := m ((c : Thread nD τ).loc main_arg0)
abbrev Y : S4096x18528.Idx → EReal := m ((c : Thread nD τ).loc main_arg1)
abbrev B : S4096x4096.Idx → EReal := m ((c : Thread nD τ).loc main_arg2)

theorem V_left : (V m c main_v2 : S4096x8192.Idx → EReal) = X m c := by
  show StableHlo.after hostOps0 (fun b => m (c, b)) (Proc.devRef .tc main_v2) = _
  simp only [hostOps0]
  after_results_simp
  rfl

theorem V_right : (V m c main_v1 : S18528x4096.Idx → EReal) = transpose S18528x4096 [1, 0] (Y m c) transposes_S4096x18528_S18528x4096_1_0 := by
  show StableHlo.after hostOps0 (fun b => m (c, b)) (Proc.devRef .tc main_v1) = _
  simp only [hostOps0]
  after_results_simp
  rfl

theorem V_add : (V m c main_arg2 : S4096x4096.Idx → EReal) = B m c := V_main_arg2 m c

/-! ### The tiles a point reads -/

theorem idxs : ∀ t : Fin grid0.N, (win0_0.index t 0 = t.val / 4 / 4 ∧ win0_0.index t 1 = t.val % 4)
    ∧ (win0_1.index t 0 = t.val % 4 + 5 ∧ win0_1.index t 1 = t.val / 4 % 4)
    ∧ (win0_2.index t 0 = t.val / 4 / 4 ∧ win0_2.index t 1 = t.val / 4 % 4)
    ∧ (win0_3.index t 0 = t.val / 4 / 4 ∧ win0_3.index t 1 = t.val / 4 % 4) := by decide +kernel

theorem left (t : Fin cfg0.N) (r : Fin 1024) (k : Fin 2048) :
    (iblk m c 0 t : Vec Ideal S1024x2048 .bf16) (ix2 r k) = at2 (X m c) (1024 * (t.val / 4 / 4) + r.val) (2048 * (t.val % 4) + k.val) := by
  unfold iblk
  rw [View.read_apply]
  show (V m c main_v2 : S4096x8192.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (k : Fin 2048) (s : Fin 1024) :
    (X0_1 m c t : Vec Ideal S2048x1024 .bf16) (ix2 k s) = at2 (Y m c) (1024 * (t.val / 4 % 4) + s.val) (2048 * (t.val % 4) + k.val + 10240) := by
  unfold X0_1 Pipeline.Window.fill
  rw [dif_pos (moved0_1 t _)]
  unfold iblk
  rw [View.read_apply]
  show (V m c main_v1 : S18528x4096.Idx → EReal) _ = _
  rw [V_right m c]
  refine (transpose_apply [1, 0] (Y m c) _ _ (ix2 ⟨1024 * (t.val / 4 % 4) + s.val, by omega⟩ ⟨2048 * (t.val % 4) + k.val + 10240, by omega⟩) (fun b => match b with
    | ⟨0, _⟩ => ?_
    | ⟨1, _⟩ => ?_)).trans (eq_at2 _ _ rfl rfl)
  · show 2048 * (t.val % 4) + k.val + 10240 = win0_1.index t 0 * 2048 + 1 * k.val
    rw [(idxs t).2.1.1]; omega
  · show 1024 * (t.val / 4 % 4) + s.val = win0_1.index t 1 * 1024 + 1 * s.val
    rw [(idxs t).2.1.2]; omega

theorem addend (t : Fin cfg0.N) (r s : Fin 1024) :
    (iblk m c 2 t : Vec Ideal S1024x1024 .f32) (ix2 r s) = at2 (B m c) (1024 * (t.val / 4 / 4) + r.val) (1024 * (t.val / 4 % 4) + s.val) := by
  unfold iblk
  rw [View.read_apply]
  show (V m c main_arg2 : S4096x4096.Idx → EReal) _ = _
  rw [V_add m c]
  refine eq_at2 _ _ ?_ ?_
  · show win0_2.index t 0 * 1024 + 1 * r.val = _
    rw [(idxs t).2.2.1.1]; omega
  · show win0_2.index t 1 * 1024 + 1 * s.val = _
    rw [(idxs t).2.2.1.2]; omega

/-! ### A tile's product -/

/-- The term the entry at `r`, `s` of block `j` takes from column `k` of the gradient and column `10240 + k` of the weights. -/
def term (j r s k : ℕ) : EReal := at2 (X m c) (1024 * (j / 4) + r) k * at2 (Y m c) (1024 * (j % 4) + s) (k + 10240)

theorem step (t : Fin cfg0.N) (acc : Vec Ideal S1024x1024 .f32) (r s : Fin 1024) :
    (k0_pay2 acc (iblk m c 0 t) (X0_1 m c t) (ix2 r s) : EReal)
      = acc (ix2 r s) + ∑ k ∈ Finset.range 2048, term m c (t.val / 4) r.val s.val (2048 * (t.val % 4) + k) := by
  unfold k0_pay2
  simp only [shapeCast_self]
  exact tile_nn acc _ _ r s _ fun k => congrArg₂ (· * ·) (left m c t r k) (right m c t k s)

/-- A block's first tile begins its sum. -/
theorem first (r s : Fin 1024) (n : ℕ) (hn : n < cfg0.N) (h : n % 4 = 0) :
    ((outsAt0 m c n hn).2 (ix2 r s) : EReal) = ∑ k ∈ Finset.range 2048, term m c (n / 4) r.val s.val (2048 * (n % 4) + k) := by
  rw [sum_first m c ⟨n, hn⟩ h, step, show (k0_pay1 (F := Ideal) (ix2 r s) : EReal) = 0 by unfold k0_pay1; simp only [shapeCast_self]; exact zero_tile _, zero_add]

/-- A further tile before the last goes on with it. -/
theorem mid (r s : Fin 1024) (n : ℕ) (hn : n < cfg0.N) (h' : n - 1 < cfg0.N) (h0 : n % 4 ≠ 0) (h1 : n % 4 + 1 ≠ 4) :
    ((outsAt0 m c n hn).2 (ix2 r s) : EReal)
      = (outsAt0 m c (n - 1) h').2 (ix2 r s) + ∑ k ∈ Finset.range 2048, term m c (n / 4) r.val s.val (2048 * (n % 4) + k) := by
  rw [sum_mid m c ⟨n, hn⟩ h0 (by show ¬ n % 4 = 3; omega), step]

/-- The block written after the last tile is the addend's plus the product's. -/
theorem block (t : Fin cfg0.N) (h : t.val % 4 = 3) (r s : Fin 1024) :
    ((outsAt0 m c t.val t.isLt).1 (ix2 r s) : EReal)
      = at2 (B m c) (1024 * (t.val / 4 / 4) + r.val) (1024 * (t.val / 4 % 4) + s.val) + ∑ k ∈ Finset.range 8192, term m c (t.val / 4) r.val s.val k := by
  rw [out_last m c t h]
  unfold k0_pay3
  show (k0_pay2 (outsAt0 m c (t.val - 1) _).2 (iblk m c 0 t) (X0_1 m c t) (ix2 r s) : EReal) + (iblk m c 2 t : Vec Ideal S1024x1024 .f32) (ix2 r s) = _
  rw [step, addend m c t r s]
  exact (add_comm _ _).trans (congrArg (_ + ·) (last 2048 4 (by decide) (fun n hn => ((outsAt0 m c n hn).2 (ix2 r s) : EReal)) (fun j k => term m c j r.val s.val k) (first m c r s)
    (mid m c r s) t.val _ (by omega)))

/-! ### The array -/

/-- The reference's array, entry by entry. -/
theorem entry (i : S4096x4096.Idx) (j r s : ℕ) (h0 : (i 0).val = 1024 * (j / 4) + r) (h1 : (i 1).val = 1024 * (j % 4) + s) :
    (Cert.Reference7Ideal.Read.val_main_v4 (F := Ideal) (X m c) (Y m c) (B m c) i : EReal)
      = at2 (B m c) (1024 * (j / 4) + r) (1024 * (j % 4) + s) + ∑ k ∈ Finset.range 8192, term m c j r s k := by
  rw [Cert.Reference7Ideal.Read.val_main_v4_apply, Cert.Reference7Ideal.Read.val_main_v3_apply]
  refine congrArg₂ (· + ·) (eq_at2 _ _ h0 h1) (sum_eq _ _ fun k => ?_)
  rw [Cert.Reference7Ideal.Read.val_main_v1_apply]
  refine congrArg₂ (· * ·) ?_ ?_
  · exact eq_at2 _ _ h0 rfl
  · exact eq_at2 _ _ h1 (Nat.add_comm _ _)

theorem array : (dats m 0 c).arrAt 3 cfg0.N = (Cert.Reference7Ideal.Read.val_main_v4 (F := Ideal) (X m c) (Y m c) (B m c) : S4096x4096.Idx → EReal) := by
  refine (dats m 0 c).arrAt_eq_of_covers 3 _ (by decide +kernel) fun t hf y => ?_
  have h3 : t.val % 4 = 3 := (flush0_3 t).mp hf
  have e := (idxs t).2.2.2
  have y0 : (y 0).val < 1024 := (y 0).isLt
  have y1 : (y 1).val < 1024 := (y 1).isLt
  have ey : ((cfg0.win 3).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (dats m 0 c).after 3 t ((cfg0.win 3).xinj (grid0.coords t) y) = Cert.Reference7Ideal.Read.val_main_v4 (F := Ideal) (X m c) (Y m c) (B m c) (((cfg0.win 3).blk t).view.emb y)
  rw [after0_3, ey, block m c t h3]
  refine (entry m c _ (t.val / 4) (y 0).val (y 1).val ?_ ?_).symm
  · show win0_3.index t 0 * 1024 + 1 * (y 0).val = _
    rw [e.1]; omega
  · show win0_3.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (dats m 0 c).arrAt 3 cfg0.N :=
  (θ_run defs _ _).mono (fun _ g c => (g c).1 3) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (Cert.Reference7Ideal.Read.val_main_v4 (F := Ideal) (X m c) (Y m c) (B m c) : S4096x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel7Ideal.InDx

end
-- ==== Proof.OutDxSsd.lean ====
/- The gradient of what the first layer's output weights multiply, the part of its second branch: the call's array is the product of
   the gradient of the layer's output and the weights' rows from 2048 on, turned. -/
module

public import proofs.«01_k».proof.Proof.Prod
public import proofs.«01_k».proof.Proof.Gen.Kernel8Ideal.Frame
public import proofs.«01_k».proof.Proof.Gen.Reference8Ideal.Read
public import Idealize.ShloMosaic.Lib.Pipeline.Value
public import Idealize.ShloMosaic.Lib.Tactic

@[expose] public section

set_option maxRecDepth 16384

noncomputable section

namespace Cert.Kernel8Ideal.OutDxSsd

open Cert.Kernel8Ideal Cert.Kernel8Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S1024x2048) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz]

end Body

section Value
variable (m : (ℓ : Loc nD τ sig) → Buf (Elt Ideal) ℓ) (c : Dev nD)

/-- The gradient of the layer's output, and the weights. -/
abbrev X : S4096x4096.Idx → EReal := m ((c : Thread nD τ).loc main_arg1)
abbrev Y : S8192x4096.Idx → EReal := m ((c : Thread nD τ).loc main_arg0)

theorem V_left : (V m c main_v0 : S4096x4096.Idx → EReal) = X m c := by
  show StableHlo.after hostOps0 (fun b => m (c, b)) (Proc.devRef .tc main_v0) = _
  simp only [hostOps0]
  after_results_simp
  rfl

theorem V_right : (V m c main_v1 : S8192x4096.Idx → EReal) = Y m c := by
  show StableHlo.after hostOps0 (fun b => m (c, b)) (Proc.devRef .tc main_v1) = _
  simp only [hostOps0]
  after_results_simp
  rfl

/-! ### The tiles a point reads -/

theorem idxs : ∀ t : Fin grid0.N, (win0_0.index t 0 = t.val / 2 / 6 ∧ win0_0.index t 1 = t.val % 2)
    ∧ (win0_1.index t 0 = t.val / 2 % 6 + 2 ∧ win0_1.index t 1 = t.val % 2)
    ∧ (win0_2.index t 0 = t.val / 2 / 6 ∧ win0_2.index t 1 = t.val / 2 % 6) := by decide +kernel

theorem left (t : Fin cfg0.N) (r : Fin 1024) (k : Fin 2048) :
    (iblk m c 0 t : Vec Ideal S1024x2048 .bf16) (ix2 r k) = at2 (X m c) (1024 * (t.val / 2 / 6) + r.val) (2048 * (t.val % 2) + k.val) := by
  unfold iblk
  rw [View.read_apply]
  show (V m c main_v0 : S4096x4096.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (s : Fin 1024) (k : Fin 2048) :
    (iblk m c 1 t : Vec Ideal S1024x2048 .bf16) (ix2 s k) = at2 (Y m c) (1024 * (t.val / 2 % 6 + 2) + s.val) (2048 * (t.val % 2) + k.val) := by
  unfold iblk
  rw [View.read_apply]
  show (V m c main_v1 : S8192x4096.Idx → EReal) _ = _
  rw [V_right m c]
  refine eq_at2 _ _ ?_ ?_
  · show win0_1.index t 0 * 1024 + 1 * s.val = _
    rw [(idxs t).2.1.1]; omega
  · show win0_1.index t 1 * 2048 + 1 * k.val = _
    rw [(idxs t).2.1.2]; omega

/-! ### A tile's product -/

/-- The term the entry at `r`, `s` of block `j` takes from column `k` of both matrices. -/
def term (j r s k : ℕ) : EReal := at2 (X m c) (1024 * (j / 6) + r) k * at2 (Y m c) (1024 * (j % 6 + 2) + s) k

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 2) r.val s.val (2048 * (t.val % 2) + k) := by
  unfold k0_pay2
  simp only [shapeCast_self]
  exact tile_nt acc _ _ r s _ fun k => congrArg₂ (· * ·) (left m c t r k) (right m c t s k)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, entry by entry. -/
theorem entry (i : S4096x6144.Idx) (j r s : ℕ) (h0 : (i 0).val = 1024 * (j / 6) + r) (h1 : (i 1).val = 1024 * (j % 6) + s) :
    (Cert.Reference8Ideal.Read.val_main_v3 (F := Ideal) (Y m c) (X m c) i : EReal) = ∑ k ∈ Finset.range 4096, term m c j r s k := by
  rw [Cert.Reference8Ideal.Read.val_main_v3_apply, Cert.Reference8Ideal.Read.val_main_v2_apply]
  refine sum_eq _ _ fun k => congrArg₂ (· * ·) ?_ ?_
  · exact eq_at2 _ _ h0 rfl
  · exact eq_at2 _ _ (by show 2048 + (i 1).val = _; omega) rfl

theorem cover (i : S4096x6144.Idx) : ∃ t : Fin cfg0.N, (cfg0.win 2).flush t = true ∧ i ∈ ((cfg0.win 2).blk t).view.set := by
  have b0 : (i 0).val < 4096 := (i 0).isLt
  have b1 : (i 1).val < 6144 := (i 1).isLt
  let t : Fin cfg0.N := ⟨12 * ((i 0).val / 1024) + 2 * ((i 1).val / 1024) + 1, lt_of_lt_of_eq (by omega : _ < 48) (show 48 = cfg0.N from N_0.symm)⟩
  have ht : t.val = 12 * ((i 0).val / 1024) + 2 * ((i 1).val / 1024) + 1 := rfl
  have e := (idxs t).2.2
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e.1]; omega
  | ⟨1, _⟩ => show win0_2.index t 1 * 1024 ≤ (i 1).val ∧ (i 1).val < win0_2.index t 1 * 1024 + 1024; rw [e.2]; omega

theorem array : (dats m 0 c).arrAt 2 cfg0.N = (Cert.Reference8Ideal.Read.val_main_v3 (F := Ideal) (Y m c) (X m c) : S4096x6144.Idx → EReal) := by
  refine (dats m 0 c).arrAt_eq_of_cover 2 _ (fun t hf => ?_) cover
  have h1 : t.val % 2 = 1 := (flush0_2 t).mp hf
  have e := (idxs t).2.2
  show (cfg0.win 2).cut (grid0.coords t) ((dats m 0 c).after 2 t) = _
  rw [after0_2]
  funext y
  have y0 : (y 0).val < 1024 := (y 0).isLt
  have y1 : (y 1).val < 1024 := (y 1).isLt
  have ey : ((cfg0.win 2).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (outsAt0 m c t.val t.isLt).1 ((cfg0.win 2).xinj (grid0.coords t) y) = Cert.Reference8Ideal.Read.val_main_v3 (F := Ideal) (Y m c) (X m c) (((cfg0.win 2).blk t).view.emb y)
  rw [ey, block m c t h1]
  refine (entry m c _ (t.val / 2) (y 0).val (y 1).val ?_ ?_).symm
  · show win0_2.index t 0 * 1024 + 1 * (y 0).val = _
    rw [e.1]; omega
  · show win0_2.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference8Ideal.Read.val_main_v3 (F := Ideal) (Y m c) (X m c) : S4096x6144.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ g c => ⟨(g.2 c).trans (array m c), g.1 c⟩) (θ_run_and (unchanged m ρ) (arrays m ρ))

end Cert.Kernel8Ideal.OutDxSsd

end
-- ==== Proof.OutDwSsd.lean ====
/- The gradient of the first layer's output weights, the part of its second branch: the call's array holds the product of the
   branch's output, turned, and the gradient of the layer's output from row 2048 on, and keeps the rows before. -/
module

public import proofs.«01_k».proof.Proof.Prod
public import proofs.«01_k».proof.Proof.Gen.Kernel9Ideal.Frame
public import proofs.«01_k».proof.Proof.Gen.Reference9Ideal.Read
public import Idealize.ShloMosaic.Lib.Pipeline.Value
public import Idealize.ShloMosaic.Lib.Pipeline.ValueKit.Partial
public import Idealize.ShloMosaic.Lib.Tactic

@[expose] public section

set_option maxRecDepth 16384

noncomputable section

namespace Cert.Kernel9Ideal.OutDwSsd

open Cert.Kernel9Ideal Cert.Kernel9Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S2048x1024) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S2048x1024) hz]

end Body

section Value
variable (m : (ℓ : Loc nD τ sig) → Buf (Elt Ideal) ℓ) (c : Dev nD)

/-- The branch's output, the gradient of the layer's output, and the array whose other rows are kept. -/
abbrev X : S4096x6144.Idx → EReal := m ((c : Thread nD τ).loc main_arg0)
abbrev Y : S4096x4096.Idx → EReal := m ((c : Thread nD τ).loc main_arg1)
abbrev B : S8192x4096.Idx → EReal := m ((c : Thread nD τ).loc main_arg2)

theorem V_left : (V m c main_v0 : S4096x6144.Idx → EReal) = X m c := by
  show StableHlo.after hostOps0 (fun b => m (c, b)) (Proc.devRef .tc main_v0) = _
  simp only [hostOps0]
  after_results_simp
  rfl

theorem V_right : (V m c main_v1 : S4096x4096.Idx → EReal) = Y m c := by
  show StableHlo.after hostOps0 (fun b => m (c, b)) (Proc.devRef .tc main_v1) = _
  simp only [hostOps0]
  after_results_simp
  rfl

/-- The result's buffer holds the third argument when the grid starts. -/
theorem V_out : (V m c main_v2 : S8192x4096.Idx → EReal) = B m c := by
  show StableHlo.after hostOps0 (fun b => m (c, b)) (Proc.devRef .tc main_v2) = _
  simp only [hostOps0]
  after_results_simp
  rfl

/-! ### The tiles a point reads -/

theorem idxs : ∀ t : Fin grid0.N, (win0_0.index t 0 = t.val % 2 ∧ win0_0.index t 1 = t.val / 2 / 4)
    ∧ (win0_1.index t 0 = t.val % 2 ∧ win0_1.index t 1 = t.val / 2 % 4)
    ∧ (win0_2.index t 0 = t.val / 2 / 4 + 2 ∧ win0_2.index t 1 = t.val / 2 % 4) := by decide +kernel

theorem left (t : Fin cfg0.N) (k : Fin 2048) (r : Fin 1024) :
    (iblk m c 0 t : Vec Ideal S2048x1024 .bf16) (ix2 k r) = at2 (X m c) (2048 * (t.val % 2) + k.val) (1024 * (t.val / 2 / 4) + r.val) := by
  unfold iblk
  rw [View.read_apply]
  show (V m c main_v0 : S4096x6144.Idx → EReal) _ = _
  rw [V_left m c]
  refine eq_at2 _ _ ?_ ?_
  · show win0_0.index t 0 * 2048 + 1 * k.val = _
    rw [(idxs t).1.1]; omega
  · show win0_0.index t 1 * 1024 + 1 * r.val = _
    rw [(idxs t).1.2]; omega

theorem right (t : Fin cfg0.N) (k : Fin 2048) (s : Fin 1024) :
    (iblk m c 1 t : Vec Ideal S2048x1024 .bf16) (ix2 k s) = at2 (Y m c) (2048 * (t.val % 2) + k.val) (1024 * (t.val / 2 % 4) + s.val) := by
  unfold iblk
  rw [View.read_apply]
  show (V m c main_v1 : S4096x4096.Idx → EReal) _ = _
  rw [V_right m c]
  refine eq_at2 _ _ ?_ ?_
  · show win0_1.index t 0 * 2048 + 1 * k.val = _
    rw [(idxs t).2.1.1]; omega
  · show win0_1.index t 1 * 1024 + 1 * s.val = _
    rw [(idxs t).2.1.2]; omega

/-! ### A tile's product -/

/-- The term the entry at `r`, `s` of block `j` takes from row `k` of both matrices. -/
def term (j r s k : ℕ) : EReal := at2 (X m c) k (1024 * (j / 4) + r) * at2 (Y m c) k (1024 * (j % 4) + s)

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 2) r.val s.val (2048 * (t.val % 2) + k) := by
  unfold k0_pay2
  simp only [shapeCast_self]
  exact tile_tn acc _ _ r s _ fun k => congrArg₂ (· * ·) (left m c t k r) (right m c t k s)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array from row 2048 on. -/
theorem entry (i : S8192x4096.Idx) (j r s : ℕ) (h0 : (i 0).val = 1024 * (j / 4 + 2) + r) (h1 : (i 1).val = 1024 * (j % 4) + s) :
    (Cert.Reference9Ideal.Read.val_main_v5 (F := Ideal) (X m c) (Y m c) (B m c) i : EReal) = ∑ k ∈ Finset.range 4096, term m c j r s k := by
  have b0 : (i 0).val < 8192 := (i 0).isLt
  have b1 : (i 1).val < 4096 := (i 1).isLt
  unfold Cert.Reference9Ideal.Read.val_main_v5
  refine (concatenate_pair_apply_right (s₁ := Cert.Reference9Ideal.S2048x4096) (s₂ := Cert.Reference9Ideal.S6144x4096) (t := S8192x4096) 0 _ _ _ i rfl rfl
    (ix2 (⟨(i 0).val - 2048, by omega⟩ : Fin 6144) (⟨(i 1).val, b1⟩ : Fin 4096)) (fun b hb => ?_) ?_).trans ?_
  · match b with
    | ⟨0, _⟩ => exact absurd rfl hb
    | ⟨1, _⟩ => rfl
  · show (i 0).val - 2048 + 2048 = (i 0).val
    omega
  · rw [Cert.Reference9Ideal.Read.val_main_v3_apply, Cert.Reference9Ideal.Read.val_main_v2_apply]
    refine sum_eq _ _ fun k => (mul_comm _ _).trans (congrArg₂ (· * ·) ?_ ?_)
    · exact eq_at2 _ _ rfl (by show (i 0).val - 2048 = _; omega)
    · exact eq_at2 _ _ rfl h1

/-- The reference's array before row 2048. -/
theorem entry_kept (i : S8192x4096.Idx) (h : (i 0).val < 2048) :
    (Cert.Reference9Ideal.Read.val_main_v5 (F := Ideal) (X m c) (Y m c) (B m c) i : EReal) = B m c i := by
  have b1 : (i 1).val < 4096 := (i 1).isLt
  unfold Cert.Reference9Ideal.Read.val_main_v5
  refine (concatenate_pair_apply_left (s₁ := Cert.Reference9Ideal.S2048x4096) (s₂ := Cert.Reference9Ideal.S6144x4096) (t := S8192x4096) 0 _ _ _ i rfl
    (ix2 (⟨(i 0).val, h⟩ : Fin 2048) (⟨(i 1).val, b1⟩ : Fin 4096)) (fun b => match b with | ⟨0, _⟩ => rfl | ⟨1, _⟩ => rfl)).trans ?_
  rw [Cert.Reference9Ideal.Read.val_main_v4_apply]
  exact congrArg (B m c) (funext fun a => match a with | ⟨0, _⟩ => rfl | ⟨1, _⟩ => rfl)

theorem array : (dats m 0 c).arrAt 2 cfg0.N = (Cert.Reference9Ideal.Read.val_main_v5 (F := Ideal) (X m c) (Y m c) (B m c) : S8192x4096.Idx → EReal) := by
  refine (dats m 0 c).arrAt_eq_of_coversWhere_of_agree 2 _ (fun β => 2 ≤ β (0 : Fin 2)) (by decide +kernel) (fun t hf y => ?_) (fun j hj => ?_)
  · have h1 : t.val % 2 = 1 := (flush0_2 t).mp hf
    have e := (idxs t).2.2
    have y0 : (y 0).val < 1024 := Nat.lt_of_lt_of_le (y 0).isLt ((cfg0.win 2).xsize_le (grid0.coords t) 0)
    have y1 : (y 1).val < 1024 := Nat.lt_of_lt_of_le (y 1).isLt ((cfg0.win 2).xsize_le (grid0.coords t) 1)
    have ey : ((cfg0.win 2).xinj (grid0.coords t) y : S1024x1024.Idx) = ix2 (⟨(y 0).val, y0⟩ : Fin 1024) (⟨(y 1).val, y1⟩ : Fin 1024) :=
      funext fun a => match a with | ⟨0, _⟩ => rfl | ⟨1, _⟩ => rfl
    show (dats m 0 c).after 2 t ((cfg0.win 2).xinj (grid0.coords t) y) = Cert.Reference9Ideal.Read.val_main_v5 (F := Ideal) (X m c) (Y m c) (B m c) (((cfg0.win 2).blk t).view.emb y)
    rw [after0_2, ey, block m c t h1]
    refine (entry m c _ (t.val / 2) (y 0).val (y 1).val  ?_ ?_).symm
    · show win0_2.index t 0 * 1024 + 1 * (y 0).val = _
      rw [e.1]; omega
    · show win0_2.index t 1 * 1024 + 1 * (y 1).val = _
      rw [e.2]; omega
  · show (V m c main_v2 : S8192x4096.Idx → EReal) j = _
    rw [V_out m c]
    have b0 : (j 0).val < 8192 := (j 0).isLt
    refine (entry_kept m c j ?_).symm
    have h : ¬ 2 ≤ (j 0).val / 1024 := hj
    omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference9Ideal.Read.val_main_v5 (F := Ideal) (X m c) (Y m c) (B m c) : S8192x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel9Ideal.OutDwSsd

end
-- ==== Proof.QBlocks.lean ====
/- What the host hands the query gradient's kernel, and where the blocks a grid point reads lie in the arrays. -/
module

public import proofs.«01_k».proof.Proof.Gen.Kernel2Ideal.Frame.Runs
public import proofs.«01_k».proof.Proof.HostVals
public import proofs.«01_k».proof.Proof.Upto
public import Idealize.ShloMosaic.Lib.Pipeline.Value

@[expose] public section

set_option maxRecDepth 16384

noncomputable section

namespace Cert.Kernel2Ideal.QBlocks

open Cert.Kernel2Ideal Cert.Kernel2Ideal.Gen Idealize.ShloMosaic Idealize.ShloMosaic.TcCoe Idealize.SL.Sem Idealize.ShloMosaic.ValueIdx
open Cert.Scores Cert.Upto Cert.KernelIdeal.HostVals

variable {F : FTy → Type} [FloatOps F] (m : (ℓ : Loc nD τ sig) → Buf (Elt F) ℓ) (c : Dev nD)

abbrev B0 : (⟨S4096x16384, .f32⟩ : BufTy).Contents (Elt F) := m ((c : Thread nD τ).loc main_arg0)
abbrev B1 : (⟨S4096x4096, .f32⟩ : BufTy).Contents (Elt F) := m ((c : Thread nD τ).loc main_arg1)
abbrev B2 : (⟨S4096x32, .f32⟩ : BufTy).Contents (Elt F) := m ((c : Thread nD τ).loc main_arg2)

/-! ### The arrays the region finds -/

theorem V_v31 : V m c main_v31 = logSum (B0 m c) (B2 m c) := by
  show StableHlo.after (List.flatten [hostOps0, hostOps0_1, hostOps0_2]) (fun b => m (c, b)) (Proc.devRef .tc main_v31) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

theorem V_v33 : V m c main_v33 = asCol (B2 m c) := by
  show StableHlo.after (List.flatten [hostOps0, hostOps0_1, hostOps0_2]) (fun b => m (c, b)) (Proc.devRef .tc main_v33) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

theorem V_v34 : V m c main_v34 = asRow (B2 m c) := by
  show StableHlo.after (List.flatten [hostOps0, hostOps0_1, hostOps0_2]) (fun b => m (c, b)) (Proc.devRef .tc main_v34) = _
  simp only [hostOps0, hostOps0_1, hostOps0_2, List.flatten_cons, List.flatten_nil, List.append_nil, List.cons_append,
    List.nil_append, StableHlo.TRef.nullary, StableHlo.TRef.ternary, StableHlo.TRef.unary, StableHlo.TRef.toBuf,
    StableHlo.TRef.ofBuf, cast_eq]
  after_results_simp
  rfl

/-! ### The point's head, query tile and key tile -/

def hd (t : Fin cfg0.N) : Fin 32 := ⟨t.val / 16, by have := lt_of_lt_of_eq t.isLt (show cfg0.N = 512 from N_0); omega⟩
def qt (t : Fin cfg0.N) : Fin 4 := ⟨t.val / 4 % 4, Nat.mod_lt _ (by decide)⟩
def kt (t : Fin cfg0.N) : Fin 4 := ⟨t.val % 4, Nat.mod_lt _ (by decide)⟩

/-- The key tile the point's blocks hold: its own, or the last that the query tile sees. -/
def nt (t : Fin cfg0.N) : Fin 4 := ⟨min (t.val % 4) (t.val / 4 % 4), lt_of_le_of_lt (min_le_left _ _) (Nat.mod_lt _ (by decide))⟩

theorem idx0 : ∀ t : Fin grid0.N, win0_0.index t 0 = t.val / 4 % 4 ∧ win0_0.index t 1 = t.val / 16 := by decide +kernel
theorem idx1 : ∀ t : Fin grid0.N, win0_1.index t 0 = min (t.val % 4) (t.val / 4 % 4) ∧ win0_1.index t 1 = 32 + t.val / 16 := by decide +kernel
theorem idx2 : ∀ t : Fin grid0.N, win0_2.index t 0 = min (t.val % 4) (t.val / 4 % 4) ∧ win0_2.index t 1 = 64 + t.val / 16 := by decide +kernel
theorem idx3 : ∀ t : Fin grid0.N, win0_3.index t 0 = t.val / 4 % 4 ∧ win0_3.index t 1 = t.val / 16 := by decide +kernel
theorem idx4 : ∀ t : Fin grid0.N, win0_4.index t 0 = t.val / 16 ∧ win0_4.index t 1 = t.val / 4 % 4 ∧ win0_4.index t 2 = 0 := by decide +kernel
theorem idx5 : ∀ t : Fin grid0.N, win0_5.index t 0 = t.val / 16 ∧ win0_5.index t 1 = t.val / 4 % 4 ∧ win0_5.index t 2 = 0 := by decide +kernel
theorem idx6 : ∀ t : Fin grid0.N, win0_6.index t 0 = t.val / 16 ∧ win0_6.index t 1 = 0 ∧ win0_6.index t 2 = min (t.val % 4) (t.val / 4 % 4) := by decide +kernel

theorem blk0 (t : Fin cfg0.N) (a : Fin 1024) (d : Fin 128) :
    (iblk m c 0 t : Vec F S1024x128 .f32) (ix2 a d) = B0 m c (ix2 (pos (qt t) a) (gcol 0 (hd t) d)) := by
  unfold iblk
  rw [View.read_apply]
  show V m c main_arg0 _ = _
  rw [V_main_arg0 m c]
  refine congrArg (B0 m c) (ext2 ?_ ?_)
  · show win0_0.index t 0 * 1024 + 1 * a.val = 1024 * (t.val / 4 % 4) + a.val
    rw [(idx0 t).1]; omega
  · show win0_0.index t 1 * 128 + 1 * d.val = 4096 * 0 + (128 * (t.val / 16) + d.val)
    rw [(idx0 t).2]; omega

theorem blk1 (t : Fin cfg0.N) (a : Fin 1024) (d : Fin 128) :
    (iblk m c 1 t : Vec F S1024x128 .f32) (ix2 a d) = B0 m c (ix2 (pos (nt t) a) (gcol 1 (hd t) d)) := by
  unfold iblk
  rw [View.read_apply]
  show V m c main_arg0 _ = _
  rw [V_main_arg0 m c]
  refine congrArg (B0 m c) (ext2 ?_ ?_)
  · show win0_1.index t 0 * 1024 + 1 * a.val = 1024 * (min (t.val % 4) (t.val / 4 % 4)) + a.val
    rw [(idx1 t).1]; omega
  · show win0_1.index t 1 * 128 + 1 * d.val = 4096 * 1 + (128 * (t.val / 16) + d.val)
    rw [(idx1 t).2]; omega

theorem blk2 (t : Fin cfg0.N) (a : Fin 1024) (d : Fin 128) :
    (iblk m c 2 t : Vec F S1024x128 .f32) (ix2 a d) = B0 m c (ix2 (pos (nt t) a) (gcol 2 (hd t) d)) := by
  unfold iblk
  rw [View.read_apply]
  show V m c main_arg0 _ = _
  rw [V_main_arg0 m c]
  refine congrArg (B0 m c) (ext2 ?_ ?_)
  · show win0_2.index t 0 * 1024 + 1 * a.val = 1024 * (min (t.val % 4) (t.val / 4 % 4)) + a.val
    rw [(idx2 t).1]; omega
  · show win0_2.index t 1 * 128 + 1 * d.val = 4096 * 2 + (128 * (t.val / 16) + d.val)
    rw [(idx2 t).2]; omega

theorem blk3 (t : Fin cfg0.N) (a : Fin 1024) (d : Fin 128) :
    (iblk m c 3 t : Vec F S1024x128 .f32) (ix2 a d) = B1 m c (ix2 (pos (qt t) a) (col (hd t) d)) := by
  unfold iblk
  rw [View.read_apply]
  show V m c main_arg1 _ = _
  rw [V_main_arg1 m c]
  refine congrArg (B1 m c) (ext2 ?_ ?_)
  · show win0_3.index t 0 * 1024 + 1 * a.val = 1024 * (t.val / 4 % 4) + a.val
    rw [(idx3 t).1]; omega
  · show win0_3.index t 1 * 128 + 1 * d.val = 128 * (t.val / 16) + d.val
    rw [(idx3 t).2]; omega

theorem blk4 (t : Fin cfg0.N) (a : Fin 1024) :
    (iblk m c 4 t : Vec F S1x1024x1 .f32) (ix3 0 a 0) = logSum (B0 m c) (B2 m c) (ix3 (hd t) (pos (qt t) a) 0) := by
  unfold iblk
  rw [View.read_apply]
  show V m c main_v31 _ = _
  rw [V_v31]
  refine congrArg (logSum (B0 m c) (B2 m c)) (ext3 ?_ ?_ ?_)
  · show win0_4.index t 0 * 1 + 1 * 0 = t.val / 16
    rw [(idx4 t).1]; omega
  · show win0_4.index t 1 * 1024 + 1 * a.val = 1024 * (t.val / 4 % 4) + a.val
    rw [(idx4 t).2.1]; omega
  · show win0_4.index t 2 * 1 + 1 * 0 = 0
    rw [(idx4 t).2.2]

theorem blk5 (t : Fin cfg0.N) (a : Fin 1024) :
    (iblk m c 5 t : Vec F S1x1024x1 .f32) (ix3 0 a 0) = asCol (B2 m c) (ix3 (hd t) (pos (qt t) a) 0) := by
  unfold iblk
  rw [View.read_apply]
  show V m c main_v33 _ = _
  rw [V_v33]
  refine congrArg (asCol (B2 m c)) (ext3 ?_ ?_ ?_)
  · show win0_5.index t 0 * 1 + 1 * 0 = t.val / 16
    rw [(idx5 t).1]; omega
  · show win0_5.index t 1 * 1024 + 1 * a.val = 1024 * (t.val / 4 % 4) + a.val
    rw [(idx5 t).2.1]; omega
  · show win0_5.index t 2 * 1 + 1 * 0 = 0
    rw [(idx5 t).2.2]

theorem blk6 (t : Fin cfg0.N) (r : Fin 1024) :
    (iblk m c 6 t : Vec F S1x1x1024 .f32) (ix3 0 0 r) = asRow (B2 m c) (ix3 (hd t) 0 (pos (nt t) r)) := by
  unfold iblk
  rw [View.read_apply]
  show V m c main_v34 _ = _
  rw [V_v34]
  refine congrArg (asRow (B2 m c)) (ext3 ?_ ?_ ?_)
  · show win0_6.index t 0 * 1 + 1 * 0 = t.val / 16
    rw [(idx6 t).1]; omega
  · show win0_6.index t 1 * 1 + 1 * 0 = 0
    rw [(idx6 t).2.1]
  · show win0_6.index t 2 * 1024 + 1 * r.val = 1024 * (min (t.val % 4) (t.val / 4 % 4)) + r.val
    rw [(idx6 t).2.2]; omega

end Cert.Kernel2Ideal.QBlocks

end

end
-- ==== Proof.QBody.lean ====
/- What each case of the query gradient's kernel leaves in its running sums and its outputs, as terms over the blocks it reads. -/
module

public import proofs.«01_k».proof.Proof.Gen.Kernel2Ideal.Frame
public import Idealize.ShloMosaic.Lib.Pipeline.Value
public import Idealize.ShloMosaic.Lib.Tactic

@[expose] public section

set_option maxRecDepth 16384
set_option synthInstance.maxSize 4096

noncomputable section

namespace Cert.Kernel2Ideal.QBody

open Cert.Kernel2Ideal Cert.Kernel2Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S1024x128 .f32) (harg3 : arg3.IsWhole)
  (arg4 : Memref sig .tc .vmem S1024x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1x1024x1 .f32) (harg8 : arg8.IsWhole)
  (arg9 : Memref sig .tc .vmem S1x1x1024 .f32) (harg9 : arg9.IsWhole)
  (arg10 : Memref sig .tc .vmem S1024x128 .bf16) (harg10 : arg10.IsWhole)
  (arg11 : Memref sig .tc .vmem S1x1024x1 .f32) (harg11 : arg11.IsWhole)
  (arg12 : Memref sig .tc .vmem S1024x128 .f32) (harg12 : arg12.IsWhole)
  (arg13 : Memref sig .tc .vmem S1024x128 .f32) (harg13 : arg13.IsWhole)
  (arg14 : Memref sig .tc .vmem S1024x1 .f32) (harg14 : arg14.IsWhole)

variable (x0 x1 x2 x3 : Vec F S1024x128 .f32) (x4 x5 : Vec F S1x1024x1 .f32) (x6 : Vec F S1x1x1024 .f32)
  (xs0 xs1 : Vec F S1024x128 .f32) (xs2 : Vec F S1024x1 .f32)

/-- The first key tile is on the diagonal: the sums start at zero and take the masked tile. -/
theorem case_A (hc0 : cond0_0 i) (hc1 : ¬cond0_1 i) (hc2 : cond0_2 i) (hc3 : ¬cond0_3 i) :
    (sout0_A_0 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6,
      sout0_A_1 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6,
      sout0_A_2 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6)
    = (k0_pay9 (k0_pay17 x0 x1 x5 x6 x4 x3 x2) x1 (k0_pay1 (F := F)),
      k0_pay10 (k0_pay16 x0 x1 x5 x6 x4) x1 (k0_pay2 (F := F)),
      k0_pay7 (k0_pay18 x0 x1 x5 x6 x4 x3 x2 (k0_pay3 (F := F)))) := by
  unfold sout0_A_2
  rw [View.read_writes_eq_canon _ _ _ (fun y => scover0_A_2 ..)]
  unfold sout0_A_1
  rw [View.read_writes_eq_canon _ _ _ (fun y => scover0_A_1 ..)]
  unfold sout0_A_0
  rw [View.read_writes_eq_canon _ _ _ (fun y => scover0_A_0 ..)]
  unfold kernelRun0_A
  dsimp only
  try sl_unfold_words
  rw [View.canon_cons_unit_zero (S := S1024x128) hz,
    View.canon_cons_unit_zero (S := S1024x128) hz,
    View.canon_cons_unit_zero (S := S1024x1) hz,
    View.readCov_unit_zero (S := S1024x128) _ hz,
    View.readCov_unit_zero (S := S1024x128) _ hz,
    View.readCov_unit_zero (S := S1024x1) _ hz]
  simp only [View.readAt_eq_ld, harg3.read_unread, harg4.read_unread, harg5.read_unread, harg6.read_unread, harg7.read_unread, harg8.read_unread, harg9.read_unread,
    View.ld_unit_zero (S := S1024x128) hz, View.ld_unit_zero (S := S1024x1) hz, View.ld_unit_zero (S := S1x1024x1) hz3, View.ld_unit_zero (S := S1x1x1024) hz3]

/-- The first key tile is below the diagonal: the sums start at zero and take the tile. -/
theorem case_D (hc0 : cond0_0 i) (hc1 : cond0_1 i) (hc2 : ¬cond0_2 i) (hc3 : ¬cond0_3 i) :
    (sout0_D_0 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6,
      sout0_D_1 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6,
      sout0_D_2 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6)
    = (k0_pay5 (k0_pay14 x0 x1 x5 x6 x4 x3 x2) x1 (k0_pay1 (F := F)),
      k0_pay6 (k0_pay13 x0 x1 x5 x6 x4) x1 (k0_pay2 (F := F)),
      k0_pay15 x0 x1 x5 x6 x4 x3 x2 (k0_pay3 (F := F))) := by
  unfold sout0_D_2
  rw [View.read_writes_eq_canon _ _ _ (fun y => scover0_D_2 ..)]
  unfold sout0_D_1
  rw [View.read_writes_eq_canon _ _ _ (fun y => scover0_D_1 ..)]
  unfold sout0_D_0
  rw [View.read_writes_eq_canon _ _ _ (fun y => scover0_D_0 ..)]
  unfold kernelRun0_D
  dsimp only
  try sl_unfold_words
  rw [View.canon_cons_unit_zero (S := S1024x128) hz,
    View.canon_cons_unit_zero (S := S1024x128) hz,
    View.canon_cons_unit_zero (S := S1024x1) hz,
    View.readCov_unit_zero (S := S1024x128) _ hz,
    View.readCov_unit_zero (S := S1024x128) _ hz,
    View.readCov_unit_zero (S := S1024x1) _ hz]
  simp only [View.readAt_eq_ld, harg3.read_unread, harg4.read_unread, harg5.read_unread, harg6.read_unread, harg7.read_unread, harg8.read_unread, harg9.read_unread,
    View.ld_unit_zero (S := S1024x128) hz, View.ld_unit_zero (S := S1024x1) hz, View.ld_unit_zero (S := S1x1024x1) hz3, View.ld_unit_zero (S := S1x1x1024) hz3]

/-- A later tile on the diagonal. -/
theorem case_E (hc0 : ¬cond0_0 i) (hc1 : ¬cond0_1 i) (hc2 : cond0_2 i) (hc3 : ¬cond0_3 i) :
    (sout0_E_0 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_E_1 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_E_2 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2)
    = (k0_pay9 (k0_pay17 x0 x1 x5 x6 x4 x3 x2) x1 xs0,
      k0_pay10 (k0_pay16 x0 x1 x5 x6 x4) x1 xs1,
      k0_pay7 (k0_pay18 x0 x1 x5 x6 x4 x3 x2 xs2)) := by
  unfold sout0_E_2
  rw [View.read_writes_eq_canon _ _ _ (fun y => scover0_E_2 ..)]
  unfold sout0_E_1
  rw [View.read_writes_eq_canon _ _ _ (fun y => scover0_E_1 ..)]
  unfold sout0_E_0
  rw [View.read_writes_eq_canon _ _ _ (fun y => scover0_E_0 ..)]
  unfold kernelRun0_E
  dsimp only
  try sl_unfold_words
  rw [View.canon_unit_zero (S := S1024x128) hz,
    View.canon_unit_zero (S := S1024x128) hz,
    View.canon_unit_zero (S := S1024x1) hz]
  simp only [View.readAt_eq_ld, harg3.read_unread, harg4.read_unread, harg5.read_unread, harg6.read_unread, harg7.read_unread, harg8.read_unread, harg9.read_unread, harg12.read_unread, harg13.read_unread, harg14.read_unread,
    View.ld_unit_zero (S := S1024x128) hz, View.ld_unit_zero (S := S1024x1) hz, View.ld_unit_zero (S := S1x1024x1) hz3, View.ld_unit_zero (S := S1x1x1024) hz3]

/-- A later tile below the diagonal. -/
theorem case_F (hc0 : ¬cond0_0 i) (hc1 : cond0_1 i) (hc2 : ¬cond0_2 i) (hc3 : ¬cond0_3 i) :
    (sout0_F_0 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_F_1 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_F_2 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2)
    = (k0_pay5 (k0_pay14 x0 x1 x5 x6 x4 x3 x2) x1 xs0,
      k0_pay6 (k0_pay13 x0 x1 x5 x6 x4) x1 xs1,
      k0_pay15 x0 x1 x5 x6 x4 x3 x2 xs2) := by
  unfold sout0_F_2
  rw [View.read_writes_eq_canon _ _ _ (fun y => scover0_F_2 ..)]
  unfold sout0_F_1
  rw [View.read_writes_eq_canon _ _ _ (fun y => scover0_F_1 ..)]
  unfold sout0_F_0
  rw [View.read_writes_eq_canon _ _ _ (fun y => scover0_F_0 ..)]
  unfold kernelRun0_F
  dsimp only
  try sl_unfold_words
  rw [View.canon_unit_zero (S := S1024x128) hz,
    View.canon_unit_zero (S := S1024x128) hz,
    View.canon_unit_zero (S := S1024x1) hz]
  simp only [View.readAt_eq_ld, harg3.read_unread, harg4.read_unread, harg5.read_unread, harg6.read_unread, harg7.read_unread, harg8.read_unread, harg9.read_unread, harg12.read_unread, harg13.read_unread, harg14.read_unread,
    View.ld_unit_zero (S := S1024x128) hz, View.ld_unit_zero (S := S1024x1) hz, View.ld_unit_zero (S := S1x1024x1) hz3, View.ld_unit_zero (S := S1x1x1024) hz3]

set_option maxHeartbeats 4000000 in
/-- The last tile, on the diagonal: the results are formed from the sums. -/
theorem case_G (hc0 : ¬cond0_0 i) (hc1 : ¬cond0_1 i) (hc2 : cond0_2 i) (hc3 : cond0_3 i) :
    (out0_G_7 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      out0_G_8 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_G_0 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_G_1 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_G_2 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2)
    = (k0_pay11 (k0_pay9 (k0_pay17 x0 x1 x5 x6 x4 x3 x2) x1 xs0) (k0_pay7 (k0_pay18 x0 x1 x5 x6 x4 x3 x2 xs2)) (k0_pay10 (k0_pay16 x0 x1 x5 x6 x4) x1 xs1),
      k0_pay12 (k0_pay7 (k0_pay18 x0 x1 x5 x6 x4 x3 x2 xs2)),
      k0_pay9 (k0_pay17 x0 x1 x5 x6 x4 x3 x2) x1 xs0,
      k0_pay10 (k0_pay16 x0 x1 x5 x6 x4) x1 xs1,
      k0_pay7 (k0_pay18 x0 x1 x5 x6 x4 x3 x2 xs2)) := by
  unfold sout0_G_2
  rw [View.read_writes_eq_canon _ _ _ (fun y => scover0_G_2 ..)]
  unfold sout0_G_1
  rw [View.read_writes_eq_canon _ _ _ (fun y => scover0_G_1 ..)]
  unfold sout0_G_0
  rw [View.read_writes_eq_canon _ _ _ (fun y => scover0_G_0 ..)]
  unfold out0_G_8
  rw [View.read_writes_eq_canon _ _ _ (fun y => cover0_G_8 ..)]
  unfold out0_G_7
  rw [View.read_writes_eq_canon _ _ _ (fun y => cover0_G_7 ..)]
  unfold kernelRun0_G
  dsimp only
  try sl_unfold_words
  rw [View.canon_unit_zero (S := S1024x128) hz,
    View.canon_unit_zero (S := S1x1024x1) hz3,
    View.canon_unit_zero (S := S1024x128) hz,
    View.canon_unit_zero (S := S1024x128) hz,
    View.canon_unit_zero (S := S1024x1) hz,
    View.readCov_unit_zero (S := S1024x128) _ hz,
    View.readCov_unit_zero (S := S1024x128) _ hz,
    View.readCov_unit_zero (S := S1024x1) _ hz]
  simp only [View.readAt_eq_ld, harg3.read_unread, harg4.read_unread, harg5.read_unread, harg6.read_unread, harg7.read_unread, harg8.read_unread, harg9.read_unread, harg12.read_unread, harg13.read_unread, harg14.read_unread,
    View.ld_unit_zero (S := S1024x128) hz, View.ld_unit_zero (S := S1024x1) hz, View.ld_unit_zero (S := S1x1024x1) hz3, View.ld_unit_zero (S := S1x1x1024) hz3]

/-- The last tile, above the diagonal: the results are formed from the sums, which stay. -/
theorem case_C (hc0 : ¬cond0_0 i) (hc1 : ¬cond0_1 i) (hc2 : ¬cond0_2 i) (hc3 : cond0_3 i) :
    (out0_C_7 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      out0_C_8 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_C_0 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_C_1 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2,
      sout0_C_2 c i arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 xs0 xs1 xs2)
    = (k0_pay11 xs0 xs2 xs1,
      k0_pay12 xs2,
      xs0,
      xs1,
      xs2) := by
  unfold out0_C_8
  rw [View.read_writes_eq_canon _ _ _ (fun y => cover0_C_8 ..)]
  unfold out0_C_7
  rw [View.read_writes_eq_canon _ _ _ (fun y => cover0_C_7 ..)]
  unfold sout0_C_0 sout0_C_1 sout0_C_2
  unfold kernelRun0_C
  dsimp only
  try sl_unfold_words
  rw [View.canon_unit_zero (S := S1024x128) hz,
    View.canon_unit_zero (S := S1x1024x1) hz3]
  simp only [View.readAt_eq_ld, harg3.read_unread, harg4.read_unread, harg5.read_unread, harg6.read_unread, harg7.read_unread, harg8.read_unread, harg9.read_unread, harg12.read_unread, harg13.read_unread, harg14.read_unread,
    View.ld_unit_zero (S := S1024x128) hz, View.ld_unit_zero (S := S1024x1) hz, View.ld_unit_zero (S := S1x1024x1) hz3, View.ld_unit_zero (S := S1x1x1024) hz3]

end Cert.Kernel2Ideal.QBody

end

end
-- ==== Proof.QTile.lean ====
/- What a key tile adds to the running sums of a query tile, read at an index. -/
module

public import proofs.«01_k».proof.Proof.Gen.Kernel2Ideal.Skeleton
public import proofs.«01_k».proof.Proof.KvTile

@[expose] public section

set_option maxRecDepth 16384

noncomputable section

namespace Cert.Kernel2Ideal.QTile

open Cert.Kernel2Ideal Cert.Kernel2Ideal.Gen Idealize.ShloMosaic Idealize.ShloMosaic.ValueIdx
open Cert.Rows Cert.Scores Cert.Tile

/-- The contraction of two tiles along the head's columns, and along the tile's keys. -/
abbrev eS := (contrEquiv1 dot_S1024x128_S1024x128_S1024x1024_1_1_0_0_n_n 128 rfl rfl).symm
abbrev eK := (contrEquiv1 dot_S1024x1024_S1024x128_S1024x128_1_0_0_1_n_n 1024 rfl rfl).symm

theorem sl (a b : Fin 1024) (k : Fin 128) : dot_S1024x128_S1024x128_S1024x1024_1_1_0_0_n_n.lhsIdx (ix2 a b) (eS k) = ix2 a k :=
  ext2 rfl (contrEquiv1_symm_val dot_S1024x128_S1024x128_S1024x1024_1_1_0_0_n_n 128 rfl rfl k)
theorem sr (a b : Fin 1024) (k : Fin 128) : dot_S1024x128_S1024x128_S1024x1024_1_1_0_0_n_n.rhsIdx (ix2 a b) (eS k) = ix2 b k :=
  ext2 rfl (contrEquiv1_symm_val dot_S1024x128_S1024x128_S1024x1024_1_1_0_0_n_n 128 rfl rfl k)
theorem kl (a : Fin 1024) (b : Fin 128) (k : Fin 1024) : dot_S1024x1024_S1024x128_S1024x128_1_0_0_1_n_n.lhsIdx (ix2 a b) (eK k) = ix2 a k :=
  ext2 rfl (contrEquiv1_symm_val dot_S1024x1024_S1024x128_S1024x128_1_0_0_1_n_n 1024 rfl rfl k)
theorem kr (a : Fin 1024) (b : Fin 128) (k : Fin 1024) : dot_S1024x1024_S1024x128_S1024x128_1_0_0_1_n_n.rhsIdx (ix2 a b) (eK k) = ix2 k b :=
  ext2 (contrEquiv1_symm_val dot_S1024x1024_S1024x128_S1024x128_1_0_0_1_n_n 1024 rfl rfl k) rfl

theorem cast_up {α : Type} {n : Nat} (x : (⟨2, ![n, 1]⟩ : Shape).Idx → α) (h : (⟨2, ![n, 1]⟩ : Shape).ShapeCasts ⟨3, ![1, n, 1]⟩)
    (u : Fin 1) (a : Fin n) (v : Fin 1) : shapeCast ⟨3, ![1, n, 1]⟩ x h (ix3 u a v) = x (ix2 a 0) :=
  shapeCast_apply x h _ _ (by
    rw [Shape.rowMajor_val_three, Shape.rowMajor_val_two]
    show a.val * 1 + 0 = (u.val * n + a.val) * 1 + v.val
    have hu : u.val = 0 := by have := u.isLt; omega
    have hv : v.val = 0 := by have := v.isLt; omega
    rw [hu, hv]; simp)

variable {x0 x1 x2 x3 : Vec Ideal S1024x128 .f32} {x4 x5 : Vec Ideal S1x1024x1 .f32} {x6 : Vec Ideal S1x1x1024 .f32}
variable {q k v o : Fin 1024 → Fin 128 → ℝ} {cc cr : Fin 1024 → ℝ} {p f : Fin 1024 → Fin 1024 → ℝ}
variable (hq : ∀ a d, x0 (ix2 a d) = (q a d : EReal)) (hk : ∀ a d, x1 (ix2 a d) = (k a d : EReal))
  (hv : ∀ a d, x2 (ix2 a d) = (v a d : EReal)) (ho : ∀ a d, x3 (ix2 a d) = (o a d : EReal))
  (hc : ∀ a, x5 (ix3 0 a 0) = (cc a : EReal)) (hr : ∀ r, x6 (ix3 0 0 r) = (cr r : EReal))

include hq hk hc hr in
/-- The weights are the ones of the keys' kernel. -/
theorem p_full (a r : Fin 1024) :
    k0_pay13 x0 x1 x5 x6 x4 (ix2 a r)
      = Ideal.exp ((((∑ d, q a d * k r d) * scale + (cc a - cr r) : ℝ) : EReal) - x4 (ix3 0 a 0)) :=
  Cert.KernelIdeal.KvTile.p_full (x4 := x4) hq hk hc hr a r

include hq hk hc hr in
theorem p_diag (a r : Fin 1024) :
    k0_pay16 x0 x1 x5 x6 x4 (ix2 a r)
      = Ideal.exp ((if r.val ≤ a.val then (((∑ d, q a d * k r d) * scale + (cc a - cr r) : ℝ) : EReal) else ⊥) - x4 (ix3 0 a 0)) :=
  Cert.KernelIdeal.KvTile.p_diag (x4 := x4) hq hk hc hr a r

include hv ho in
theorem pd_full (hp : ∀ a r, k0_pay13 x0 x1 x5 x6 x4 (ix2 a r) = (p a r : EReal)) (a r : Fin 1024) :
    k0_pay14 x0 x1 x5 x6 x4 x3 x2 (ix2 a r) = ((p a r * ∑ d, o a d * v r d : ℝ) : EReal) := by
  unfold k0_pay14
  show k0_pay13 x0 x1 x5 x6 x4 (ix2 a r) * _ = _
  exact (congrArg₂ (· * ·) (hp a r) (dot_nt (φ₁ := .bf16) (φ₂ := .bf16) _ eS sl sr _ _ o v (fun a d => ho a d) (fun a d => hv a d) a r)).trans
    (EReal.coe_mul _ _).symm

include hv ho in
theorem pd_diag (hp : ∀ a r, k0_pay16 x0 x1 x5 x6 x4 (ix2 a r) = (p a r : EReal)) (a r : Fin 1024) :
    k0_pay17 x0 x1 x5 x6 x4 x3 x2 (ix2 a r) = ((p a r * ∑ d, o a d * v r d : ℝ) : EReal) := by
  unfold k0_pay17
  show k0_pay16 x0 x1 x5 x6 x4 (ix2 a r) * _ = _
  exact (congrArg₂ (· * ·) (hp a r) (dot_nt (φ₁ := .bf16) (φ₂ := .bf16) _ eS sl sr _ _ o v (fun a d => ho a d) (fun a d => hv a d) a r)).trans
    (EReal.coe_mul _ _).symm

include hk in
/-- A tile's weights applied to its keys, added to a running sum. -/
theorem add_keys {pt : FVec Ideal S1024x1024 .f32} (hp : ∀ a r, pt (ix2 a r) = (f a r : EReal)) (acc : Vec Ideal S1024x128 .f32)
    (a : Fin 1024) (d : Fin 128) (w : ℝ) (hw : acc (ix2 a d) = (w : EReal)) :
    k0_pay5 pt x1 acc (ix2 a d) = ((w + ∑ r, f a r * k r d : ℝ) : EReal) := by
  unfold k0_pay5 k0_pay4
  rw [shapeCast_self]
  show acc (ix2 a d) + _ = _
  exact (congrArg₂ (· + ·) hw (dot_nn (φ₁ := .bf16) (φ₂ := .bf16) _ eK kl kr _ _ f k (fun a r => hp a r) (fun r d => hk r d) a d)).trans
    (EReal.coe_add _ _).symm

theorem sum_full (h : ∀ a r, k0_pay14 x0 x1 x5 x6 x4 x3 x2 (ix2 a r) = (f a r : EReal)) (acc : Vec Ideal S1024x1 .f32) (a : Fin 1024) (w : ℝ)
    (hw : acc (ix2 a 0) = (w : EReal)) :
    k0_pay15 x0 x1 x5 x6 x4 x3 x2 acc (ix2 a 0) = ((w + ∑ r, f a r : ℝ) : EReal) := by
  unfold k0_pay15
  rw [shapeCast_self]
  show acc (ix2 a 0) + _ = _
  exact (congrArg₂ (· + ·) hw ((cast_stand _ _ a 0).trans (sum_cols _ _ _ _ f a (fun r => h a r)))).trans (EReal.coe_add _ _).symm

theorem sum_diag (h : ∀ a r, k0_pay17 x0 x1 x5 x6 x4 x3 x2 (ix2 a r) = (f a r : EReal)) (acc : Vec Ideal S1024x1 .f32) (a : Fin 1024) (w : ℝ)
    (hw : acc (ix2 a 0) = (w : EReal)) :
    k0_pay7 (k0_pay18 x0 x1 x5 x6 x4 x3 x2 acc) (ix2 a 0) = ((w + ∑ r, f a r : ℝ) : EReal) := by
  unfold k0_pay7 k0_pay18
  rw [shapeCast_self]
  show acc (ix2 a 0) + _ = _
  exact (congrArg₂ (· + ·) hw ((cast_stand _ _ a 0).trans (sum_cols _ _ _ _ f a (fun r => h a r)))).trans (EReal.coe_add _ _).symm

/-! ### The resets and the results -/

theorem reset_one (i : S1024x128.Idx) : k0_pay1 (F := Ideal) i = ((0 : ℝ) : EReal) := by
  unfold k0_pay1; rw [shapeCast_self]; exact lit_zero
theorem reset_two (i : S1024x128.Idx) : k0_pay2 (F := Ideal) i = ((0 : ℝ) : EReal) := by
  unfold k0_pay2; rw [shapeCast_self]; exact lit_zero
theorem reset_sum (i : S1024x1.Idx) : k0_pay3 (F := Ideal) i = ((0 : ℝ) : EReal) := by
  unfold k0_pay3; rw [shapeCast_self]; exact lit_zero

theorem out_q (one two : Vec Ideal S1024x128 .f32) (s : Vec Ideal S1024x1 .f32) (a : Fin 1024) (d : Fin 128) (w1 w2 ws : ℝ)
    (h1 : one (ix2 a d) = (w1 : EReal)) (h2 : two (ix2 a d) = (w2 : EReal)) (hs : s (ix2 a 0) = (ws : EReal)) :
    k0_pay11 one s two (ix2 a d) = (((w1 - ws * w2) * scale : ℝ) : EReal) := by
  unfold k0_pay11
  show (one (ix2 a d) - _ * two (ix2 a d)) * Ideal.ofBits .f32 0x3DB504F3#32 = _
  refine (congrArg₂ (· * ·) (congrArg₂ (· - ·) h1 (congrArg₂ (· * ·) ((spread_col _ _ (by decide) a d).trans hs) h2)) scale_coe.symm).trans ?_
  rw [← EReal.coe_mul, ← EReal.coe_sub, ← EReal.coe_mul]
theorem out_sum (s : Vec Ideal S1024x1 .f32) (u v : Fin 1) (a : Fin 1024) : k0_pay12 s (ix3 u a v) = s (ix2 a 0) := by
  unfold k0_pay12; exact cast_up _ _ _ _ _

end Cert.Kernel2Ideal.QTile

end

end
-- ==== Proof.QSums.lean ====
/- The running sums of a query tile after each key tile, and the blocks written at the last. -/
module

public import proofs.«01_k».proof.Proof.QBlocks
public import proofs.«01_k».proof.Proof.QBody
public import proofs.«01_k».proof.Proof.QTile

@[expose] public section

set_option maxRecDepth 16384

noncomputable section

namespace Cert.Kernel2Ideal.QSums

open Cert.Kernel2Ideal Cert.Kernel2Ideal.Gen Idealize.ShloMosaic Idealize.ShloMosaic.TcCoe Idealize.SL.Sem Idealize.ShloMosaic.ValueIdx
open Cert.Rows Cert.Scores Cert.Upto Cert.KernelIdeal.HostVals Cert.Kernel2Ideal.QBlocks Cert.Kernel2Ideal.QBody Cert.Kernel2Ideal.QTile

variable {m : (ℓ : Loc nD τ sig) → Buf (Elt Ideal) ℓ} {c : Dev nD}
variable (h0 : Real2 (B0 m c)) (h1 : Real2 (B1 m c)) (h2 : Real2 (B2 m c))

/-! ### The blocks as reals -/

include h0 in
theorem q_real (t : Fin cfg0.N) (a : Fin 1024) (d : Fin 128) :
    (iblk m c 0 t : Vec Ideal S1024x128 .f32) (ix2 a d) = ((Q (B0 m c) (hd t) (pos (qt t) a) d : ℝ) : EReal) := (blk0 m c t a d).trans (h0 _).symm
include h0 in
theorem k_real (t : Fin cfg0.N) (a : Fin 1024) (d : Fin 128) :
    (iblk m c 1 t : Vec Ideal S1024x128 .f32) (ix2 a d) = ((K (B0 m c) (hd t) (pos (nt t) a) d : ℝ) : EReal) := (blk1 m c t a d).trans (h0 _).symm
include h0 in
theorem v_real (t : Fin cfg0.N) (a : Fin 1024) (d : Fin 128) :
    (iblk m c 2 t : Vec Ideal S1024x128 .f32) (ix2 a d) = ((Scores.V (B0 m c) (hd t) (pos (nt t) a) d : ℝ) : EReal) := (blk2 m c t a d).trans (h0 _).symm
include h1 in
theorem o_real (t : Fin cfg0.N) (a : Fin 1024) (d : Fin 128) :
    (iblk m c 3 t : Vec Ideal S1024x128 .f32) (ix2 a d) = ((DO (B1 m c) (hd t) (pos (qt t) a) d : ℝ) : EReal) := (blk3 m c t a d).trans (h1 _).symm
include h2 in
theorem c_real (t : Fin cfg0.N) (a : Fin 1024) :
    (iblk m c 5 t : Vec Ideal S1x1024x1 .f32) (ix3 0 a 0) = ((C (B2 m c) (hd t) (pos (qt t) a) : ℝ) : EReal) :=
  (blk5 m c t a).trans ((asCol_apply _ _ _ _).trans (h2 _).symm)
include h2 in
theorem r_real (t : Fin cfg0.N) (r : Fin 1024) :
    (iblk m c 6 t : Vec Ideal S1x1x1024 .f32) (ix3 0 0 r) = ((C (B2 m c) (hd t) (pos (nt t) r) : ℝ) : EReal) :=
  (blk6 m c t r).trans ((asRow_apply _ _ _ _).trans (h2 _).symm)

theorem nt_of_le {t : Fin cfg0.N} (h : t.val % 4 ≤ t.val / 4 % 4) : nt t = kt t := Fin.ext (min_eq_left h)

/-! ### The softmax of a tile -/

include h0 h2 in
theorem p_real_full (t : Fin cfg0.N) (h : t.val % 4 + 1 ≤ t.val / 4 % 4) (a r : Fin 1024) :
    k0_pay13 (F := Ideal) (iblk m c 0 t) (iblk m c 1 t) (iblk m c 5 t) (iblk m c 6 t) (iblk m c 4 t) (ix2 a r)
      = ((P (B0 m c) (B2 m c) (hd t) (pos (qt t) a) (pos (nt t) r) : ℝ) : EReal) := by
  refine (p_full (q_real h0 t) (k_real h0 t) (c_real h2 t) (r_real h2 t) a r).trans ?_
  rw [blk4 m c t a, ← exp_score_sub_logSum h0 h2 (hd t) (pos (qt t) a) (pos (nt t) r) 0]
  refine congrArg (fun z => Ideal.exp (z - _)) ?_
  have hs : sees (pos (qt t) a) (pos (nt t) r) := by
    show 1024 * min (t.val % 4) (t.val / 4 % 4) + r.val ≤ 1024 * (t.val / 4 % 4) + a.val
    have := r.isLt; omega
  exact (if_pos hs).symm

include h0 h2 in
theorem p_real_diag (t : Fin cfg0.N) (h : t.val / 4 % 4 = t.val % 4) (a r : Fin 1024) :
    k0_pay16 (F := Ideal) (iblk m c 0 t) (iblk m c 1 t) (iblk m c 5 t) (iblk m c 6 t) (iblk m c 4 t) (ix2 a r)
      = ((P (B0 m c) (B2 m c) (hd t) (pos (qt t) a) (pos (nt t) r) : ℝ) : EReal) := by
  refine (p_diag (q_real h0 t) (k_real h0 t) (c_real h2 t) (r_real h2 t) a r).trans ?_
  rw [blk4 m c t a, ← exp_score_sub_logSum h0 h2 (hd t) (pos (qt t) a) (pos (nt t) r) 0]
  refine congrArg (fun z => Ideal.exp (z - _)) ?_
  have hs : sees (pos (qt t) a) (pos (nt t) r) ↔ r.val ≤ a.val := by
    show 1024 * min (t.val % 4) (t.val / 4 % 4) + r.val ≤ 1024 * (t.val / 4 % 4) + a.val ↔ _
    omega
  unfold score
  by_cases hh : r.val ≤ a.val
  · rw [if_pos hh, if_pos (hs.mpr hh)]; rfl
  · rw [if_neg hh, if_neg (fun x => hh (hs.mp x))]

/-! ### The three running sums -/

/-- What a key adds to the three sums of a query: its weight with the weight's gradient, on the key's column and alone, and its weight
    on the key's column. -/
abbrev fA (m : (ℓ : Loc nD τ sig) → Buf (Elt Ideal) ℓ) (c : Dev nD) (h : Fin 32) (q : Fin 4096) (d : Fin 128) (k : Fin 4096) : ℝ :=
  P (B0 m c) (B2 m c) h q k * DP (B0 m c) (B1 m c) h q k * K (B0 m c) h k d
abbrev fB (m : (ℓ : Loc nD τ sig) → Buf (Elt Ideal) ℓ) (c : Dev nD) (h : Fin 32) (q : Fin 4096) (d : Fin 128) (k : Fin 4096) : ℝ :=
  P (B0 m c) (B2 m c) h q k * K (B0 m c) h k d
abbrev fD (m : (ℓ : Loc nD τ sig) → Buf (Elt Ideal) ℓ) (c : Dev nD) (h : Fin 32) (q : Fin 4096) (k : Fin 4096) : ℝ :=
  P (B0 m c) (B2 m c) h q k * DP (B0 m c) (B1 m c) h q k

/-- The running sums hold the key tiles up to the point's own. -/
def Good (m : (ℓ : Loc nD τ sig) → Buf (Elt Ideal) ℓ) (c : Dev nD) (t : Fin cfg0.N) (n : ℕ)
    (z : Vec Ideal S1024x128 .f32 × Vec Ideal S1024x128 .f32 × Vec Ideal S1024x1 .f32) : Prop :=
  (∀ a d, z.1 (ix2 a d) = ((upto (fA m c (hd t) (pos (qt t) a) d) n : ℝ) : EReal))
  ∧ (∀ a d, z.2.1 (ix2 a d) = ((upto (fB m c (hd t) (pos (qt t) a) d) n : ℝ) : EReal))
  ∧ (∀ a, z.2.2 (ix2 a 0) = ((upto (fD m c (hd t) (pos (qt t) a)) n : ℝ) : EReal))

theorem upto_kt (f : Fin 4096 → ℝ) (t : Fin cfg0.N) : upto f (t.val % 4 + 1) = upto f (t.val % 4) + tile f (kt t) :=
  upto_succ f _ _

theorem good_reset (t : Fin cfg0.N) : Good m c t 0 (k0_pay1 (F := Ideal), k0_pay2 (F := Ideal), k0_pay3 (F := Ideal)) :=
  ⟨fun a d => by rw [upto_zero]; exact reset_one (ix2 a d), fun a d => by rw [upto_zero]; exact reset_two (ix2 a d),
    fun a => by rw [upto_zero]; exact reset_sum (ix2 a 0)⟩

/-- A tile above the diagonal adds nothing. -/
theorem good_idle (t : Fin cfg0.N) (h : t.val / 4 % 4 < t.val % 4) {z : Vec Ideal S1024x128 .f32 × Vec Ideal S1024x128 .f32 × Vec Ideal S1024x1 .f32}
    (hz : Good m c t (t.val % 4) z) : Good m c t (t.val % 4 + 1) z := by
  have off : ∀ a r, P (B0 m c) (B2 m c) (hd t) (pos (qt t) a) (pos (kt t) r) = 0 := fun a r => prob_off _ _ (by
    show ¬(1024 * (t.val % 4) + r.val ≤ 1024 * (t.val / 4 % 4) + a.val)
    have := a.isLt; omega)
  exact ⟨fun a d => by rw [upto_kt, tile_zero _ _ fun r => by unfold fA; rw [off, zero_mul, zero_mul], add_zero]; exact hz.1 a d,
    fun a d => by rw [upto_kt, tile_zero _ _ fun r => by unfold fB; rw [off, zero_mul], add_zero]; exact hz.2.1 a d,
    fun a => by rw [upto_kt, tile_zero _ _ fun r => by unfold fD; rw [off, zero_mul], add_zero]; exact hz.2.2 a⟩

include h0 h1 h2 in
theorem good_full (t : Fin cfg0.N) (h : t.val % 4 + 1 ≤ t.val / 4 % 4) {z : Vec Ideal S1024x128 .f32 × Vec Ideal S1024x128 .f32 × Vec Ideal S1024x1 .f32}
    (hz : Good m c t (t.val % 4) z) :
    Good m c t (t.val % 4 + 1) (k0_pay5 (k0_pay14 (F := Ideal) (iblk m c 0 t) (iblk m c 1 t) (iblk m c 5 t) (iblk m c 6 t) (iblk m c 4 t) (iblk m c 3 t) (iblk m c 2 t)) (iblk m c 1 t) z.1, k0_pay6 (k0_pay13 (F := Ideal) (iblk m c 0 t) (iblk m c 1 t) (iblk m c 5 t) (iblk m c 6 t) (iblk m c 4 t)) (iblk m c 1 t) z.2.1,
      k0_pay15 (iblk m c 0 t) (iblk m c 1 t) (iblk m c 5 t) (iblk m c 6 t) (iblk m c 4 t) (iblk m c 3 t) (iblk m c 2 t) z.2.2) := by
  have hp := p_real_full h0 h2 t h
  have hd := pd_full (v_real h0 t) (o_real h1 t) hp
  have e : nt t = kt t := nt_of_le (by omega)
  refine ⟨fun a d => (add_keys (k_real h0 t) hd z.1 a d _ (hz.1 a d)).trans ?_,
    fun a d => (add_keys (k_real h0 t) hp z.2.1 a d _ (hz.2.1 a d)).trans ?_, fun a => (sum_full hd z.2.2 a _ (hz.2.2 a)).trans ?_⟩ <;>
  · rw [upto_kt, ← e]; rfl

include h0 h1 h2 in
theorem good_diag (t : Fin cfg0.N) (h : t.val / 4 % 4 = t.val % 4) {z : Vec Ideal S1024x128 .f32 × Vec Ideal S1024x128 .f32 × Vec Ideal S1024x1 .f32}
    (hz : Good m c t (t.val % 4) z) :
    Good m c t (t.val % 4 + 1) (k0_pay9 (k0_pay17 (F := Ideal) (iblk m c 0 t) (iblk m c 1 t) (iblk m c 5 t) (iblk m c 6 t) (iblk m c 4 t) (iblk m c 3 t) (iblk m c 2 t)) (iblk m c 1 t) z.1, k0_pay10 (k0_pay16 (F := Ideal) (iblk m c 0 t) (iblk m c 1 t) (iblk m c 5 t) (iblk m c 6 t) (iblk m c 4 t)) (iblk m c 1 t) z.2.1,
      k0_pay7 (k0_pay18 (iblk m c 0 t) (iblk m c 1 t) (iblk m c 5 t) (iblk m c 6 t) (iblk m c 4 t) (iblk m c 3 t) (iblk m c 2 t) z.2.2)) := by
  have hp := p_real_diag h0 h2 t h
  have hd := pd_diag (v_real h0 t) (o_real h1 t) hp
  have e : nt t = kt t := nt_of_le (by omega)
  refine ⟨fun a d => (add_keys (k_real h0 t) hd z.1 a d _ (hz.1 a d)).trans ?_,
    fun a d => (add_keys (k_real h0 t) hp z.2.1 a d _ (hz.2.1 a d)).trans ?_, fun a => (sum_diag hd z.2.2 a _ (hz.2.2 a)).trans ?_⟩ <;>
  · rw [upto_kt, ← e]; rfl

/-! ### After each point -/

/-- What the point leaves in the running sums. -/
abbrev left (m : (ℓ : Loc nD τ sig) → Buf (Elt Ideal) ℓ) (c : Dev nD) (n : ℕ) (hn : n < cfg0.N) :
    Vec Ideal S1024x128 .f32 × Vec Ideal S1024x128 .f32 × Vec Ideal S1024x1 .f32 := (outsAt0 m c n hn).2.2

theorem good_prev (t : Fin cfg0.N) (h : ¬t.val % 4 = 0) (hn : t.val - 1 < cfg0.N)
    (hg : Good m c ⟨t.val - 1, hn⟩ ((t.val - 1) % 4 + 1) (left m c (t.val - 1) hn)) : Good m c t (t.val % 4) (left m c (t.val - 1) hn) := by
  have e1 : hd ⟨t.val - 1, hn⟩ = hd t := Fin.ext (by show (t.val - 1) / 16 = t.val / 16; omega)
  have e2 : qt ⟨t.val - 1, hn⟩ = qt t := Fin.ext (by show (t.val - 1) / 4 % 4 = t.val / 4 % 4; omega)
  have e3 : (t.val - 1) % 4 + 1 = t.val % 4 := by omega
  unfold Good at hg ⊢
  rw [e1, e2, e3] at hg
  exact hg

include h0 h1 h2 in
/-- After every point the running sums hold the key tiles up to its own. -/
theorem good_all (n : ℕ) : ∀ hn : n < cfg0.N, Good m c ⟨n, hn⟩ (n % 4 + 1) (left m c n hn) := by
  induction n using Nat.strong_induction_on with
  | _ n ih =>
    intro hn
    have hN := lt_of_lt_of_eq hn (show cfg0.N = 512 from N_0)
    have hp : ¬n % 4 = 0 → Good m c ⟨n, hn⟩ (n % 4) (left m c (n - 1) (Nat.lt_of_le_of_lt (Nat.sub_le _ _) hn)) := fun h =>
      good_prev ⟨n, hn⟩ h _ (ih (n - 1) (by omega) _)
    by_cases c0 : n % 4 = 0
    · have hz : Good m c ⟨n, hn⟩ (n % 4) (k0_pay1 (F := Ideal), k0_pay2 (F := Ideal), k0_pay3 (F := Ideal)) := by rw [c0]; exact good_reset _
      by_cases c2 : n / 4 % 4 = n % 4
      · have e := outsAt0_A m c ⟨n, hn⟩ c0 (by show ¬n % 4 + 1 ≤ n / 4 % 4; omega) c2 (by show ¬n % 4 = 3; omega)
        rw [case_A] at e
        exact (congrArg (fun z => Good m c ⟨n, hn⟩ (n % 4 + 1) z.2.2) e).mpr (good_diag h0 h1 h2 ⟨n, hn⟩ c2 hz)
      · have c1 : n % 4 + 1 ≤ n / 4 % 4 := by omega
        have e := outsAt0_D m c ⟨n, hn⟩ c0 c1 c2 (by show ¬n % 4 = 3; omega)
        rw [case_D] at e
        exact (congrArg (fun z => Good m c ⟨n, hn⟩ (n % 4 + 1) z.2.2) e).mpr (good_full h0 h1 h2 ⟨n, hn⟩ c1 hz)
    · by_cases c1 : n % 4 + 1 ≤ n / 4 % 4
      · have e := outsAt0_F m c ⟨n, hn⟩ c0 c1 (by show ¬n / 4 % 4 = n % 4; omega) (by show ¬n % 4 = 3; omega)
        rw [case_F] at e
        exact (congrArg (fun z => Good m c ⟨n, hn⟩ (n % 4 + 1) z.2.2) e).mpr (good_full h0 h1 h2 ⟨n, hn⟩ c1 (hp c0))
      · by_cases c2 : n / 4 % 4 = n % 4
        · by_cases c3 : n % 4 = 3
          · have e := outsAt0_G m c ⟨n, hn⟩ c0 c1 c2 c3
            rw [case_G] at e
            exact (congrArg (fun z => Good m c ⟨n, hn⟩ (n % 4 + 1) z.2.2) e).mpr (good_diag h0 h1 h2 ⟨n, hn⟩ c2 (hp c0))
          · have e := outsAt0_E m c ⟨n, hn⟩ c0 c1 c2 c3
            rw [case_E] at e
            exact (congrArg (fun z => Good m c ⟨n, hn⟩ (n % 4 + 1) z.2.2) e).mpr (good_diag h0 h1 h2 ⟨n, hn⟩ c2 (hp c0))
        · have hi := good_idle ⟨n, hn⟩ (by show n / 4 % 4 < n % 4; omega) (hp c0)
          by_cases c3 : n % 4 = 3
          · have e := outsAt0_C m c ⟨n, hn⟩ c0 c1 c2 c3
            exact (congrArg (fun z => Good m c ⟨n, hn⟩ (n % 4 + 1) z.2.2) e).mpr hi
          · have e := outsAt0_B m c ⟨n, hn⟩ c0 c1 c2 c3
            exact (congrArg (fun z => Good m c ⟨n, hn⟩ (n % 4 + 1) z.2.2) e).mpr hi

/-- The blocks written at a query tile's last point are formed from its running sums there. -/
theorem written (n : ℕ) (hn : n < cfg0.N) (h3 : n % 4 = 3) :
    (outsAt0 m c n hn).1 = k0_pay11 (left m c n hn).1 (left m c n hn).2.2 (left m c n hn).2.1
      ∧ (outsAt0 m c n hn).2.1 = k0_pay12 (left m c n hn).2.2 := by
  have hN := lt_of_lt_of_eq hn (show cfg0.N = 512 from N_0)
  by_cases c2 : n / 4 % 4 = n % 4
  · have e := outsAt0_G m c ⟨n, hn⟩ (by show ¬n % 4 = 0; omega) (by show ¬n % 4 + 1 ≤ n / 4 % 4; omega) c2 h3
    rw [case_G] at e
    exact (congrArg (fun z => z.1 = k0_pay11 z.2.2.1 z.2.2.2.2 z.2.2.2.1 ∧ z.2.1 = k0_pay12 z.2.2.2.2) e).mpr ⟨rfl, rfl⟩
  · have e := outsAt0_C m c ⟨n, hn⟩ (by show ¬n % 4 = 0; omega) (by show ¬n % 4 + 1 ≤ n / 4 % 4; omega) c2 h3
    rw [case_C] at e
    exact (congrArg (fun z => z.1 = k0_pay11 z.2.2.1 z.2.2.2.2 z.2.2.2.1 ∧ z.2.1 = k0_pay12 z.2.2.2.2) e).mpr ⟨rfl, rfl⟩

end Cert.Kernel2Ideal.QSums

end

end
-- ==== Proof.QRef.lean ====
/- What the query gradient's reference holds when the arguments hold reals. -/
module

public import proofs.«01_k».proof.Proof.Gen.Reference2Ideal.Read
public import proofs.«01_k».proof.Proof.RefValue

@[expose] public section

set_option maxRecDepth 16384

noncomputable section

namespace Cert.Reference2Ideal.QRef

open Cert.Reference2Ideal Cert.Reference2Ideal.Gen Cert.Reference2Ideal.Read Idealize.ShloMosaic Idealize.ShloMosaic.ValueIdx
open Cert.Rows Cert.Scores

variable {x0 : (⟨S4096x16384, .f32⟩ : BufTy).Contents (Elt Ideal)} {x1 : (⟨S4096x4096, .f32⟩ : BufTy).Contents (Elt Ideal)}
  {x2 : (⟨S4096x32, .f32⟩ : BufTy).Contents (Elt Ideal)}

/-! ### The forward lines and the softmax's gradient are the ones of the other reference -/

theorem same48 : val_main_v48 (F := Ideal) x0 x2 = Cert.ReferenceIdeal.Read.val_main_v48 (F := Ideal) x0 x2 := rfl
theorem same74 : val_main_v74 (F := Ideal) x0 x1 x2 = Cert.ReferenceIdeal.Read.val_main_v72 (F := Ideal) x0 x1 x2 := rfl

variable (h0 : Real2 x0) (h1 : Real2 x1) (h2 : Real2 x2)
include h0 h1 h2

/-- The result for the queries. -/
theorem real80 (q : Fin 4096) (h : Fin 32) (d : Fin 128) :
    val_main_v80 (F := Ideal) x0 x1 x2 (ix2 q (col h d)) = ((DQ x0 x1 x2 h q d : ℝ) : EReal) := by
  have := q.isLt; have := h.isLt; have := d.isLt
  rw [val_main_v80_apply, val_main_v79_apply, show idx_main_v79 (ix2 q (col h d)) = ix3 q h d from
      ext3 (by show (q.val * 4096 + (128 * h.val + d.val)) / 4096 = q.val; omega)
        (by show (q.val * 4096 + (128 * h.val + d.val)) / 128 % 32 = h.val; omega)
        (by show (q.val * 4096 + (128 * h.val + d.val)) % 128 = d.val; omega),
    val_main_v78_apply, show idx_main_v78 (ix3 q h d) = ix3 h q d from ext3 rfl rfl rfl]
  show val_main_v77 (F := Ideal) x0 x1 x2 (ix3 h q d) = _
  rw [val_main_v77_apply]
  unfold DQ
  rw [Finset.sum_mul]
  refine sum_coe _ _ _ fun k => ?_
  rw [show lidx_main_v77 (ix3 h q d) k = ix3 h q k from ext3 rfl rfl rfl,
    show ridx_main_v77 (ix3 h q d) k = ix3 k h d from ext3 rfl rfl rfl, val_main_v76_apply, same74,
    Cert.ReferenceIdeal.RefValue.real72 h0 h1 h2, val_main_v75_apply, mul_right_comm, EReal.coe_mul, EReal.coe_mul, scale_coe]
  refine congrArg₂ (· * ·) rfl ?_
  exact Cert.ReferenceIdeal.RefValue.real5 h0 k h d

/-- The attention's row with its gradient is the softmax with its own. -/
theorem real82 (h : Fin 32) (q : Fin 4096) (u : Fin 1) :
    val_main_v82 (F := Ideal) x0 x1 x2 (ix3 h q u) = ((∑ k, P x0 x2 h q k * DP x0 x1 h q k : ℝ) : EReal) := by
  have := q.isLt; have := h.isLt
  have att : ∀ d : Fin 128, val_main_v56 (F := Ideal) x0 x2 (ix3 q h d) = ((∑ k, Scores.V x0 h k d * P x0 x2 h q k : ℝ) : EReal) := fun d => by
    have := d.isLt
    rw [val_main_v56_apply, val_main_v54_apply, show idx_main_v54 (idx_main_v56 (ix3 q h d)) = ix3 q h d from
      ext3 (by show (((q.val * 32 + h.val) * 128 + d.val) / 4096 * 4096 + ((q.val * 32 + h.val) * 128 + d.val) % 4096) / 4096 = q.val; omega)
        (by show (((q.val * 32 + h.val) * 128 + d.val) / 4096 * 4096 + ((q.val * 32 + h.val) * 128 + d.val) % 4096) / 128 % 32 = h.val; omega)
        (by show (((q.val * 32 + h.val) * 128 + d.val) / 4096 * 4096 + ((q.val * 32 + h.val) * 128 + d.val) % 4096) % 128 = d.val; omega),
      val_main_v53_apply, show idx_main_v53 (ix3 q h d) = ix3 h d q from ext3 rfl rfl rfl, val_main_v52_apply]
    refine sum_coe _ _ _ fun k => ?_
    rw [show lidx_main_v52 (ix3 h d q) k = ix3 k h d from ext3 rfl rfl rfl,
      show ridx_main_v52 (ix3 h d q) k = ix3 h q k from ext3 rfl rfl rfl, same48, Cert.ReferenceIdeal.RefValue.real48 h0 h2, EReal.coe_mul]
    exact congrArg (· * _) (Cert.ReferenceIdeal.RefValue.real6 h0 k h d)
  rw [val_main_v82_apply, val_main_v81_apply, show idx_main_v81 (idx_main_v82 (ix3 h q u)) = ix2 q h from ext2 rfl rfl,
    val_main_v58_apply, sum_coe _ _ (fun d => DO x1 h q d * ∑ k, Scores.V x0 h k d * P x0 x2 h q k) fun d => by
      rw [show idx_main_v58 (ix2 q h) d = ix3 q h d from ext3 rfl rfl rfl, val_main_v57_apply, att, EReal.coe_mul]
      exact congrArg (· * _) ((Cert.ReferenceIdeal.RefValue.at55 x1 q h d).trans (h1 _).symm)]
  show Ideal.ofBits .f32 0x00000000#32 + _ = _
  rw [lit_zero, ← EReal.coe_add, zero_add]
  refine congrArg (fun z : ℝ => (z : EReal)) ?_
  unfold DP
  simp only [Finset.mul_sum]
  rw [Finset.sum_comm]
  exact Finset.sum_congr rfl fun k _ => Finset.sum_congr rfl fun d _ => by ring

end Cert.Reference2Ideal.QRef

end

end
-- ==== Proof.QFinal.lean ====
/- The query gradient's kernel gives the reference's two results, element by element, when the arguments hold reals. -/
module

public import proofs.«01_k».proof.Proof.QSums
public import proofs.«01_k».proof.Proof.QRef
public import Idealize.ShloMosaic.Lib.Pipeline.Value

@[expose] public section

set_option maxRecDepth 16384

noncomputable section

namespace Cert.Kernel2Ideal.QFinal

open Cert.Kernel2Ideal Cert.Kernel2Ideal.Gen Idealize.ShloMosaic Idealize.ShloMosaic.TcCoe Idealize.SL.Sem Idealize.ShloMosaic.ValueIdx
open Cert.Rows Cert.Scores Cert.Upto Cert.Kernel2Ideal.QBlocks Cert.Kernel2Ideal.QTile Cert.Kernel2Ideal.QSums

variable {m : (ℓ : Loc nD τ sig) → Buf (Elt Ideal) ℓ} {c : Dev nD}
variable (h0 : Real2 (B0 m c)) (h1 : Real2 (B1 m c)) (h2 : Real2 (B2 m c))

/-- The gradient of a query from the three sums. -/
theorem dq_of_sums (h : Fin 32) (q : Fin 4096) (d : Fin 128) :
    ((∑ k, fA m c h q d k) - (∑ k, fD m c h q k) * ∑ k, fB m c h q d k) * scale = DQ (B0 m c) (B1 m c) (B2 m c) h q d := by
  unfold DQ
  refine congrArg (· * scale) ?_
  rw [Finset.mul_sum, ← Finset.sum_sub_distrib]
  refine Finset.sum_congr rfl fun k _ => ?_
  have e : DS (B0 m c) (B1 m c) (B2 m c) h q k = P (B0 m c) (B2 m c) h q k * (DP (B0 m c) (B1 m c) h q k - ∑ k, fD m c h q k) := rfl
  rw [e]; ring

section Blocks
include h0 h1 h2

/-! ### The blocks written after the last key tile -/

theorem at_q (n : ℕ) (hn : n < cfg0.N) (h3 : n % 4 = 3) (a : Fin 1024) (d : Fin 128) :
    (outsAt0 m c n hn).1 (ix2 a d) = ((DQ (B0 m c) (B1 m c) (B2 m c) (hd ⟨n, hn⟩) (pos (qt ⟨n, hn⟩) a) d : ℝ) : EReal) := by
  have g := good_all h0 h1 h2 n hn
  rw [show n % 4 + 1 = 4 from by omega] at g
  have g1 := g.1 a d
  have g2 := g.2.1 a d
  have g3 := g.2.2 a
  rw [upto_four] at g1 g2 g3
  rw [← dq_of_sums]
  exact (congrFun (written n hn h3).1 _).trans (out_q _ _ _ a d _ _ _ g1 g2 g3)

theorem at_sum (n : ℕ) (hn : n < cfg0.N) (h3 : n % 4 = 3) (u v : Fin 1) (a : Fin 1024) :
    (outsAt0 m c n hn).2.1 (ix3 u a v) = ((∑ k, fD m c (hd ⟨n, hn⟩) (pos (qt ⟨n, hn⟩) a) k : ℝ) : EReal) := by
  have g := (good_all h0 h1 h2 n hn).2.2 a
  rw [show n % 4 + 1 = 4 from by omega, upto_four] at g
  exact (congrFun (written n hn h3).2 _).trans ((out_sum _ u v a).trans g)

end Blocks

/-! ### The arrays -/

theorem idx7 : ∀ t : Fin cfg0.N, win0_7.index t 0 = t.val / 4 % 4 ∧ win0_7.index t 1 = t.val / 16 :=
  (by decide +kernel : ∀ t : Fin grid0.N, _)
theorem idx8 : ∀ t : Fin cfg0.N, win0_8.index t 0 = t.val / 16 ∧ win0_8.index t 1 = t.val / 4 % 4 ∧ win0_8.index t 2 = 0 :=
  (by decide +kernel : ∀ t : Fin grid0.N, _)

/-- The grid point that writes the block of query tile `j` of head `h`. -/
def lastPt (h : ℕ) (j : ℕ) (hh : h < 32) (hj : j < 4) : Fin cfg0.N :=
  ⟨16 * h + 4 * j + 3, lt_of_lt_of_eq (by omega : _ < 512) (show 512 = cfg0.N from N_0.symm)⟩

theorem cover7 (i : S4096x4096.Idx) : ∃ t : Fin cfg0.N, (cfg0.win 7).flush t = true ∧ i ∈ ((cfg0.win 7).blk t).view.set := by
  have b0 : (i 0).val < 4096 := (i 0).isLt
  have b1 : (i 1).val < 4096 := (i 1).isLt
  let t := lastPt ((i 1).val / 128) ((i 0).val / 1024) (by omega) (by omega)
  have ht : t.val = 16 * ((i 1).val / 128) + 4 * ((i 0).val / 1024) + 3 := rfl
  have e := idx7 t
  refine ⟨t, (flush0_7 t).mpr (by omega), ?_⟩
  show i ∈ ((View.whole main_v35_0).slice (win0_7.rect t)).set
  rw [View.set_slice_whole, Rect.mem_set_unit]
  intro a
  match a with
  | ⟨0, _⟩ => show win0_7.index t 0 * 1024 ≤ (i 0).val ∧ (i 0).val < win0_7.index t 0 * 1024 + 1024; rw [e.1]; omega
  | ⟨1, _⟩ => show win0_7.index t 1 * 128 ≤ (i 1).val ∧ (i 1).val < win0_7.index t 1 * 128 + 128; rw [e.2]; omega

theorem cover8 (i : S32x4096x1.Idx) : ∃ t : Fin cfg0.N, (cfg0.win 8).flush t = true ∧ i ∈ ((cfg0.win 8).blk t).view.set := by
  have b0 : (i 0).val < 32 := (i 0).isLt
  have b1 : (i 1).val < 4096 := (i 1).isLt
  have b2 : (i 2).val < 1 := (i 2).isLt
  let t := lastPt (i 0).val ((i 1).val / 1024) (by omega) (by omega)
  have ht : t.val = 16 * (i 0).val + 4 * ((i 1).val / 1024) + 3 := rfl
  have e := idx8 t
  refine ⟨t, (flush0_8 t).mpr (by omega), ?_⟩
  show i ∈ ((View.whole main_v35_1).slice (win0_8.rect t)).set
  rw [View.set_slice_whole, Rect.mem_set_unit]
  intro a
  match a with
  | ⟨0, _⟩ => show win0_8.index t 0 * 1 ≤ (i 0).val ∧ (i 0).val < win0_8.index t 0 * 1 + 1; rw [e.1]; omega
  | ⟨1, _⟩ => show win0_8.index t 1 * 1024 ≤ (i 1).val ∧ (i 1).val < win0_8.index t 1 * 1024 + 1024; rw [e.2.1]; omega
  | ⟨2, _⟩ => show win0_8.index t 2 * 1 ≤ (i 2).val ∧ (i 2).val < win0_8.index t 2 * 1 + 1; rw [e.2.2]; omega

section Arrays
include h0 h1 h2

theorem dq_eq : (dats m 0 c).arrAt 7 cfg0.N = (Cert.Reference2Ideal.Read.val_main_v80 (F := Ideal) (B0 m c) (B1 m c) (B2 m c) : S4096x4096.Idx → EReal) := by
  refine (dats m 0 c).arrAt_eq_of_cover 7 _ (fun t hf => ?_) cover7
  have h3 : t.val % 4 = 3 := (flush0_7 t).mp hf
  have e := idx7 t
  show (cfg0.win 7).cut (grid0.coords t) ((dats m 0 c).after 7 t) = _
  rw [after0_7]
  funext y
  have y0 : (y 0).val < 1024 := (y 0).isLt
  have y1 : (y 1).val < 128 := (y 1).isLt
  have ey : ((cfg0.win 7).xinj (grid0.coords t) y : S1024x128.Idx) = ix2 (⟨(y 0).val, y0⟩ : Fin 1024) (⟨(y 1).val, y1⟩ : Fin 128) := ext2 rfl rfl
  show (outsAt0 m c t.val t.isLt).1 ((cfg0.win 7).xinj (grid0.coords t) y) = Cert.Reference2Ideal.Read.val_main_v80 (F := Ideal) (B0 m c) (B1 m c) (B2 m c) (((cfg0.win 7).blk t).view.emb y)
  rw [ey, at_q h0 h1 h2 t.val t.isLt h3]
  refine (Cert.Reference2Ideal.QRef.real80 h0 h1 h2 _ _ _).symm.trans (congrArg _ (ext2 ?_ ?_))
  · show 1024 * (t.val / 4 % 4) + (y 0).val = win0_7.index t 0 * 1024 + 1 * (y 0).val
    rw [e.1]; omega
  · show 128 * (t.val / 16) + (y 1).val = win0_7.index t 1 * 128 + 1 * (y 1).val
    rw [e.2]; omega

theorem sum_eq : (dats m 0 c).arrAt 8 cfg0.N = (Cert.Reference2Ideal.Read.val_main_v82 (F := Ideal) (B0 m c) (B1 m c) (B2 m c) : S32x4096x1.Idx → EReal) := by
  refine (dats m 0 c).arrAt_eq_of_cover 8 _ (fun t hf => ?_) cover8
  have h3 : t.val % 4 = 3 := (flush0_8 t).mp hf
  have e := idx8 t
  show (cfg0.win 8).cut (grid0.coords t) ((dats m 0 c).after 8 t) = _
  rw [after0_8]
  funext y
  have y0 : (y 0).val < 1 := (y 0).isLt
  have y1 : (y 1).val < 1024 := (y 1).isLt
  have y2 : (y 2).val < 1 := (y 2).isLt
  have ey : ((cfg0.win 8).xinj (grid0.coords t) y : S1x1024x1.Idx) = ix3 (⟨(y 0).val, y0⟩ : Fin 1) (⟨(y 1).val, y1⟩ : Fin 1024) (⟨(y 2).val, y2⟩ : Fin 1) := ext3 rfl rfl rfl
  show (outsAt0 m c t.val t.isLt).2.1 ((cfg0.win 8).xinj (grid0.coords t) y) = Cert.Reference2Ideal.Read.val_main_v82 (F := Ideal) (B0 m c) (B1 m c) (B2 m c) (((cfg0.win 8).blk t).view.emb y)
  rw [ey, at_sum h0 h1 h2 t.val t.isLt h3]
  refine (Cert.Reference2Ideal.QRef.real82 h0 h1 h2 _ _ (0 : Fin 1)).symm.trans (congrArg _ (ext3 ?_ ?_ ?_))
  · show t.val / 16 = win0_8.index t 0 * 1 + 1 * (y 0).val
    rw [e.1]; omega
  · show 1024 * (t.val / 4 % 4) + (y 1).val = win0_8.index t 1 * 1024 + 1 * (y 1).val
    rw [e.2.1]; omega
  · show 0 = win0_8.index t 2 * 1 + 1 * (y 2).val
    rw [e.2.2]; omega

end Arrays

/-- After the run each result array is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v35_0) = (dats m 0 c).arrAt 7 cfg0.N
      ∧ r.2.mem ((c : Thread nD τ).loc main_v35_1) = (dats m 0 c).arrAt 8 cfg0.N :=
  (θ_run defs _ _).mono (fun _ g c => ⟨(g c).1 7, (g c).1 8⟩) (run_main m ρ)

/-- The kernel's run: its results are the reference's arrays of its arguments, which it keeps. -/
theorem run (m : (ℓ : Loc nD τ sig) → Buf (Elt Ideal) ℓ) (ρ : Dev nD → PrngReg)
    (h : ∀ c, Real2 (B0 m c) ∧ Real2 (B1 m c) ∧ Real2 (B2 m c)) :
    θ_run defs (onTc (τ := τ) (main (F := Ideal))) ⟨m, fun _ => 0, ρ⟩ fun r => ∀ c : Dev nD,
      r.2.mem ((c : Thread nD τ).loc main_v35_0) = (Cert.Reference2Ideal.Read.val_main_v80 (F := Ideal) (B0 m c) (B1 m c) (B2 m c) : S4096x4096.Idx → EReal)
      ∧ r.2.mem ((c : Thread nD τ).loc main_v35_1) = (Cert.Reference2Ideal.Read.val_main_v82 (F := Ideal) (B0 m c) (B1 m c) (B2 m c) : S32x4096x1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).1.trans (dq_eq (h c).1 (h c).2.1 (h c).2.2),
      (g.2 c).2.trans (sum_eq (h c).1 (h c).2.1 (h c).2.2), g.1 c⟩)
    (θ_run_and (unchanged m ρ) (arrays m ρ))

end Cert.Kernel2Ideal.QFinal

end

end
-- ==== Proof.InDwZ.lean ====
/- The gradient of the first layer's input weights, the part of its gate z: the call's array holds the product of the
   gradient of that part of the projection, turned, and the layer's input in rows 4096 to 10239, and keeps the other rows. -/
module

public import proofs.«01_k».proof.Proof.KeptRows
public import proofs.«01_k».proof.Proof.Gen.Kernel10Ideal.Frame
public import proofs.«01_k».proof.Proof.Gen.Reference10Ideal.Read
public import Idealize.ShloMosaic.Lib.Pipeline.Value
public import Idealize.ShloMosaic.Lib.Pipeline.ValueKit.Partial
public import Idealize.ShloMosaic.Lib.Tactic

@[expose] public section

set_option maxRecDepth 16384

noncomputable section

namespace Cert.Kernel10Ideal.InDwZ

open Cert.Kernel10Ideal Cert.Kernel10Ideal.Gen Idealize.ShloMosaic.TcCoe Idealize.SL.Sem Idealize.ShloMosaic.ValueIdx
open Cert.Prod
open Idealize.ShloMosaic hiding ix2

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S2048x1024) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S2048x1024) hz]

end Body

section Value
variable (m : (ℓ : Loc nD τ sig) → Buf (Elt Ideal) ℓ) (c : Dev nD)

/-- The gradient of that part of the projection, the layer's input, and the array whose other rows are kept. -/
abbrev X : S4096x6144.Idx → EReal := m ((c : Thread nD τ).loc main_arg0)
abbrev Y : S4096x4096.Idx → EReal := m ((c : Thread nD τ).loc main_arg1)
abbrev B : S18528x4096.Idx → EReal := m ((c : Thread nD τ).loc main_arg2)

theorem V_left : (V m c main_v0 : S4096x6144.Idx → EReal) = X m c := by
  show StableHlo.after hostOps0 (fun b => m (c, b)) (Proc.devRef .tc main_v0) = _
  simp only [hostOps0]
  after_results_simp
  rfl

theorem V_right : (V m c main_v1 : S4096x4096.Idx → EReal) = Y m c := by
  show StableHlo.after hostOps0 (fun b => m (c, b)) (Proc.devRef .tc main_v1) = _
  simp only [hostOps0]
  after_results_simp
  rfl

/-- The result's buffer holds the third argument when the grid starts. -/
theorem V_out : (V m c main_v2 : S18528x4096.Idx → EReal) = B m c := by
  show StableHlo.after hostOps0 (fun b => m (c, b)) (Proc.devRef .tc main_v2) = _
  simp only [hostOps0]
  after_results_simp
  rfl

/-! ### The tiles a point reads -/

theorem idxs : ∀ t : Fin grid0.N, (win0_0.index t 0 = t.val % 2 ∧ win0_0.index t 1 = t.val / 2 / 4)
    ∧ (win0_1.index t 0 = t.val % 2 ∧ win0_1.index t 1 = t.val / 2 % 4)
    ∧ (win0_2.index t 0 = t.val / 2 / 4 + 4 ∧ win0_2.index t 1 = t.val / 2 % 4) := by decide +kernel

theorem left (t : Fin cfg0.N) (k : Fin 2048) (r : Fin 1024) :
    (iblk m c 0 t : Vec Ideal S2048x1024 .bf16) (ix2 k r) = at2 (X m c) (2048 * (t.val % 2) + k.val) (1024 * (t.val / 2 / 4) + r.val) := by
  unfold iblk
  rw [View.read_apply]
  show (V m c main_v0 : S4096x6144.Idx → EReal) _ = _
  rw [V_left m c]
  refine eq_at2 _ _ ?_ ?_
  · show win0_0.index t 0 * 2048 + 1 * k.val = _
    rw [(idxs t).1.1]; omega
  · show win0_0.index t 1 * 1024 + 1 * r.val = _
    rw [(idxs t).1.2]; omega

theorem right (t : Fin cfg0.N) (k : Fin 2048) (s : Fin 1024) :
    (iblk m c 1 t : Vec Ideal S2048x1024 .bf16) (ix2 k s) = at2 (Y m c) (2048 * (t.val % 2) + k.val) (1024 * (t.val / 2 % 4) + s.val) := by
  unfold iblk
  rw [View.read_apply]
  show (V m c main_v1 : S4096x4096.Idx → EReal) _ = _
  rw [V_right m c]
  refine eq_at2 _ _ ?_ ?_
  · show win0_1.index t 0 * 2048 + 1 * k.val = _
    rw [(idxs t).2.1.1]; omega
  · show win0_1.index t 1 * 1024 + 1 * s.val = _
    rw [(idxs t).2.1.2]; omega

/-! ### A tile's product -/

/-- The term the entry at `r`, `s` of block `j` takes from row `k` of both matrices. -/
def term (j r s k : ℕ) : EReal := at2 (X m c) k (1024 * (j / 4) + r) * at2 (Y m c) k (1024 * (j % 4) + s)

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 2) r.val s.val (2048 * (t.val % 2) + k) := by
  unfold k0_pay2
  simp only [shapeCast_self]
  exact tile_tn acc _ _ r s _ fun k => congrArg₂ (· * ·) (left m c t k r) (right m c t k s)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, read in its three parts. -/
theorem parts (i : S18528x4096.Idx) :
    (Cert.Reference10Ideal.Read.val_main_v7 (F := Ideal) (X m c) (Y m c) (B m c) i : EReal)
      = if 4096 ≤ (i 0).val ∧ (i 0).val < 10240 then ∑ k ∈ Finset.range 4096, at2 (X m c) k ((i 0).val - 4096) * at2 (Y m c) k (i 1).val
        else B m c i := by
  unfold Cert.Reference10Ideal.Read.val_main_v7
  refine kept_rows (n0 := 4096) (n1 := 6144) (n2 := 8288) _ _ _ (B m c) _
    (g := fun r s => ∑ k ∈ Finset.range 4096, at2 (X m c) k r * at2 (Y m c) k s) (fun q => ?_) (fun q => ?_) (fun q => ?_) i
  · rw [Cert.Reference10Ideal.Read.val_main_v4_apply]
    exact eq_at2 _ _ rfl rfl
  · rw [Cert.Reference10Ideal.Read.val_main_v6_apply]
    exact eq_at2 _ _ rfl rfl
  · rw [Cert.Reference10Ideal.Read.val_main_v5_apply, Cert.Reference10Ideal.Read.val_main_v3_apply, Cert.Reference10Ideal.Read.val_main_v2_apply]
    exact sum_eq _ _ fun k => congrArg₂ (· * ·) (eq_at2 _ _ rfl rfl) (eq_at2 _ _ rfl rfl)

/-- The reference's array in the rows written. -/
theorem entry (i : S18528x4096.Idx) (j r s : ℕ) (hj : j < 24) (hr : r < 1024) (h0 : (i 0).val = 1024 * (j / 4 + 4) + r) (h1 : (i 1).val = 1024 * (j % 4) + s) :
    (Cert.Reference10Ideal.Read.val_main_v7 (F := Ideal) (X m c) (Y m c) (B m c) i : EReal) = ∑ k ∈ Finset.range 4096, term m c j r s k := by
  rw [parts, if_pos (by omega), h0, h1]
  refine Finset.sum_congr rfl fun k _ => ?_
  unfold term
  rw [show 1024 * (j / 4 + 4) + r - 4096 = 1024 * (j / 4) + r by omega]

/-- The reference's array in the rows kept. -/
theorem entry_kept (i : S18528x4096.Idx) (h : ¬ (4096 ≤ (i 0).val ∧ (i 0).val < 10240)) :
    (Cert.Reference10Ideal.Read.val_main_v7 (F := Ideal) (X m c) (Y m c) (B m c) i : EReal) = B m c i := by
  rw [parts, if_neg h]

theorem array : (dats m 0 c).arrAt 2 cfg0.N = (Cert.Reference10Ideal.Read.val_main_v7 (F := Ideal) (X m c) (Y m c) (B m c) : S18528x4096.Idx → EReal) := by
  refine (dats m 0 c).arrAt_eq_of_coversWhere_of_agree 2 _ (fun β => 4 ≤ β (0 : Fin 2) ∧ β (0 : Fin 2) < 10) (by decide +kernel) (fun t hf y => ?_) (fun j hj => ?_)
  · have h1 : t.val % 2 = 1 := (flush0_2 t).mp hf
    have e := (idxs t).2.2
    have y0 : (y 0).val < 1024 := Nat.lt_of_lt_of_le (y 0).isLt ((cfg0.win 2).xsize_le (grid0.coords t) 0)
    have y1 : (y 1).val < 1024 := Nat.lt_of_lt_of_le (y 1).isLt ((cfg0.win 2).xsize_le (grid0.coords t) 1)
    have ey : ((cfg0.win 2).xinj (grid0.coords t) y : S1024x1024.Idx) = ix2 (⟨(y 0).val, y0⟩ : Fin 1024) (⟨(y 1).val, y1⟩ : Fin 1024) :=
      funext fun a => match a with | ⟨0, _⟩ => rfl | ⟨1, _⟩ => rfl
    show (dats m 0 c).after 2 t ((cfg0.win 2).xinj (grid0.coords t) y) = Cert.Reference10Ideal.Read.val_main_v7 (F := Ideal) (X m c) (Y m c) (B m c) (((cfg0.win 2).blk t).view.emb y)
    rw [after0_2, ey, block m c t h1]
    refine (entry m c _ (t.val / 2) (y 0).val (y 1).val (by have hN : t.val < 48 := lt_of_lt_of_eq t.isLt N_0; omega) y0 ?_ ?_).symm
    · show win0_2.index t 0 * 1024 + 1 * (y 0).val = _
      rw [e.1]; omega
    · show win0_2.index t 1 * 1024 + 1 * (y 1).val = _
      rw [e.2]; omega
  · show (V m c main_v2 : S18528x4096.Idx → EReal) j = _
    rw [V_out m c]
    have b0 : (j 0).val < 18528 := (j 0).isLt
    refine (entry_kept m c j ?_).symm
    have h : ¬ (4 ≤ (j 0).val / 1024 ∧ (j 0).val / 1024 < 10) := hj
    omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference10Ideal.Read.val_main_v7 (F := Ideal) (X m c) (Y m c) (B m c) : S18528x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel10Ideal.InDwZ

end
-- ==== Proof.InDxZ.lean ====
/- The gradient of the first layer's input, the part of its gate z: the call's array is what the other branches gave plus the
   product of the gradient of that part of the projection and the weights' columns 4096 to 10239, turned by the host. -/
module

public import proofs.«01_k».proof.Proof.Prod
public import proofs.«01_k».proof.Proof.Gen.Kernel11Ideal.Frame
public import proofs.«01_k».proof.Proof.Gen.Reference11Ideal.Read
public import Idealize.ShloMosaic.Lib.Pipeline.Value
public import Idealize.ShloMosaic.Lib.Pipeline.ValueKit.Geometry
public import Idealize.ShloMosaic.Lib.Tactic

@[expose] public section

set_option maxRecDepth 16384

noncomputable section

namespace Cert.Kernel11Ideal.InDxZ

open Cert.Kernel11Ideal Cert.Kernel11Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 3 = 0) :
    (outsAt0 m c t.val t.isLt).2 = k0_pay2 (k0_pay1 (F := F)) (iblk m c 0 t) (X0_1 m c t) := by
  rw [outsAt0_A m c t h (by omega)]
  dsimp only
  unfold sout0_A_0
  rw [View.read_writes_eq_canon _ _ _ (scover0_A_0 c _ _ _ _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz, View.ld_unit_zero (S := S2048x1024) hz]

/-- The sum after a tile in the middle of a block. -/
theorem sum_mid (t : Fin cfg0.N) (h0 : ¬ t.val % 3 = 0) (h1 : ¬ t.val % 3 = 2) :
    (outsAt0 m c t.val t.isLt).2
      = k0_pay2 (outsAt0 m c (t.val - 1) (Nat.lt_of_le_of_lt (Nat.sub_le _ _) t.isLt)).2 (iblk m c 0 t) (X0_1 m c t) := by
  rw [outsAt0_B m c t h0 h1]
  dsimp only
  unfold sout0_B_0
  rw [View.read_writes_eq_canon _ _ _ (scover0_B_0 c _ _ _ _ _ _ _ _ _ _ _ _ _ _ _ _ _)]
  unfold kernelRun0_B
  dsimp only
  try sl_unfold_words
  rw [View.canon_unit_zero (S := S1024x1024) hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz, View.ld_unit_zero (S := S2048x1024) hz]

/-- The block written after the last tile. -/
theorem out_last (t : Fin cfg0.N) (h : t.val % 3 = 2) :
    (outsAt0 m c t.val t.isLt).1
      = k0_pay3 (k0_pay2 (outsAt0 m c (t.val - 1) (Nat.lt_of_le_of_lt (Nat.sub_le _ _) t.isLt)).2 (iblk m c 0 t) (X0_1 m c t)) (iblk m c 2 t) := by
  rw [outsAt0_C m c t (by omega) h]
  dsimp only
  unfold out0_C_3
  rw [View.read_writes_eq_canon _ _ _ (cover0_C_3 c _ _ _ _ _ _ _ _ _ _ _ _ _ _ _ _ _)]
  unfold kernelRun0_C
  dsimp only
  try sl_unfold_words
  rw [View.canon_unit_zero (S := S1024x1024) hz, View.readCov_unit_zero (S := S1024x1024) _ hz]
  simp only [View.readAt_eq_ld, (hs0_0 t).read_unread, (hs0_1 t).read_unread, (hs0_2 t).read_unread, (Memref.isWhole_whole _ : scM0_0.IsWhole).read_unread, View.ld_unit_zero (S := S1024x1024) hz, View.ld_unit_zero (S := S1024x2048) hz, View.ld_unit_zero (S := S2048x1024) hz]

end Body

section Value
variable (m : (ℓ : Loc nD τ sig) → Buf (Elt Ideal) ℓ) (c : Dev nD)

/-- The gradient of that part of the projection, the weights, and what the other branches gave. -/
abbrev X : S4096x6144.Idx → EReal := m ((c : Thread nD τ).loc main_arg0)
abbrev Y : S4096x18528.Idx → EReal := m ((c : Thread nD τ).loc main_arg1)
abbrev B : S4096x4096.Idx → EReal := m ((c : Thread nD τ).loc main_arg2)

theorem V_left : (V m c main_v2 : S4096x6144.Idx → EReal) = X m c := by
  show StableHlo.after hostOps0 (fun b => m (c, b)) (Proc.devRef .tc main_v2) = _
  simp only [hostOps0]
  after_results_simp
  rfl

theorem V_right : (V m c main_v1 : S18528x4096.Idx → EReal) = transpose S18528x4096 [1, 0] (Y m c) transposes_S4096x18528_S18528x4096_1_0 := by
  show StableHlo.after hostOps0 (fun b => m (c, b)) (Proc.devRef .tc main_v1) = _
  simp only [hostOps0]
  after_results_simp
  rfl

theorem V_add : (V m c main_arg2 : S4096x4096.Idx → EReal) = B m c := V_main_arg2 m c

/-! ### The tiles a point reads -/

theorem idxs : ∀ t : Fin grid0.N, (win0_0.index t 0 = t.val / 3 / 4 ∧ win0_0.index t 1 = t.val % 3)
    ∧ (win0_1.index t 0 = t.val % 3 + 2 ∧ win0_1.index t 1 = t.val / 3 % 4)
    ∧ (win0_2.index t 0 = t.val / 3 / 4 ∧ win0_2.index t 1 = t.val / 3 % 4)
    ∧ (win0_3.index t 0 = t.val / 3 / 4 ∧ win0_3.index t 1 = t.val / 3 % 4) := by decide +kernel

theorem left (t : Fin cfg0.N) (r : Fin 1024) (k : Fin 2048) :
    (iblk m c 0 t : Vec Ideal S1024x2048 .bf16) (ix2 r k) = at2 (X m c) (1024 * (t.val / 3 / 4) + r.val) (2048 * (t.val % 3) + k.val) := by
  unfold iblk
  rw [View.read_apply]
  show (V m c main_v2 : S4096x6144.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (k : Fin 2048) (s : Fin 1024) :
    (X0_1 m c t : Vec Ideal S2048x1024 .bf16) (ix2 k s) = at2 (Y m c) (1024 * (t.val / 3 % 4) + s.val) (2048 * (t.val % 3) + k.val + 4096) := by
  unfold X0_1 Pipeline.Window.fill
  rw [dif_pos (moved0_1 t _)]
  unfold iblk
  rw [View.read_apply]
  show (V m c main_v1 : S18528x4096.Idx → EReal) _ = _
  rw [V_right m c]
  refine (transpose_apply [1, 0] (Y m c) _ _ (ix2 ⟨1024 * (t.val / 3 % 4) + s.val, by omega⟩ ⟨2048 * (t.val % 3) + k.val + 4096, by omega⟩) (fun b => match b with
    | ⟨0, _⟩ => ?_
    | ⟨1, _⟩ => ?_)).trans (eq_at2 _ _ rfl rfl)
  · show 2048 * (t.val % 3) + k.val + 4096 = win0_1.index t 0 * 2048 + 1 * k.val
    rw [(idxs t).2.1.1]; omega
  · show 1024 * (t.val / 3 % 4) + s.val = win0_1.index t 1 * 1024 + 1 * s.val
    rw [(idxs t).2.1.2]; omega

theorem addend (t : Fin cfg0.N) (r s : Fin 1024) :
    (iblk m c 2 t : Vec Ideal S1024x1024 .f32) (ix2 r s) = at2 (B m c) (1024 * (t.val / 3 / 4) + r.val) (1024 * (t.val / 3 % 4) + s.val) := by
  unfold iblk
  rw [View.read_apply]
  show (V m c main_arg2 : S4096x4096.Idx → EReal) _ = _
  rw [V_add m c]
  refine eq_at2 _ _ ?_ ?_
  · show win0_2.index t 0 * 1024 + 1 * r.val = _
    rw [(idxs t).2.2.1.1]; omega
  · show win0_2.index t 1 * 1024 + 1 * s.val = _
    rw [(idxs t).2.2.1.2]; omega

/-! ### A tile's product -/

/-- The term the entry at `r`, `s` of block `j` takes from column `k` of the gradient and column `4096 + k` of the weights. -/
def term (j r s k : ℕ) : EReal := at2 (X m c) (1024 * (j / 4) + r) k * at2 (Y m c) (1024 * (j % 4) + s) (k + 4096)

theorem step (t : Fin cfg0.N) (acc : Vec Ideal S1024x1024 .f32) (r s : Fin 1024) :
    (k0_pay2 acc (iblk m c 0 t) (X0_1 m c t) (ix2 r s) : EReal)
      = acc (ix2 r s) + ∑ k ∈ Finset.range 2048, term m c (t.val / 3) r.val s.val (2048 * (t.val % 3) + k) := by
  unfold k0_pay2
  simp only [shapeCast_self]
  exact tile_nn acc _ _ r s _ fun k => congrArg₂ (· * ·) (left m c t r k) (right m c t k s)

/-- A block's first tile begins its sum. -/
theorem first (r s : Fin 1024) (n : ℕ) (hn : n < cfg0.N) (h : n % 3 = 0) :
    ((outsAt0 m c n hn).2 (ix2 r s) : EReal) = ∑ k ∈ Finset.range 2048, term m c (n / 3) r.val s.val (2048 * (n % 3) + k) := by
  rw [sum_first m c ⟨n, hn⟩ h, step, show (k0_pay1 (F := Ideal) (ix2 r s) : EReal) = 0 by unfold k0_pay1; simp only [shapeCast_self]; exact zero_tile _, zero_add]

/-- A further tile before the last goes on with it. -/
theorem mid (r s : Fin 1024) (n : ℕ) (hn : n < cfg0.N) (h' : n - 1 < cfg0.N) (h0 : n % 3 ≠ 0) (h1 : n % 3 + 1 ≠ 3) :
    ((outsAt0 m c n hn).2 (ix2 r s) : EReal)
      = (outsAt0 m c (n - 1) h').2 (ix2 r s) + ∑ k ∈ Finset.range 2048, term m c (n / 3) r.val s.val (2048 * (n % 3) + k) := by
  rw [sum_mid m c ⟨n, hn⟩ h0 (by show ¬ n % 3 = 2; omega), step]

/-- The block written after the last tile is the addend's plus the product's. -/
theorem block (t : Fin cfg0.N) (h : t.val % 3 = 2) (r s : Fin 1024) :
    ((outsAt0 m c t.val t.isLt).1 (ix2 r s) : EReal)
      = at2 (B m c) (1024 * (t.val / 3 / 4) + r.val) (1024 * (t.val / 3 % 4) + s.val) + ∑ k ∈ Finset.range 6144, term m c (t.val / 3) r.val s.val k := by
  rw [out_last m c t h]
  unfold k0_pay3
  show (k0_pay2 (outsAt0 m c (t.val - 1) _).2 (iblk m c 0 t) (X0_1 m c t) (ix2 r s) : EReal) + (iblk m c 2 t : Vec Ideal S1024x1024 .f32) (ix2 r s) = _
  rw [step, addend m c t r s]
  exact (add_comm _ _).trans (congrArg (_ + ·) (last 2048 3 (by decide) (fun n hn => ((outsAt0 m c n hn).2 (ix2 r s) : EReal)) (fun j k => term m c j r.val s.val k) (first m c r s)
    (mid m c r s) t.val _ (by omega)))

/-! ### The array -/

/-- The reference's array, entry by entry. -/
theorem entry (i : S4096x4096.Idx) (j r s : ℕ) (h0 : (i 0).val = 1024 * (j / 4) + r) (h1 : (i 1).val = 1024 * (j % 4) + s) :
    (Cert.Reference11Ideal.Read.val_main_v4 (F := Ideal) (X m c) (Y m c) (B m c) i : EReal)
      = at2 (B m c) (1024 * (j / 4) + r) (1024 * (j % 4) + s) + ∑ k ∈ Finset.range 6144, term m c j r s k := by
  rw [Cert.Reference11Ideal.Read.val_main_v4_apply, Cert.Reference11Ideal.Read.val_main_v3_apply]
  refine congrArg₂ (· + ·) (eq_at2 _ _ h0 h1) (sum_eq _ _ fun k => ?_)
  rw [Cert.Reference11Ideal.Read.val_main_v1_apply]
  refine congrArg₂ (· * ·) ?_ ?_
  · exact eq_at2 _ _ h0 rfl
  · exact eq_at2 _ _ h1 (Nat.add_comm _ _)

theorem array : (dats m 0 c).arrAt 3 cfg0.N = (Cert.Reference11Ideal.Read.val_main_v4 (F := Ideal) (X m c) (Y m c) (B m c) : S4096x4096.Idx → EReal) := by
  refine (dats m 0 c).arrAt_eq_of_covers 3 _ (by decide +kernel) fun t hf y => ?_
  have h3 : t.val % 3 = 2 := (flush0_3 t).mp hf
  have e := (idxs t).2.2.2
  have y0 : (y 0).val < 1024 := (y 0).isLt
  have y1 : (y 1).val < 1024 := (y 1).isLt
  have ey : ((cfg0.win 3).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (dats m 0 c).after 3 t ((cfg0.win 3).xinj (grid0.coords t) y) = Cert.Reference11Ideal.Read.val_main_v4 (F := Ideal) (X m c) (Y m c) (B m c) (((cfg0.win 3).blk t).view.emb y)
  rw [after0_3, ey, block m c t h3]
  refine (entry m c _ (t.val / 3) (y 0).val (y 1).val ?_ ?_).symm
  · show win0_3.index t 0 * 1024 + 1 * (y 0).val = _
    rw [e.1]; omega
  · show win0_3.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (dats m 0 c).arrAt 3 cfg0.N :=
  (θ_run defs _ _).mono (fun _ g c => (g c).1 3) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (Cert.Reference11Ideal.Read.val_main_v4 (F := Ideal) (X m c) (Y m c) (B m c) : S4096x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel11Ideal.InDxZ

end
-- ==== Proof.InXbc.lean ====
/- The first layer's input projection, the columns of x, B and C, forward: the call's array is the product of the layer's input and
   the weights' columns 10240 to 18431, which the host turns for the kernel. -/
module

public import proofs.«01_k».proof.Proof.Prod
public import proofs.«01_k».proof.Proof.Gen.Kernel12Ideal.Frame
public import proofs.«01_k».proof.Proof.Gen.Reference12Ideal.Read
public import Idealize.ShloMosaic.Lib.Pipeline.Value
public import Idealize.ShloMosaic.Lib.Tactic

@[expose] public section

set_option maxRecDepth 16384

noncomputable section

namespace Cert.Kernel12Ideal.InXbc

open Cert.Kernel12Ideal Cert.Kernel12Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (X0_1 m c t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S1024x2048) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (X0_1 m c t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz]

end Body

section Value
variable (m : (ℓ : Loc nD τ sig) → Buf (Elt Ideal) ℓ) (c : Dev nD)

/-- The layer's input, and the weights. -/
abbrev X : S4096x4096.Idx → EReal := m ((c : Thread nD τ).loc main_arg0)
abbrev Y : S4096x18528.Idx → EReal := m ((c : Thread nD τ).loc main_arg1)

theorem V_left : (V m c main_v2 : S4096x4096.Idx → EReal) = X m c := by
  show StableHlo.after hostOps0 (fun b => m (c, b)) (Proc.devRef .tc main_v2) = _
  simp only [hostOps0]
  after_results_simp
  rfl

theorem V_right : (V m c main_v1 : S18528x4096.Idx → EReal) = transpose S18528x4096 [1, 0] (Y m c) transposes_S4096x18528_S18528x4096_1_0 := by
  show StableHlo.after hostOps0 (fun b => m (c, b)) (Proc.devRef .tc main_v1) = _
  simp only [hostOps0]
  after_results_simp
  rfl

/-! ### The tiles a point reads -/

theorem idxs : ∀ t : Fin grid0.N, (win0_0.index t 0 = t.val / 2 / 8 ∧ win0_0.index t 1 = t.val % 2)
    ∧ (win0_1.index t 0 = t.val / 2 % 8 + 10 ∧ win0_1.index t 1 = t.val % 2)
    ∧ (win0_2.index t 0 = t.val / 2 / 8 ∧ win0_2.index t 1 = t.val / 2 % 8) := by decide +kernel

theorem left (t : Fin cfg0.N) (r : Fin 1024) (k : Fin 2048) :
    (iblk m c 0 t : Vec Ideal S1024x2048 .bf16) (ix2 r k) = at2 (X m c) (1024 * (t.val / 2 / 8) + r.val) (2048 * (t.val % 2) + k.val) := by
  unfold iblk
  rw [View.read_apply]
  show (V m c main_v2 : S4096x4096.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (s : Fin 1024) (k : Fin 2048) :
    (X0_1 m c t : Vec Ideal S1024x2048 .bf16) (ix2 s k) = at2 (Y m c) (2048 * (t.val % 2) + k.val) (1024 * (t.val / 2 % 8) + s.val + 10240) := by
  unfold X0_1 Pipeline.Window.fill
  rw [dif_pos (moved0_1 t _)]
  unfold iblk
  rw [View.read_apply]
  show (V m c main_v1 : S18528x4096.Idx → EReal) _ = _
  rw [V_right m c]
  refine (transpose_apply [1, 0] (Y m c) _ _ (ix2 ⟨2048 * (t.val % 2) + k.val, by omega⟩ ⟨1024 * (t.val / 2 % 8) + s.val + 10240, by omega⟩) (fun b => match b with
    | ⟨0, _⟩ => ?_
    | ⟨1, _⟩ => ?_)).trans (eq_at2 _ _ rfl rfl)
  · show 1024 * (t.val / 2 % 8) + s.val + 10240 = win0_1.index t 0 * 1024 + 1 * s.val
    rw [(idxs t).2.1.1]; omega
  · show 2048 * (t.val % 2) + k.val = win0_1.index t 1 * 2048 + 1 * k.val
    rw [(idxs t).2.1.2]; omega

/-! ### A tile's product -/

/-- The term the entry at `r`, `s` of block `j` takes from column `k` of the input and row `k` of the weights. -/
def term (j r s k : ℕ) : EReal := at2 (X m c) (1024 * (j / 8) + r) k * at2 (Y m c) k (1024 * (j % 8) + s + 10240)

theorem step (t : Fin cfg0.N) (acc : Vec Ideal S1024x1024 .f32) (r s : Fin 1024) :
    (k0_pay2 acc (iblk m c 0 t) (X0_1 m c t) (ix2 r s) : EReal)
      = acc (ix2 r s) + ∑ k ∈ Finset.range 2048, term m c (t.val / 2) r.val s.val (2048 * (t.val % 2) + k) := by
  unfold k0_pay2
  simp only [shapeCast_self]
  exact tile_nt acc _ _ r s _ fun k => congrArg₂ (· * ·) (left m c t r k) (right m c t s k)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, entry by entry. -/
theorem entry (i : S4096x8192.Idx) (j r s : ℕ) (h0 : (i 0).val = 1024 * (j / 8) + r) (h1 : (i 1).val = 1024 * (j % 8) + s) :
    (Cert.Reference12Ideal.Read.val_main_v1 (F := Ideal) (X m c) (Y m c) i : EReal) = ∑ k ∈ Finset.range 4096, term m c j r s k := by
  rw [Cert.Reference12Ideal.Read.val_main_v1_apply, Cert.Reference12Ideal.Read.val_main_v0_apply]
  refine sum_eq _ _ fun k => congrArg₂ (· * ·) ?_ ?_
  · exact eq_at2 _ _ h0 rfl
  · exact eq_at2 _ _ rfl (by show 10240 + (i 1).val = _; rw [h1]; omega)

theorem cover (i : S4096x8192.Idx) : ∃ t : Fin cfg0.N, (cfg0.win 2).flush t = true ∧ i ∈ ((cfg0.win 2).blk t).view.set := by
  have b0 : (i 0).val < 4096 := (i 0).isLt
  have b1 : (i 1).val < 8192 := (i 1).isLt
  let t : Fin cfg0.N := ⟨16 * ((i 0).val / 1024) + 2 * ((i 1).val / 1024) + 1, lt_of_lt_of_eq (by omega : _ < 64) (show 64 = cfg0.N from N_0.symm)⟩
  have ht : t.val = 16 * ((i 0).val / 1024) + 2 * ((i 1).val / 1024) + 1 := rfl
  have e := (idxs t).2.2
  refine ⟨t, (flush0_2 t).mpr (by omega), ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e.1]; omega
  | ⟨1, _⟩ => show win0_2.index t 1 * 1024 ≤ (i 1).val ∧ (i 1).val < win0_2.index t 1 * 1024 + 1024; rw [e.2]; omega

theorem array : (dats m 0 c).arrAt 2 cfg0.N = (Cert.Reference12Ideal.Read.val_main_v1 (F := Ideal) (X m c) (Y m c) : S4096x8192.Idx → EReal) := by
  refine (dats m 0 c).arrAt_eq_of_cover 2 _ (fun t hf => ?_) cover
  have h1 : t.val % 2 = 1 := (flush0_2 t).mp hf
  have e := (idxs t).2.2
  show (cfg0.win 2).cut (grid0.coords t) ((dats m 0 c).after 2 t) = _
  rw [after0_2]
  funext y
  have y0 : (y 0).val < 1024 := (y 0).isLt
  have y1 : (y 1).val < 1024 := (y 1).isLt
  have ey : ((cfg0.win 2).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (outsAt0 m c t.val t.isLt).1 ((cfg0.win 2).xinj (grid0.coords t) y) = Cert.Reference12Ideal.Read.val_main_v1 (F := Ideal) (X m c) (Y m c) (((cfg0.win 2).blk t).view.emb y)
  rw [ey, block m c t h1]
  refine (entry m c _ (t.val / 2) (y 0).val (y 1).val ?_ ?_).symm
  · show win0_2.index t 0 * 1024 + 1 * (y 0).val = _
    rw [e.1]; omega
  · show win0_2.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (Cert.Reference12Ideal.Read.val_main_v1 (F := Ideal) (X m c) (Y m c) : S4096x8192.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ g c => ⟨(g.2 c).trans (array m c), g.1 c⟩) (θ_run_and (unchanged m ρ) (arrays m ρ))

end Cert.Kernel12Ideal.InXbc

end
-- ==== Proof.InZ.lean ====
/- The first layer's input projection, the columns of its gate z, forward: the call's array is the product of the layer's input and
   the weights' columns 4096 to 10239, which the host turns for the kernel. -/
module

public import proofs.«01_k».proof.Proof.Prod
public import proofs.«01_k».proof.Proof.Gen.Kernel13Ideal.Frame
public import proofs.«01_k».proof.Proof.Gen.Reference13Ideal.Read
public import Idealize.ShloMosaic.Lib.Pipeline.Value
public import Idealize.ShloMosaic.Lib.Tactic

@[expose] public section

set_option maxRecDepth 16384

noncomputable section

namespace Cert.Kernel13Ideal.InZ

open Cert.Kernel13Ideal Cert.Kernel13Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 2 = 0) :
    (outsAt0 m c t.val t.isLt).2 = k0_pay2 (k0_pay1 (F := F)) (iblk m c 0 t) (X0_1 m c t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S1024x2048) hz]

/-- The block written after the last tile. -/
theorem out_last (t : Fin cfg0.N) (h : t.val % 2 = 1) :
    (outsAt0 m c t.val t.isLt).1
      = k0_pay2 (outsAt0 m c (t.val - 1) (Nat.lt_of_le_of_lt (Nat.sub_le _ _) t.isLt)).2 (iblk m c 0 t) (X0_1 m c t) := by
  rw [outsAt0_B m c t (by omega) h]
  dsimp only
  unfold out0_B_2
  rw [View.read_writes_eq_canon _ _ _ (cover0_B_2 c _ _ _ _ _ _ _ _ _ _ _ _ _ _)]
  unfold kernelRun0_B
  dsimp only
  try sl_unfold_words
  rw [View.canon_unit_zero (S := S1024x1024) hz, View.readCov_unit_zero (S := S1024x1024) _ hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz]

end Body

section Value
variable (m : (ℓ : Loc nD τ sig) → Buf (Elt Ideal) ℓ) (c : Dev nD)

/-- The layer's input, and the weights. -/
abbrev X : S4096x4096.Idx → EReal := m ((c : Thread nD τ).loc main_arg0)
abbrev Y : S4096x18528.Idx → EReal := m ((c : Thread nD τ).loc main_arg1)

theorem V_left : (V m c main_v2 : S4096x4096.Idx → EReal) = X m c := by
  show StableHlo.after hostOps0 (fun b => m (c, b)) (Proc.devRef .tc main_v2) = _
  simp only [hostOps0]
  after_results_simp
  rfl

theorem V_right : (V m c main_v1 : S18528x4096.Idx → EReal) = transpose S18528x4096 [1, 0] (Y m c) transposes_S4096x18528_S18528x4096_1_0 := by
  show StableHlo.after hostOps0 (fun b => m (c, b)) (Proc.devRef .tc main_v1) = _
  simp only [hostOps0]
  after_results_simp
  rfl

/-! ### The tiles a point reads -/

theorem idxs : ∀ t : Fin grid0.N, (win0_0.index t 0 = t.val / 2 / 6 ∧ win0_0.index t 1 = t.val % 2)
    ∧ (win0_1.index t 0 = t.val / 2 % 6 + 4 ∧ win0_1.index t 1 = t.val % 2)
    ∧ (win0_2.index t 0 = t.val / 2 / 6 ∧ win0_2.index t 1 = t.val / 2 % 6) := by decide +kernel

theorem left (t : Fin cfg0.N) (r : Fin 1024) (k : Fin 2048) :
    (iblk m c 0 t : Vec Ideal S1024x2048 .bf16) (ix2 r k) = at2 (X m c) (1024 * (t.val / 2 / 6) + r.val) (2048 * (t.val % 2) + k.val) := by
  unfold iblk
  rw [View.read_apply]
  show (V m c main_v2 : S4096x4096.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (s : Fin 1024) (k : Fin 2048) :
    (X0_1 m c t : Vec Ideal S1024x2048 .bf16) (ix2 s k) = at2 (Y m c) (2048 * (t.val % 2) + k.val) (1024 * (t.val / 2 % 6) + s.val + 4096) := by
  unfold X0_1 Pipeline.Window.fill
  rw [dif_pos (moved0_1 t _)]
  unfold iblk
  rw [View.read_apply]
  show (V m c main_v1 : S18528x4096.Idx → EReal) _ = _
  rw [V_right m c]
  refine (transpose_apply [1, 0] (Y m c) _ _ (ix2 ⟨2048 * (t.val % 2) + k.val, by omega⟩ ⟨1024 * (t.val / 2 % 6) + s.val + 4096, by omega⟩) (fun b => match b with
    | ⟨0, _⟩ => ?_
    | ⟨1, _⟩ => ?_)).trans (eq_at2 _ _ rfl rfl)
  · show 1024 * (t.val / 2 % 6) + s.val + 4096 = win0_1.index t 0 * 1024 + 1 * s.val
    rw [(idxs t).2.1.1]; omega
  · show 2048 * (t.val % 2) + k.val = win0_1.index t 1 * 2048 + 1 * k.val
    rw [(idxs t).2.1.2]; omega

/-! ### A tile's product -/

/-- The term the entry at `r`, `s` of block `j` takes from column `k` of the input and row `k` of the weights. -/
def term (j r s k : ℕ) : EReal := at2 (X m c) (1024 * (j / 6) + r) k * at2 (Y m c) k (1024 * (j % 6) + s + 4096)

theorem step (t : Fin cfg0.N) (acc : Vec Ideal S1024x1024 .f32) (r s : Fin 1024) :
    (k0_pay2 acc (iblk m c 0 t) (X0_1 m c t) (ix2 r s) : EReal)
      = acc (ix2 r s) + ∑ k ∈ Finset.range 2048, term m c (t.val / 2) r.val s.val (2048 * (t.val % 2) + k) := by
  unfold k0_pay2
  simp only [shapeCast_self]
  exact tile_nt acc _ _ r s _ fun k => congrArg₂ (· * ·) (left m c t r k) (right m c t s k)

/-- A block's first tile begins its sum. -/
theorem first (r s : Fin 1024) (n : ℕ) (hn : n < cfg0.N) (h : n % 2 = 0) :
    ((outsAt0 m c n hn).2 (ix2 r s) : EReal) = ∑ k ∈ Finset.range 2048, term m c (n / 2) r.val s.val (2048 * (n % 2) + k) := by
  rw [sum_first m c ⟨n, hn⟩ h, step, show (k0_pay1 (F := Ideal) (ix2 r s) : EReal) = 0 by unfold k0_pay1; simp only [shapeCast_self]; exact zero_tile _, zero_add]

/-- The block written after the last tile is the product's. -/
theorem block (t : Fin cfg0.N) (h : t.val % 2 = 1) (r s : Fin 1024) :
    ((outsAt0 m c t.val t.isLt).1 (ix2 r s) : EReal) = ∑ k ∈ Finset.range 4096, term m c (t.val / 2) r.val s.val k := by
  rw [out_last m c t h, step]
  exact last 2048 2 (by decide) (fun n hn => ((outsAt0 m c n hn).2 (ix2 r s) : EReal)) (fun j k => term m c j r.val s.val k) (first m c r s)
    (fun n _ _ h0 h1 => absurd h1 (by omega)) t.val _ (by omega)

/-! ### The array -/

/-- The reference's array, entry by entry. -/
theorem entry (i : S4096x6144.Idx) (j r s : ℕ) (h0 : (i 0).val = 1024 * (j / 6) + r) (h1 : (i 1).val = 1024 * (j % 6) + s) :
    (Cert.Reference13Ideal.Read.val_main_v1 (F := Ideal) (X m c) (Y m c) i : EReal) = ∑ k ∈ Finset.range 4096, term m c j r s k := by
  rw [Cert.Reference13Ideal.Read.val_main_v1_apply, Cert.Reference13Ideal.Read.val_main_v0_apply]
  refine sum_eq _ _ fun k => congrArg₂ (· * ·) ?_ ?_
  · exact eq_at2 _ _ h0 rfl
  · exact eq_at2 _ _ rfl (by show 4096 + (i 1).val = _; rw [h1]; omega)

theorem cover (i : S4096x6144.Idx) : ∃ t : Fin cfg0.N, (cfg0.win 2).flush t = true ∧ i ∈ ((cfg0.win 2).blk t).view.set := by
  have b0 : (i 0).val < 4096 := (i 0).isLt
  have b1 : (i 1).val < 6144 := (i 1).isLt
  let t : Fin cfg0.N := ⟨12 * ((i 0).val / 1024) + 2 * ((i 1).val / 1024) + 1, lt_of_lt_of_eq (by omega : _ < 48) (show 48 = cfg0.N from N_0.symm)⟩
  have ht : t.val = 12 * ((i 0).val / 1024) + 2 * ((i 1).val / 1024) + 1 := rfl
  have e := (idxs t).2.2
  refine ⟨t, (flush0_2 t).mpr (by omega), ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e.1]; omega
  | ⟨1, _⟩ => show win0_2.index t 1 * 1024 ≤ (i 1).val ∧ (i 1).val < win0_2.index t 1 * 1024 + 1024; rw [e.2]; omega

theorem array : (dats m 0 c).arrAt 2 cfg0.N = (Cert.Reference13Ideal.Read.val_main_v1 (F := Ideal) (X m c) (Y m c) : S4096x6144.Idx → EReal) := by
  refine (dats m 0 c).arrAt_eq_of_cover 2 _ (fun t hf => ?_) cover
  have h1 : t.val % 2 = 1 := (flush0_2 t).mp hf
  have e := (idxs t).2.2
  show (cfg0.win 2).cut (grid0.coords t) ((dats m 0 c).after 2 t) = _
  rw [after0_2]
  funext y
  have y0 : (y 0).val < 1024 := (y 0).isLt
  have y1 : (y 1).val < 1024 := (y 1).isLt
  have ey : ((cfg0.win 2).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (outsAt0 m c t.val t.isLt).1 ((cfg0.win 2).xinj (grid0.coords t) y) = Cert.Reference13Ideal.Read.val_main_v1 (F := Ideal) (X m c) (Y m c) (((cfg0.win 2).blk t).view.emb y)
  rw [ey, block m c t h1]
  refine (entry m c _ (t.val / 2) (y 0).val (y 1).val ?_ ?_).symm
  · show win0_2.index t 0 * 1024 + 1 * (y 0).val = _
    rw [e.1]; omega
  · show win0_2.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (dats m 0 c).arrAt 2 cfg0.N :=
  (θ_run defs _ _).mono (fun _ g c => (g c).1 2) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (Cert.Reference13Ideal.Read.val_main_v1 (F := Ideal) (X m c) (Y m c) : S4096x6144.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ g c => ⟨(g.2 c).trans (array m c), g.1 c⟩) (θ_run_and (unchanged m ρ) (arrays m ρ))

end Cert.Kernel13Ideal.InZ

end
-- ==== Proof.OutSsd.lean ====
/- The first layer's output projection, the part of its state-space block, forward: the call's array is the given one plus the product
   of that block's output and the weights' rows 2048 to 8191. -/
module

public import proofs.«01_k».proof.Proof.Prod
public import proofs.«01_k».proof.Proof.Gen.Kernel14Ideal.Frame
public import proofs.«01_k».proof.Proof.Gen.Reference14Ideal.Read
public import Idealize.ShloMosaic.Lib.Pipeline.Value
public import Idealize.ShloMosaic.Lib.Pipeline.ValueKit.Geometry
public import Idealize.ShloMosaic.Lib.Tactic

@[expose] public section

set_option maxRecDepth 16384

noncomputable section

namespace Cert.Kernel14Ideal.OutSsd

open Cert.Kernel14Ideal Cert.Kernel14Ideal.Gen Idealize.ShloMosaic Idealize.ShloMosaic.TcCoe Idealize.SL.Sem Idealize.ShloMosaic.ValueIdx
open Cert.Prod

section Body
variable {F : FTy → Type} [FloatOps F] (m : (ℓ : Loc nD τ sig) → Buf (Elt F) ℓ) (c : Dev nD)

theorem hz : (![0, 0] : Fin 2 → Nat) = fun _ => 0 := funext fun a => by fin_cases a <;> rfl

/-- The sum after the first tile of a block. -/
theorem sum_first (t : Fin cfg0.N) (h : t.val % 3 = 0) :
    (outsAt0 m c t.val t.isLt).2 = k0_pay2 (k0_pay1 (F := F)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _ _ _ _)]
  unfold kernelRun0_A
  dsimp only
  try sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz, View.ld_unit_zero (S := S2048x1024) hz]

/-- The sum after a tile in the middle of a block. -/
theorem sum_mid (t : Fin cfg0.N) (h0 : ¬ t.val % 3 = 0) (h1 : ¬ t.val % 3 = 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _ _ _ _)]
  unfold kernelRun0_B
  dsimp only
  try sl_unfold_words
  rw [View.canon_unit_zero (S := S1024x1024) hz]
  simp only [View.readAt_eq_ld, (hs0_0 t).read_unread, (hs0_1 t).read_unread, (Memref.isWhole_whole _ : scM0_0.IsWhole).read_unread, View.ld_unit_zero (S := S1024x1024) hz, View.ld_unit_zero (S := S1024x2048) hz, View.ld_unit_zero (S := S2048x1024) hz]

/-- The block written after the last tile. -/
theorem out_last (t : Fin cfg0.N) (h : t.val % 3 = 2) :
    (outsAt0 m c t.val t.isLt).1
      = k0_pay3 (k0_pay2 (outsAt0 m c (t.val - 1) (Nat.lt_of_le_of_lt (Nat.sub_le _ _) t.isLt)).2 (iblk m c 0 t) (iblk m c 1 t)) (iblk m c 2 t) := by
  rw [outsAt0_C m c t (by omega) h]
  dsimp only
  unfold out0_C_3
  rw [View.read_writes_eq_canon _ _ _ (cover0_C_3 c _ _ _ _ _ _ _ _ _ _ _ _ _ _ _ _ _)]
  unfold kernelRun0_C
  dsimp only
  try sl_unfold_words
  rw [View.canon_unit_zero (S := S1024x1024) hz, View.readCov_unit_zero (S := S1024x1024) _ hz]
  simp only [View.readAt_eq_ld, (hs0_0 t).read_unread, (hs0_1 t).read_unread, (hs0_2 t).read_unread, (Memref.isWhole_whole _ : scM0_0.IsWhole).read_unread, View.ld_unit_zero (S := S1024x1024) hz, View.ld_unit_zero (S := S1024x2048) hz, View.ld_unit_zero (S := S2048x1024) hz]

end Body

section Value
variable (m : (ℓ : Loc nD τ sig) → Buf (Elt Ideal) ℓ) (c : Dev nD)

/-- The block's output, the weights, and what the other branch and the layer's input gave. -/
abbrev X : S4096x6144.Idx → EReal := m ((c : Thread nD τ).loc main_arg0)
abbrev Y : S8192x4096.Idx → EReal := m ((c : Thread nD τ).loc main_arg1)
abbrev B : S4096x4096.Idx → EReal := m ((c : Thread nD τ).loc main_arg2)

theorem V_left : (V m c main_v0 : S4096x6144.Idx → EReal) = X m c := by
  show StableHlo.after hostOps0 (fun b => m (c, b)) (Proc.devRef .tc main_v0) = _
  simp only [hostOps0]
  after_results_simp
  rfl

theorem V_right : (V m c main_v1 : S8192x4096.Idx → EReal) = Y m c := by
  show StableHlo.after hostOps0 (fun b => m (c, b)) (Proc.devRef .tc main_v1) = _
  simp only [hostOps0]
  after_results_simp
  rfl

theorem V_add : (V m c main_arg2 : S4096x4096.Idx → EReal) = B m c := V_main_arg2 m c

/-! ### The tiles a point reads -/

theorem idxs : ∀ t : Fin grid0.N, (win0_0.index t 0 = t.val / 3 / 4 ∧ win0_0.index t 1 = t.val % 3)
    ∧ (win0_1.index t 0 = t.val % 3 + 1 ∧ win0_1.index t 1 = t.val / 3 % 4)
    ∧ (win0_2.index t 0 = t.val / 3 / 4 ∧ win0_2.index t 1 = t.val / 3 % 4)
    ∧ (win0_3.index t 0 = t.val / 3 / 4 ∧ win0_3.index t 1 = t.val / 3 % 4) := by decide +kernel

theorem left (t : Fin cfg0.N) (r : Fin 1024) (k : Fin 2048) :
    (iblk m c 0 t : Vec Ideal S1024x2048 .bf16) (ix2 r k) = at2 (X m c) (1024 * (t.val / 3 / 4) + r.val) (2048 * (t.val % 3) + k.val) := by
  unfold iblk
  rw [View.read_apply]
  show (V m c main_v0 : S4096x6144.Idx → EReal) _ = _
  rw [V_left m c]
  refine eq_at2 _ _ ?_ ?_
  · show win0_0.index t 0 * 1024 + 1 * r.val = _
    rw [(idxs t).1.1]; omega
  · show win0_0.index t 1 * 2048 + 1 * k.val = _
    rw [(idxs t).1.2]; omega

theorem right (t : Fin cfg0.N) (k : Fin 2048) (s : Fin 1024) :
    (iblk m c 1 t : Vec Ideal S2048x1024 .bf16) (ix2 k s) = at2 (Y m c) (2048 * (t.val % 3) + k.val + 2048) (1024 * (t.val / 3 % 4) + s.val) := by
  unfold iblk
  rw [View.read_apply]
  show (V m c main_v1 : S8192x4096.Idx → EReal) _ = _
  rw [V_right m c]
  refine eq_at2 _ _ ?_ ?_
  · show win0_1.index t 0 * 2048 + 1 * k.val = _
    rw [(idxs t).2.1.1]; omega
  · show win0_1.index t 1 * 1024 + 1 * s.val = _
    rw [(idxs t).2.1.2]; omega

theorem addend (t : Fin cfg0.N) (r s : Fin 1024) :
    (iblk m c 2 t : Vec Ideal S1024x1024 .f32) (ix2 r s) = at2 (B m c) (1024 * (t.val / 3 / 4) + r.val) (1024 * (t.val / 3 % 4) + s.val) := by
  unfold iblk
  rw [View.read_apply]
  show (V m c main_arg2 : S4096x4096.Idx → EReal) _ = _
  rw [V_add m c]
  refine eq_at2 _ _ ?_ ?_
  · show win0_2.index t 0 * 1024 + 1 * r.val = _
    rw [(idxs t).2.2.1.1]; omega
  · show win0_2.index t 1 * 1024 + 1 * s.val = _
    rw [(idxs t).2.2.1.2]; omega

/-! ### A tile's product -/

/-- The term the entry at `r`, `s` of block `j` takes from column `k` of the input and row `2048 + k` of the weights. -/
def term (j r s k : ℕ) : EReal := at2 (X m c) (1024 * (j / 4) + r) k * at2 (Y m c) (k + 2048) (1024 * (j % 4) + s)

theorem step (t : Fin cfg0.N) (acc : Vec Ideal S1024x1024 .f32) (r s : Fin 1024) :
    (k0_pay2 acc (iblk m c 0 t) (iblk m c 1 t) (ix2 r s) : EReal)
      = acc (ix2 r s) + ∑ k ∈ Finset.range 2048, term m c (t.val / 3) r.val s.val (2048 * (t.val % 3) + k) := by
  unfold k0_pay2
  simp only [shapeCast_self]
  exact tile_nn acc _ _ r s _ fun k => congrArg₂ (· * ·) (left m c t r k) (right m c t k s)

/-- A block's first tile begins its sum. -/
theorem first (r s : Fin 1024) (n : ℕ) (hn : n < cfg0.N) (h : n % 3 = 0) :
    ((outsAt0 m c n hn).2 (ix2 r s) : EReal) = ∑ k ∈ Finset.range 2048, term m c (n / 3) r.val s.val (2048 * (n % 3) + k) := by
  rw [sum_first m c ⟨n, hn⟩ h, step, show (k0_pay1 (F := Ideal) (ix2 r s) : EReal) = 0 by unfold k0_pay1; simp only [shapeCast_self]; exact zero_tile _, zero_add]

/-- A further tile before the last goes on with it. -/
theorem mid (r s : Fin 1024) (n : ℕ) (hn : n < cfg0.N) (h' : n - 1 < cfg0.N) (h0 : n % 3 ≠ 0) (h1 : n % 3 + 1 ≠ 3) :
    ((outsAt0 m c n hn).2 (ix2 r s) : EReal)
      = (outsAt0 m c (n - 1) h').2 (ix2 r s) + ∑ k ∈ Finset.range 2048, term m c (n / 3) r.val s.val (2048 * (n % 3) + k) := by
  rw [sum_mid m c ⟨n, hn⟩ h0 (by show ¬ n % 3 = 2; omega), step]

/-- The block written after the last tile is the addend's plus the product's. -/
theorem block (t : Fin cfg0.N) (h : t.val % 3 = 2) (r s : Fin 1024) :
    ((outsAt0 m c t.val t.isLt).1 (ix2 r s) : EReal)
      = at2 (B m c) (1024 * (t.val / 3 / 4) + r.val) (1024 * (t.val / 3 % 4) + s.val) + ∑ k ∈ Finset.range 6144, term m c (t.val / 3) r.val s.val k := by
  rw [out_last m c t h]
  unfold k0_pay3
  show (k0_pay2 (outsAt0 m c (t.val - 1) _).2 (iblk m c 0 t) (iblk m c 1 t) (ix2 r s) : EReal) + (iblk m c 2 t : Vec Ideal S1024x1024 .f32) (ix2 r s) = _
  rw [step, addend m c t r s]
  exact (add_comm _ _).trans (congrArg (_ + ·) (last 2048 3 (by decide) (fun n hn => ((outsAt0 m c n hn).2 (ix2 r s) : EReal)) (fun j k => term m c j r.val s.val k) (first m c r s)
    (mid m c r s) t.val _ (by omega)))

/-! ### The array -/

/-- The reference's array, entry by entry. -/
theorem entry (i : S4096x4096.Idx) (j r s : ℕ) (h0 : (i 0).val = 1024 * (j / 4) + r) (h1 : (i 1).val = 1024 * (j % 4) + s) :
    (Cert.Reference14Ideal.Read.val_main_v2 (F := Ideal) (X m c) (Y m c) (B m c) i : EReal)
      = at2 (B m c) (1024 * (j / 4) + r) (1024 * (j % 4) + s) + ∑ k ∈ Finset.range 6144, term m c j r s k := by
  rw [Cert.Reference14Ideal.Read.val_main_v2_apply, Cert.Reference14Ideal.Read.val_main_v1_apply]
  refine congrArg₂ (· + ·) (eq_at2 _ _ h0 h1) (sum_eq _ _ fun k => ?_)
  rw [Cert.Reference14Ideal.Read.val_main_v0_apply]
  refine congrArg₂ (· * ·) ?_ ?_
  · exact eq_at2 _ _ h0 rfl
  · exact eq_at2 _ _ (Nat.add_comm _ _) h1

theorem array : (dats m 0 c).arrAt 3 cfg0.N = (Cert.Reference14Ideal.Read.val_main_v2 (F := Ideal) (X m c) (Y m c) (B m c) : S4096x4096.Idx → EReal) := by
  refine (dats m 0 c).arrAt_eq_of_covers 3 _ (by decide +kernel) fun t hf y => ?_
  have h3 : t.val % 3 = 2 := (flush0_3 t).mp hf
  have e := (idxs t).2.2.2
  have y0 : (y 0).val < 1024 := (y 0).isLt
  have y1 : (y 1).val < 1024 := (y 1).isLt
  have ey : ((cfg0.win 3).xinj (grid0.coords t) y : S1024x1024.Idx) = ix2 (⟨(y 0).val, y0⟩ : Fin 1024) (⟨(y 1).val, y1⟩ : Fin 1024) :=
    funext fun a => match a with | ⟨0, _⟩ => rfl | ⟨1, _⟩ => rfl
  show (dats m 0 c).after 3 t ((cfg0.win 3).xinj (grid0.coords t) y) = Cert.Reference14Ideal.Read.val_main_v2 (F := Ideal) (X m c) (Y m c) (B m c) (((cfg0.win 3).blk t).view.emb y)
  rw [after0_3, ey, block m c t h3]
  refine (entry m c _ (t.val / 3) (y 0).val (y 1).val ?_ ?_).symm
  · show win0_3.index t 0 * 1024 + 1 * (y 0).val = _
    rw [e.1]; omega
  · show win0_3.index t 1 * 1024 + 1 * (y 1).val = _
    rw [e.2]; omega

end Value

/-- After the run the result is what the grid's points wrote back. -/
theorem arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 3 cfg0.N :=
  (θ_run defs _ _).mono (fun _ g c => (g c).1 3) (run_main m ρ)

/-- The kernel's run: its result is the reference's array of its arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (Cert.Reference14Ideal.Read.val_main_v2 (F := Ideal) (X m c) (Y m c) (B m c) : S4096x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ g c => ⟨(g.2 c).trans (array m c), g.1 c⟩) (θ_run_and (unchanged m ρ) (arrays m ρ))

end Cert.Kernel14Ideal.OutSsd

end
-- ==== Proof.Gate.lean ====
/- The gate of the attention over the extended reals: x times 1 / (1 + exp (-x)), and its derivative in the two forms the programs write. -/
module

public import proofs.«01_k».proof.Proof.Scores

@[expose] public section

noncomputable section

namespace Cert.Gate

open Idealize.ShloMosaic Cert.Scores

/-- 1 / (1 + exp (-x)), as the gate computes it. -/
abbrev sig (x : EReal) : EReal := Ideal.div 1 (1 + Ideal.exp (-x))

theorem one : Ideal.ofBits .f32 0x3F800000#32 = (1 : EReal) := lit_one.trans EReal.coe_one

theorem zero : Ideal.ofBits .f32 0x00000000#32 = (0 : EReal) := lit_zero.trans EReal.coe_zero

/-- A quotient of reals whose divisor is not zero. -/
theorem div_coe (a b : ℝ) (hb : b ≠ 0) : Ideal.div (a : EReal) (b : EReal) = ((a / b : ℝ) : EReal) := by
  rw [Ideal.div, if_neg (fun h => hb (EReal.coe_eq_zero.1 h)), ← EReal.coe_inv, ← EReal.coe_mul, div_eq_mul_inv]

theorem exp_bot : Ideal.exp ⊥ = 0 := rfl

theorem exp_top : Ideal.exp ⊤ = ⊤ := rfl

/-- The derivative of `sig`, whatever `x`: exp (-x) / (1 + exp (-x))² is sig x (1 - sig x). -/
theorem slope (x : EReal) :
    Ideal.div 1 ((1 + Ideal.exp (-x)) * (1 + Ideal.exp (-x))) * Ideal.exp (-x) = sig x * (1 - sig x) := by
  induction x with
  | bot =>
    have h : (1 : EReal) + ⊤ = ⊤ := EReal.add_top_of_ne_bot (EReal.coe_ne_bot 1)
    simp [sig, exp_top, Ideal.div, h]
  | top =>
    have h : (1 : EReal) - 1 = 0 := EReal.sub_self (EReal.coe_ne_top 1) (EReal.coe_ne_bot 1)
    simp [sig, exp_bot, Ideal.div, h]
  | coe r =>
    have he : (0 : ℝ) < Real.exp (-r) := Real.exp_pos _
    have hy : (1 + Real.exp (-r) : ℝ) ≠ 0 := by positivity
    have h1 : (1 : EReal) + Ideal.exp (-(r : EReal)) = ((1 + Real.exp (-r) : ℝ) : EReal) := by
      rw [← EReal.coe_neg, EReal.coe_add, EReal.coe_one]; rfl
    have h2 : Ideal.exp (-(r : EReal)) = ((Real.exp (-r) : ℝ) : EReal) := by rw [← EReal.coe_neg]; rfl
    have h3 : (1 : EReal) = ((1 : ℝ) : EReal) := EReal.coe_one.symm
    rw [sig, h1, h2, h3, ← EReal.coe_mul, div_coe _ _ (mul_ne_zero hy hy), div_coe _ _ hy, ← EReal.coe_mul, ← EReal.coe_sub,
      ← EReal.coe_mul]
    congr 1
    field_simp
    ring

/-- The gradient of the gate's argument, as the kernel writes it and as the reference does. -/
theorem grad (x p : EReal) :
    p * Ideal.div 1 (1 + Ideal.exp (0 - x))
        + (0 - (0 - x * p * Ideal.div 1 ((1 + Ideal.exp (0 - x)) * (1 + Ideal.exp (0 - x))) * 1) * Ideal.exp (0 - x))
      = p * sig x + x * p * (sig x * (1 - sig x)) := by
  rw [zero_sub, zero_sub, zero_sub, mul_one, EReal.neg_mul, neg_neg, mul_assoc (x * p), slope]

end Cert.Gate

end
-- ==== Proof.FoxOut.lean ====
/- The gate of the attention, forward and backward: what the kernels write is what the references do. -/
module

public import proofs.«01_k».proof.Proof.Gate
public import proofs.«01_k».proof.Proof.Gen.Kernel16Ideal.Value
public import proofs.«01_k».proof.Proof.Gen.Kernel17Ideal.Value
public import proofs.«01_k».proof.Proof.Gen.Reference16Ideal.Read
public import proofs.«01_k».proof.Proof.Gen.Reference17Ideal.Read

@[expose] public section

noncomputable section

namespace Cert.FoxOut

open Idealize.ShloMosaic Cert.Scores

/-- The gradient of the attention's output. -/
theorem att (x1 : (⟨2, ![4096, 16384]⟩ : Shape).Idx → EReal) (x2 : (⟨2, ![4096, 4096]⟩ : Shape).Idx → EReal) :
    Cert.Reference16Ideal.Read.val_main_v4 (F := Ideal) x1 x2 = Cert.Kernel16Ideal.Value.G3 (F := Ideal) x1 x2 := by
  funext i
  have hi : Cert.Kernel16Ideal.Value.inIdx3_0 i = Cert.Reference16Ideal.Read.idx_main_v0 i := ext2 rfl (Nat.add_comm _ _)
  show x2 i * (Cert.Reference16Ideal.Read.val_main_v0 (F := Ideal) x1 i * Ideal.div (Ideal.ofBits .f32 0x3F800000#32)
      (Ideal.ofBits .f32 0x3F800000#32 + Ideal.exp (-(Cert.Reference16Ideal.Read.val_main_v0 (F := Ideal) x1 i))))
    = x2 i * (x1 (Cert.Kernel16Ideal.Value.inIdx3_0 i) * Ideal.div (Ideal.ofBits .f32 0x3F800000#32)
      (Ideal.ofBits .f32 0x3F800000#32 + Ideal.exp (Ideal.ofBits .f32 0x00000000#32 - x1 (Cert.Kernel16Ideal.Value.inIdx3_0 i))))
  rw [Cert.Reference16Ideal.Read.val_main_v0_apply, hi, Gate.zero, zero_sub]

/-- The gradient of the gate. -/
theorem gate (x0 : (⟨2, ![4096, 4096]⟩ : Shape).Idx → EReal) (x1 : (⟨2, ![4096, 16384]⟩ : Shape).Idx → EReal)
    (x2 : (⟨2, ![4096, 4096]⟩ : Shape).Idx → EReal) :
    Cert.Reference16Ideal.Read.val_main_v6 (F := Ideal) x0 x1 x2 = Cert.Kernel16Ideal.Value.G4 (F := Ideal) x0 x1 x2 := by
  funext i
  have hi : Cert.Kernel16Ideal.Value.inIdx4_1 i = Cert.Reference16Ideal.Read.idx_main_v0 i := ext2 rfl (Nat.add_comm _ _)
  have h := Gate.grad (x1 (Cert.Reference16Ideal.Read.idx_main_v0 i)) (x0 i * x2 i)
  rw [← Gate.zero, ← Gate.one] at h
  have hv := Cert.Reference16Ideal.Read.val_main_v0_apply (F := Ideal) x1 i
  refine Eq.trans ?_ h.symm |>.trans ?_
  · show x0 i * x2 i * Ideal.div (Ideal.ofBits .f32 0x3F800000#32)
        (Ideal.ofBits .f32 0x3F800000#32 + Ideal.exp (-(Cert.Reference16Ideal.Read.val_main_v0 (F := Ideal) x1 i)))
      + Cert.Reference16Ideal.Read.val_main_v0 (F := Ideal) x1 i * (x0 i * x2 i) * (Ideal.div (Ideal.ofBits .f32 0x3F800000#32)
          (Ideal.ofBits .f32 0x3F800000#32 + Ideal.exp (-(Cert.Reference16Ideal.Read.val_main_v0 (F := Ideal) x1 i)))
        * (Ideal.ofBits .f32 0x3F800000#32 - Ideal.div (Ideal.ofBits .f32 0x3F800000#32)
          (Ideal.ofBits .f32 0x3F800000#32 + Ideal.exp (-(Cert.Reference16Ideal.Read.val_main_v0 (F := Ideal) x1 i))))) = _
    rw [hv, Gate.sig, Gate.one]
  · rw [← hi]
    rfl

/-- The gated output. -/
theorem out (x0 : (⟨2, ![4096, 4096]⟩ : Shape).Idx → EReal) (x1 : (⟨2, ![4096, 16384]⟩ : Shape).Idx → EReal) :
    Cert.Reference17Ideal.Read.val_main_v3 (F := Ideal) x0 x1 = Cert.Kernel17Ideal.Value.G2 (F := Ideal) x0 x1 := by
  funext i
  have hi : Cert.Kernel17Ideal.Value.inIdx2_1 i = Cert.Reference17Ideal.Read.idx_main_v0 i := ext2 rfl (Nat.add_comm _ _)
  show x0 i * (Cert.Reference17Ideal.Read.val_main_v0 (F := Ideal) x1 i * Ideal.div (Ideal.ofBits .f32 0x3F800000#32)
      (Ideal.ofBits .f32 0x3F800000#32 + Ideal.exp (-(Cert.Reference17Ideal.Read.val_main_v0 (F := Ideal) x1 i))))
    = x0 i * (x1 (Cert.Kernel17Ideal.Value.inIdx2_1 i) * Ideal.div (Ideal.ofBits .f32 0x3F800000#32)
      (Ideal.ofBits .f32 0x3F800000#32 + Ideal.exp (Ideal.ofBits .f32 0x00000000#32 - x1 (Cert.Kernel17Ideal.Value.inIdx2_1 i))))
  rw [Cert.Reference17Ideal.Read.val_main_v0_apply, hi, Gate.zero, zero_sub]

end Cert.FoxOut

end
-- ==== Proof.ParamRow.lean ====
/- A vector of parameters, seen as a row, given to every row of a tile of `r` rows and `w` columns. -/
module

public import Idealize.ShloMosaic.Lib.Pipeline.Value
public import proofs.«01_k».proof.Proof.Scores

@[expose] public section

noncomputable section

namespace Cert.ParamRow

open Idealize.ShloMosaic Idealize.ShloMosaic.ValueIdx

variable {r w : Nat}

/-- A row given to every row of a tile. -/
theorem row (hw : w ≠ 1) (p : (⟨2, ![1, w]⟩ : Shape).Idx → EReal) (h : (⟨2, ![1, w]⟩ : Shape).ShapeCasts ⟨2, ![1, w]⟩)
    (hb : (⟨2, ![1, w]⟩ : Shape).Broadcasts ⟨2, ![r, w]⟩) (j : (⟨2, ![r, w]⟩ : Shape).Idx) :
    broadcastTo ⟨2, ![r, w]⟩ (shapeCast ⟨2, ![1, w]⟩ p h) hb j = p (ix2 0 (j 1)) :=
  (broadcastTo_apply _ _ j (ix2 0 (j 1)) (fun a => match a with
    | ⟨0, _⟩ => by show 0 = if (1 : Nat) = 1 then 0 else (j 0).val; rw [if_pos rfl]
    | ⟨1, _⟩ => by show (j 1).val = if w = 1 then 0 else (j 1).val; rw [if_neg hw])).trans
    (shapeCast_apply _ _ _ _ rfl)

/-- The column of an index of a tile, as an index of a vector. -/
abbrev col (j : (⟨2, ![r, w]⟩ : Shape).Idx) : (⟨1, ![w]⟩ : Shape).Idx := fun a => match a with
  | ⟨0, _⟩ => ⟨(j 1).val, (j 1).isLt⟩

/-- A vector seen as a row. -/
theorem as_row (d : (⟨1, ![w]⟩ : Shape).Idx → EReal) (h : (⟨1, ![w]⟩ : Shape).ShapeCasts ⟨2, ![1, w]⟩)
    (i : (⟨2, ![1, w]⟩ : Shape).Idx) (k : (⟨1, ![w]⟩ : Shape).Idx) (hk : (k 0).val = (i 1).val) :
    shapeCast ⟨2, ![1, w]⟩ d h i = d k :=
  shapeCast_apply _ _ _ _ (by
    rw [Shape.rowMajor_val_one, Shape.rowMajor_val_two]
    have h0 : (i 0).val < 1 := (i 0).isLt
    have e0 : (i 0).val = 0 := by omega
    show (k 0).val = (i 0).val * w + (i 1).val
    rw [e0, Nat.zero_mul, Nat.zero_add, hk])

end Cert.ParamRow

end
-- ==== Proof.Gelu.lean ====
/- The activation of the first mixer's state-space block, `gelu (yc + d * u)`: what the kernel's run leaves is what the reference computes. -/
module

public import proofs.«01_k».proof.Proof.Gate
public import proofs.«01_k».proof.Proof.ParamRow
public import proofs.«01_k».proof.Proof.Gen.Kernel18Ideal.Value
public import proofs.«01_k».proof.Proof.Gen.Reference18Ideal.Read

@[expose] public section

noncomputable section

namespace Cert.Gelu

open Idealize.ShloMosaic Cert.Scores Idealize.ShloMosaic.ValueIdx

/-- The activation, as the reference writes it. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

/-- The kernel multiplies by one half first. -/
theorem half_first (y : EReal) :
    Ideal.ofBits .f32 0x3F000000#32 * y * (Ideal.ofBits .f32 0x3F800000#32
      + Ideal.tanh (Ideal.ofBits .f32 0x3F4C422A#32 * (y + Ideal.ofBits .f32 0x3D372713#32 * (y * y * y)))) = gelu y := by
  rw [gelu, mul_comm (Ideal.ofBits .f32 0x3F000000#32) y, mul_assoc]

end Cert.Gelu

namespace Cert.Kernel18Ideal.Gelu

open Cert.Kernel18Ideal Cert.Kernel18Ideal.Gen Cert.Kernel18Ideal.Value Idealize.ShloMosaic Idealize.ShloMosaic.TcCoe Idealize.SL.Sem Cert.Scores Idealize.ShloMosaic.ValueIdx

/-- An element of the tile that the body writes. -/
theorem tile (p0 p2 : Vec Ideal S256x2048 .f32) (p1 : Vec Ideal S1x2048 .f32) (j : S256x2048.Idx) :
    (k0_pay1 p0 p2 p1 j : EReal) = Cert.Gelu.gelu (p0 j + p1 (ix2 0 (j 1)) * p2 j) := by
  rw [← Cert.ParamRow.row (by decide) p1 shapeCasts_S1x2048_S1x2048 broadcasts_S1x2048_S256x2048 j, ← Cert.Gelu.half_first]
  rfl

/-- An element of the reference's array. -/
theorem whole (x0 : S4096x2048.Idx → EReal) (x1 : S4096x4096.Idx → EReal) (x2 : S2048.Idx → EReal) (i : S4096x2048.Idx)
    (i1 : S4096x4096.Idx) (i2 : S2048.Idx) (h0 : (i1 0).val = (i 0).val) (h1 : (i1 1).val = (i 1).val) (h2 : (i2 0).val = (i 1).val) :
    (Cert.Reference18Ideal.Read.val_main_v18 (F := Ideal) x0 x1 x2 i : EReal) = Cert.Gelu.gelu (x0 i + x2 i2 * x1 i1) := by
  have e1 : i1 = Cert.Reference18Ideal.Read.idx_main_v0 i := ext2 h0 h1
  have e2 : i2 = Cert.Reference18Ideal.Read.idx_main_v1 (Cert.Reference18Ideal.Read.idx_main_v2 i) :=
    funext fun a => Fin.ext (match a with | ⟨0, _⟩ => h2)
  rw [e1, e2, ← Cert.Reference18Ideal.Read.val_main_v0_apply (F := Ideal) x1 i,
    ← Cert.Reference18Ideal.Read.val_main_v1_apply (F := Ideal) x2, ← Cert.Reference18Ideal.Read.val_main_v2_apply (F := Ideal) x2 i]
  rfl

variable (m : (ℓ : Loc nD τ sig) → Buf (Elt Ideal) ℓ) (ρ : Dev nD → PrngReg) (c : Dev nD)

theorem V_row : (V m c main_v0 : S1x2048.Idx → EReal) =
    shapeCast S1x2048 (m ((c : Thread nD τ).loc main_arg2) : S2048.Idx → EReal) shapeCasts_S2048_S1x2048 := by
  show StableHlo.after hostOps0 (fun b => m (c, b)) (Proc.devRef .tc main_v0) = _
  simp only [hostOps0]
  after_results_simp
  rfl

/-- The array after the run. -/
abbrev G : S4096x2048.Idx → EReal := Cert.Reference18Ideal.Read.val_main_v18 (F := Ideal)
  (m ((c : Thread nD τ).loc main_arg0)) (m ((c : Thread nD τ).loc main_arg1)) (m ((c : Thread nD τ).loc main_arg2))

theorem hz : (![0, 0] : Fin 2 → Nat) = fun _ => 0 := funext fun a => by fin_cases a <;> rfl

theorem idxs : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- What a point writes back is its tile of the array. -/
theorem flushed_eq (t : Fin cfg0.N) : (dats m 0 c).flushed 3 t = ((cfg0.win 3).blk t).view.read (Elt Ideal) (G m c) := by
  rw [flushed3]
  unfold out0_3
  rw [View.canon_unit_zero hz]
  simp only [View.ld_unit_zero (S := S256x2048) hz, View.ld_unit_zero (S := S1x2048) hz]
  obtain ⟨⟨a0, a1⟩, ⟨b0, b1⟩, ⟨c0, c1⟩, ⟨d0, d1⟩⟩ := idxs t
  funext j
  refine (tile (iblk m c 0 t) (iblk m c 1 t) (iblk m c 2 t) j).trans ?_
  have hj0 : (j 0).val < 256 := (j 0).isLt
  have hj1 : (j 1).val < 2048 := (j 1).isLt
  have h0 : ((cfg0.win 0).blk t).view.emb j = ((cfg0.win 3).blk t).view.emb j := ext2
    (by show win0_0.index t (0 : Fin 2) * 256 + 1 * (j 0).val = win0_3.index t (0 : Fin 2) * 256 + 1 * (j 0).val; omega)
    (by show win0_0.index t (1 : Fin 2) * 2048 + 1 * (j 1).val = win0_3.index t (1 : Fin 2) * 2048 + 1 * (j 1).val; omega)
  refine Eq.trans ?_ (whole _ _ _ (((cfg0.win 3).blk t).view.emb j) (((cfg0.win 1).blk t).view.emb j) (Cert.ParamRow.col j)
    (by show win0_1.index t (0 : Fin 2) * 256 + 1 * (j 0).val = win0_3.index t (0 : Fin 2) * 256 + 1 * (j 0).val; omega)
    (by show win0_1.index t (1 : Fin 2) * 2048 + 1 * (j 1).val = win0_3.index t (1 : Fin 2) * 2048 + 1 * (j 1).val; omega)
    (by show (j 1).val = win0_3.index t (1 : Fin 2) * 2048 + 1 * (j 1).val; omega)).symm
  have e0 : (iblk m c 0 t j : EReal) = (m ((c : Thread nD τ).loc main_arg0) : S4096x2048.Idx → EReal) (((cfg0.win 3).blk t).view.emb j) := by
    rw [← h0, ← V_main_arg0 m c]; rfl
  have e1 : (iblk m c 1 t j : EReal) = (m ((c : Thread nD τ).loc main_arg1) : S4096x4096.Idx → EReal) (((cfg0.win 1).blk t).view.emb j) := by
    rw [← V_main_arg1 m c]; rfl
  have e2 : (iblk m c 2 t (ix2 0 (j 1)) : EReal) = (m ((c : Thread nD τ).loc main_arg2) : S2048.Idx → EReal) (Cert.ParamRow.col j) := by
    exact (congrFun (V_row m c) (((cfg0.win 2).blk t).view.emb (ix2 0 (j 1)))).trans (Cert.ParamRow.as_row _ _ _ _
      (by show (j 1).val = win0_2.index t (1 : Fin 2) * 2048 + 1 * (j 1).val; omega))
  rw [e0, e1, e2]

theorem mem_blk (t : Fin cfg0.N) (i : S4096x2048.Idx) : i ∈ ((cfg0.win 3).blk t).view.set ↔ ∀ a : Fin 2,
    win0_3.index t a * S256x2048.size a ≤ (i a).val ∧ (i a).val < win0_3.index t a * S256x2048.size a + S256x2048.size a := by
  show i ∈ ((View.whole main_v1).slice (win0_3.rect t)).set ↔ _
  rw [View.set_slice_whole, Rect.mem_set_unit]
  exact Iff.rfl

theorem final : (dats m 0 c).arrAt 3 cfg0.N = G m c :=
  (dats m 0 c).arrAt_eq_of_cover 3 _ (fun t _ => flushed_eq m c t) (fun i => by
    have hi0 : (i 0).val < 4096 := (i 0).isLt
    have hi1 : (i 1).val < 2048 := (i 1).isLt
    have hd : (i 0).val / 256 < 16 := by omega
    obtain ⟨-, -, -, d0, d1⟩ := idxs ⟨(i 0).val / 256, hd⟩
    refine ⟨⟨(i 0).val / 256, hd⟩, flush0_3 _, (mem_blk _ _).2 fun a => ?_⟩
    match a with
    | ⟨0, _⟩ => show win0_3.index _ (0 : Fin 2) * 256 ≤ (i 0).val ∧ (i 0).val < win0_3.index _ (0 : Fin 2) * 256 + 256; rw [d0]; show (i 0).val / 256 * 256 ≤ _ ∧ _ < (i 0).val / 256 * 256 + 256; omega
    | ⟨1, _⟩ => show win0_3.index _ (1 : Fin 2) * 2048 ≤ (i 1).val ∧ (i 1).val < win0_3.index _ (1 : Fin 2) * 2048 + 2048; rw [d1]; omega)

/-- The run, with its result. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Kernel18Ideal.Gelu

end
-- ==== Proof.SfiveOut.lean ====
/- The gates of the first mixer's state-space block, `gelu (yc + d * u) * sigmoid (t + b) * silu (gate)`: what the kernel's run leaves is what the reference computes. -/
module

public import proofs.«01_k».proof.Proof.Gelu
public import proofs.«01_k».proof.Proof.Gen.Kernel19Ideal.Value
public import proofs.«01_k».proof.Proof.Gen.Reference19Ideal.Read

@[expose] public section

noncomputable section

namespace Cert.Kernel19Ideal.SfiveOut

open Cert.Kernel19Ideal Cert.Kernel19Ideal.Gen Cert.Kernel19Ideal.Value Idealize.ShloMosaic Idealize.ShloMosaic.TcCoe Idealize.SL.Sem Cert.Scores Idealize.ShloMosaic.ValueIdx
open Cert.Gelu (gelu)
open Cert.ParamRow (col)

/-- An element of the result: of the activation's argument, the first gate's argument and the second gate. -/
def gated (y s g : EReal) : EReal := gelu y * Gate.sig s * (g * Gate.sig g)

/-- An element of the tile that the body writes. -/
theorem tile (p0 p1 p2 p3 : Vec Ideal S256x2048 .f32) (p4 p5 : Vec Ideal S1x2048 .f32) (j : S256x2048.Idx) :
    (k0_pay1 p3 (k0_pay2 p0 p1 p2 p4 p5) (k0_pay3 p3) (Scalar.ofBits .f32 0x3F800000#32) j : EReal)
      = gated (p0 j + p4 (ix2 0 (j 1)) * p1 j) (p2 j + p5 (ix2 0 (j 1))) (p3 j) := by
  rw [← Cert.ParamRow.row (by decide) p4 shapeCasts_S1x2048_S1x2048 broadcasts_S1x2048_S256x2048 j,
    ← Cert.ParamRow.row (by decide) p5 shapeCasts_S1x2048_S1x2048 broadcasts_S1x2048_S256x2048 j, gated, ← Cert.Gelu.half_first, Gate.sig, Gate.sig,
    ← zero_sub, ← zero_sub (p3 j : EReal), ← Gate.zero, ← Gate.one]
  rfl

/-- An element of the reference's array. -/
theorem whole (x0 : S4096x2048.Idx → EReal) (x1 : S4096x4096.Idx → EReal) (x2 : S4096x2048.Idx → EReal) (x3 x4 : S2048.Idx → EReal)
    (i : S4096x2048.Idx) (i1 i3 : S4096x4096.Idx) (i2 : S2048.Idx) (h0 : (i1 0).val = (i 0).val) (h1 : (i1 1).val = (i 1).val)
    (h2 : (i2 0).val = (i 1).val) (h3 : (i3 0).val = (i 0).val) (h4 : (i3 1).val = 2048 + (i 1).val) :
    (Cert.Reference19Ideal.Read.val_main_v31 (F := Ideal) x0 x1 x2 x3 x4 i : EReal)
      = gated (x0 i + x3 i2 * x1 i1) (x2 i + x4 i2) (x1 i3) := by
  have e1 : i1 = Cert.Reference19Ideal.Read.idx_main_v0 i := ext2 h0 h1
  have e3 : i3 = Cert.Reference19Ideal.Read.idx_main_v28 i := ext2 h3 h4
  have e2 : i2 = Cert.Reference19Ideal.Read.idx_main_v1 (Cert.Reference19Ideal.Read.idx_main_v2 i) :=
    funext fun a => Fin.ext (match a with | ⟨0, _⟩ => h2)
  have r0 := Cert.Reference19Ideal.Read.val_main_v0_apply (F := Ideal) x1 i
  have r2 := (Cert.Reference19Ideal.Read.val_main_v2_apply (F := Ideal) x3 i).trans (Cert.Reference19Ideal.Read.val_main_v1_apply (F := Ideal) x3 _)
  have r19 := (Cert.Reference19Ideal.Read.val_main_v19_apply (F := Ideal) x4 i).trans (Cert.Reference19Ideal.Read.val_main_v18_apply (F := Ideal) x4 _)
  have r28 := Cert.Reference19Ideal.Read.val_main_v28_apply (F := Ideal) x1 i
  rw [e1, e2, e3, ← r0, ← r2, ← r28, gated, Gate.sig, Gate.sig, ← Gate.one]
  exact (congrArg (fun b : EReal => gelu (x0 i + Cert.Reference19Ideal.Read.val_main_v2 (F := Ideal) x3 i * Cert.Reference19Ideal.Read.val_main_v0 (F := Ideal) x1 i)
    * Ideal.div (Ideal.ofBits .f32 0x3F800000#32) (Ideal.ofBits .f32 0x3F800000#32 + Ideal.exp (-(x2 i + b)))
    * (Cert.Reference19Ideal.Read.val_main_v28 (F := Ideal) x1 i * Ideal.div (Ideal.ofBits .f32 0x3F800000#32)
      (Ideal.ofBits .f32 0x3F800000#32 + Ideal.exp (-(Cert.Reference19Ideal.Read.val_main_v28 (F := Ideal) x1 i))))) r19)

variable (m : (ℓ : Loc nD τ sig) → Buf (Elt Ideal) ℓ) (ρ : Dev nD → PrngReg) (c : Dev nD)

theorem V_skip : (V m c main_v0 : S1x2048.Idx → EReal) =
    shapeCast S1x2048 (m ((c : Thread nD τ).loc main_arg3) : S2048.Idx → EReal) shapeCasts_S2048_S1x2048 := by
  show StableHlo.after hostOps0 (fun b => m (c, b)) (Proc.devRef .tc main_v0) = _
  simp only [hostOps0]
  after_results_simp
  rfl

theorem V_bias : (V m c main_v1 : S1x2048.Idx → EReal) =
    shapeCast S1x2048 (m ((c : Thread nD τ).loc main_arg4) : S2048.Idx → EReal) shapeCasts_S2048_S1x2048 := by
  show StableHlo.after hostOps0 (fun b => m (c, b)) (Proc.devRef .tc main_v1) = _
  simp only [hostOps0]
  after_results_simp
  rfl

/-- The array after the run. -/
abbrev G : S4096x2048.Idx → EReal := Cert.Reference19Ideal.Read.val_main_v31 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

theorem hz : (![0, 0] : Fin 2 → Nat) = fun _ => 0 := funext fun a => by fin_cases a <;> rfl

theorem idxs : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- What a point writes back is its tile of the array. -/
theorem flushed_eq (t : Fin cfg0.N) : (dats m 0 c).flushed 6 t = ((cfg0.win 6).blk t).view.read (Elt Ideal) (G m c) := by
  rw [flushed6]
  unfold out0_6
  rw [View.canon_unit_zero hz]
  simp only [View.ld_unit_zero (S := S256x2048) hz, View.ld_unit_zero (S := S1x2048) hz]
  obtain ⟨⟨a0, a1⟩, ⟨b0, b1⟩, ⟨c0, c1⟩, ⟨f0, f1⟩, ⟨p0, p1⟩, ⟨q0, q1⟩, ⟨d0, d1⟩⟩ := idxs t
  funext j
  refine (tile (iblk m c 0 t) (iblk m c 1 t) (iblk m c 2 t) (iblk m c 3 t) (iblk m c 4 t) (iblk m c 5 t) j).trans ?_
  have hj0 : (j 0).val < 256 := (j 0).isLt
  have hj1 : (j 1).val < 2048 := (j 1).isLt
  have h0 : ((cfg0.win 0).blk t).view.emb j = ((cfg0.win 6).blk t).view.emb j := ext2
    (by show win0_0.index t (0 : Fin 2) * 256 + 1 * (j 0).val = win0_6.index t (0 : Fin 2) * 256 + 1 * (j 0).val; omega)
    (by show win0_0.index t (1 : Fin 2) * 2048 + 1 * (j 1).val = win0_6.index t (1 : Fin 2) * 2048 + 1 * (j 1).val; omega)
  have h2 : ((cfg0.win 2).blk t).view.emb j = ((cfg0.win 6).blk t).view.emb j := ext2
    (by show win0_2.index t (0 : Fin 2) * 256 + 1 * (j 0).val = win0_6.index t (0 : Fin 2) * 256 + 1 * (j 0).val; omega)
    (by show win0_2.index t (1 : Fin 2) * 2048 + 1 * (j 1).val = win0_6.index t (1 : Fin 2) * 2048 + 1 * (j 1).val; omega)
  refine Eq.trans ?_ (whole _ _ _ _ _ (((cfg0.win 6).blk t).view.emb j) (((cfg0.win 1).blk t).view.emb j) (((cfg0.win 3).blk t).view.emb j) (col j)
    (by show win0_1.index t (0 : Fin 2) * 256 + 1 * (j 0).val = win0_6.index t (0 : Fin 2) * 256 + 1 * (j 0).val; omega)
    (by show win0_1.index t (1 : Fin 2) * 2048 + 1 * (j 1).val = win0_6.index t (1 : Fin 2) * 2048 + 1 * (j 1).val; omega)
    (by show (j 1).val = win0_6.index t (1 : Fin 2) * 2048 + 1 * (j 1).val; omega)
    (by show win0_3.index t (0 : Fin 2) * 256 + 1 * (j 0).val = win0_6.index t (0 : Fin 2) * 256 + 1 * (j 0).val; omega)
    (by show win0_3.index t (1 : Fin 2) * 2048 + 1 * (j 1).val = 2048 + (win0_6.index t (1 : Fin 2) * 2048 + 1 * (j 1).val); omega)).symm
  have e0 : (iblk m c 0 t j : EReal) = (m ((c : Thread nD τ).loc main_arg0) : S4096x2048.Idx → EReal) (((cfg0.win 6).blk t).view.emb j) := by
    rw [← h0, ← V_main_arg0 m c]; rfl
  have e1 : (iblk m c 1 t j : EReal) = (m ((c : Thread nD τ).loc main_arg1) : S4096x4096.Idx → EReal) (((cfg0.win 1).blk t).view.emb j) := by
    rw [← V_main_arg1 m c]; rfl
  have e2 : (iblk m c 2 t j : EReal) = (m ((c : Thread nD τ).loc main_arg2) : S4096x2048.Idx → EReal) (((cfg0.win 6).blk t).view.emb j) := by
    rw [← h2, ← V_main_arg2 m c]; rfl
  have e3 : (iblk m c 3 t j : EReal) = (m ((c : Thread nD τ).loc main_arg1) : S4096x4096.Idx → EReal) (((cfg0.win 3).blk t).view.emb j) := by
    rw [← V_main_arg1 m c]; rfl
  have e4 : (iblk m c 4 t (ix2 0 (j 1)) : EReal) = (m ((c : Thread nD τ).loc main_arg3) : S2048.Idx → EReal) (col j) :=
    (congrFun (V_skip m c) (((cfg0.win 4).blk t).view.emb (ix2 0 (j 1)))).trans (Cert.ParamRow.as_row _ _ _ _
      (by show (j 1).val = win0_4.index t (1 : Fin 2) * 2048 + 1 * (j 1).val; omega))
  have e5 : (iblk m c 5 t (ix2 0 (j 1)) : EReal) = (m ((c : Thread nD τ).loc main_arg4) : S2048.Idx → EReal) (col j) :=
    (congrFun (V_bias m c) (((cfg0.win 5).blk t).view.emb (ix2 0 (j 1)))).trans (Cert.ParamRow.as_row _ _ _ _
      (by show (j 1).val = win0_5.index t (1 : Fin 2) * 2048 + 1 * (j 1).val; omega))
  rw [e0, e1, e2, e3, e4, e5]

theorem mem_blk (t : Fin cfg0.N) (i : S4096x2048.Idx) : i ∈ ((cfg0.win 6).blk t).view.set ↔ ∀ a : Fin 2,
    win0_6.index t a * S256x2048.size a ≤ (i a).val ∧ (i a).val < win0_6.index t a * S256x2048.size a + S256x2048.size a := by
  show i ∈ ((View.whole main_v2).slice (win0_6.rect t)).set ↔ _
  rw [View.set_slice_whole, Rect.mem_set_unit]
  exact Iff.rfl

theorem final : (dats m 0 c).arrAt 6 cfg0.N = G m c :=
  (dats m 0 c).arrAt_eq_of_cover 6 _ (fun t _ => flushed_eq m c t) (fun i => by
    have hi0 : (i 0).val < 4096 := (i 0).isLt
    have hi1 : (i 1).val < 2048 := (i 1).isLt
    have hd : (i 0).val / 256 < 16 := by omega
    obtain ⟨-, -, -, -, -, -, d0, d1⟩ := idxs ⟨(i 0).val / 256, hd⟩
    refine ⟨⟨(i 0).val / 256, hd⟩, flush0_6 _, (mem_blk _ _).2 fun a => ?_⟩
    match a with
    | ⟨0, _⟩ => show win0_6.index _ (0 : Fin 2) * 256 ≤ (i 0).val ∧ (i 0).val < win0_6.index _ (0 : Fin 2) * 256 + 256; rw [d0]; show (i 0).val / 256 * 256 ≤ _ ∧ _ < (i 0).val / 256 * 256 + 256; omega
    | ⟨1, _⟩ => show win0_6.index _ (1 : Fin 2) * 2048 ≤ (i 1).val ∧ (i 1).val < win0_6.index _ (1 : Fin 2) * 2048 + 2048; rw [d1]; omega)

/-- The run, with its result. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Kernel19Ideal.SfiveOut

end
-- ==== Proof.Norm.lean ====
/- The norm of a layer's input, `x * rsqrt (mean (x * x) + eps) * w`: what the kernel's run leaves is what the reference computes. -/
module

public import proofs.«01_k».proof.Proof.Gate
public import proofs.«01_k».proof.Proof.ParamRow
public import proofs.«01_k».proof.Proof.Gen.Kernel24Ideal.Value
public import proofs.«01_k».proof.Proof.Gen.Reference24Ideal.Read

@[expose] public section

noncomputable section

namespace Cert.Kernel24Ideal.Norm

open Cert.Kernel24Ideal Cert.Kernel24Ideal.Gen Cert.Kernel24Ideal.Value Idealize.ShloMosaic Idealize.ShloMosaic.TcCoe Idealize.SL.Sem Cert.Scores Idealize.ShloMosaic.ValueIdx
open Cert.ParamRow (col)

/-- An element of the result: of its row, the element and the element's weight. -/
def normed (f : Fin 4096 → EReal) (y w : EReal) : EReal :=
  y * Ideal.rsqrt (Ideal.div (∑ k, f k * f k) (Ideal.ofBits .f32 0x45800000#32) + Ideal.ofBits .f32 0x3727C5AC#32) * w

/-- An element of the tile that the body writes. -/
theorem tile (p0 : Vec Ideal S256x4096 .f32) (p1 : Vec Ideal S1x4096 .f32) (j : S256x4096.Idx) :
    (E2 p0 p1 j : EReal) = normed (fun k => p0 (ix2 (j 0) k)) (p0 j) (p1 (ix2 0 (j 1))) := by
  have e0 : ix2_0 j = j := ext2 rfl rfl
  have e2 : ix2_2 j = ix2 0 (j 1) := ext2 rfl rfl
  have e1 : (multiReduction (F := Ideal) .add [1] S256 (mulf p0 p0) 0x00000000#32 reduces_S256x4096_S256 (.inl rfl) rfl (ix2_1 j) : EReal)
      = ∑ k : Fin 4096, (p0 (ix2 (j 0) k) : EReal) * p0 (ix2 (j 0) k) :=
    (Ideal.multiReduction_add_single (mulf p0 p0) _ reduces_S256x4096_S256 (.inl rfl) rfl (ix2_1 j)).trans
      (Finset.sum_congr rfl fun k _ => congrArg (fun q => (p0 q : EReal) * p0 q) (show reduces_S256x4096_S256.lift (ix2_1 j) k = ix2 (j 0) k from ext2 rfl rfl))
  have h : ∀ {a a' s s' b b' : EReal}, a = a' → s = s' → b = b' →
      a * Ideal.rsqrt (Ideal.div s (Ideal.ofBits .f32 0x45800000#32) + Ideal.ofBits .f32 0x3727C5AC#32) * b
        = a' * Ideal.rsqrt (Ideal.div s' (Ideal.ofBits .f32 0x45800000#32) + Ideal.ofBits .f32 0x3727C5AC#32) * b' := by
    rintro a _ s _ b _ rfl rfl rfl
    rfl
  exact h (congrArg p0 e0) e1 (congrArg p1 e2)

/-- An element of the reference's array. -/
theorem whole (x0 : S4096x4096.Idx → EReal) (x1 : S4096.Idx → EReal) (i : S4096x4096.Idx) (i1 : S4096.Idx) (h : (i1 0).val = (i 1).val) :
    (Cert.Reference24Ideal.Read.val_main_v13 (F := Ideal) x0 x1 i : EReal) = normed (fun k => x0 (ix2 (i 0) k)) (x0 i) (x1 i1) := by
  have e1 : i1 = Cert.Reference24Ideal.Read.idx_main_v10 (Cert.Reference24Ideal.Read.idx_main_v11 i) :=
    funext fun a => Fin.ext (match a with | ⟨0, _⟩ => h)
  have w := (Cert.Reference24Ideal.Read.val_main_v11_apply (F := Ideal) x1 i).trans (Cert.Reference24Ideal.Read.val_main_v10_apply (F := Ideal) x1 _)
  have s : (Cert.Reference24Ideal.Read.val_main_v2 (F := Ideal) x0 (Cert.Reference24Ideal.Read.idx_main_v8 i) : EReal)
      = ∑ k : Fin 4096, x0 (ix2 (i 0) k) * x0 (ix2 (i 0) k) := by
    refine (Cert.Reference24Ideal.Read.val_main_v2_apply (F := Ideal) x0 _).trans ((Cert.Reference24Ideal.Read.val_main_v1_apply x0 _).trans ?_)
    refine (congrArg (· + _) Gate.zero).trans ((zero_add _).trans (Finset.sum_congr rfl fun k _ => ?_))
    exact congrArg (fun q => x0 q * x0 q) (ext2 rfl rfl)
  have q : (Cert.Reference24Ideal.Read.val_main_v8 (F := Ideal) x0 i : EReal)
      = Ideal.rsqrt (Ideal.div (∑ k : Fin 4096, x0 (ix2 (i 0) k) * x0 (ix2 (i 0) k)) (Ideal.ofBits .f32 0x45800000#32) + Ideal.ofBits .f32 0x3727C5AC#32) := by
    rw [← s]
    exact Cert.Reference24Ideal.Read.val_main_v8_apply (F := Ideal) x0 i
  rw [normed, e1, ← q, ← w]
  rfl

variable (m : (ℓ : Loc nD τ sig) → Buf (Elt Ideal) ℓ) (ρ : Dev nD → PrngReg) (c : Dev nD)

theorem V_row : (V m c main_v0 : S1x4096.Idx → EReal) =
    shapeCast S1x4096 (m ((c : Thread nD τ).loc main_arg1) : S4096.Idx → EReal) shapeCasts_S4096_S1x4096 := by
  show StableHlo.after hostOps0 (fun b => m (c, b)) (Proc.devRef .tc main_v0) = _
  simp only [hostOps0]
  after_results_simp
  rfl

/-- The array after the run. -/
abbrev G : S4096x4096.Idx → EReal := Cert.Reference24Ideal.Read.val_main_v13 (F := Ideal)
  (m ((c : Thread nD τ).loc main_arg0)) (m ((c : Thread nD τ).loc main_arg1))

theorem hz : (![0, 0] : Fin 2 → Nat) = fun _ => 0 := funext fun a => by fin_cases a <;> rfl

theorem idxs : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- What a point writes back is its tile of the array. -/
theorem flushed_eq (t : Fin cfg0.N) : (dats m 0 c).flushed 2 t = ((cfg0.win 2).blk t).view.read (Elt Ideal) (G m c) := by
  rw [flushed2]
  unfold out0_2
  simp only [View.ld_unit_zero (S := S256x4096) hz, View.ld_unit_zero (S := S1x4096) hz]
  obtain ⟨⟨a0, a1⟩, ⟨b0, b1⟩, ⟨d0, d1⟩⟩ := idxs t
  funext j
  refine (canon2_eq (iblk m c 0 t) (iblk m c 1 t) j).trans ((tile (iblk m c 0 t) (iblk m c 1 t) j).trans ?_)
  have hj0 : (j 0).val < 256 := (j 0).isLt
  have hj1 : (j 1).val < 4096 := (j 1).isLt
  refine Eq.trans ?_ (whole _ _ (((cfg0.win 2).blk t).view.emb j) (col (r := 256) j)
    (by show (j 1).val = win0_2.index t (1 : Fin 2) * 4096 + 1 * (j 1).val; omega)).symm
  have h0 : ((cfg0.win 0).blk t).view.emb j = ((cfg0.win 2).blk t).view.emb j := ext2
    (by show win0_0.index t (0 : Fin 2) * 256 + 1 * (j 0).val = win0_2.index t (0 : Fin 2) * 256 + 1 * (j 0).val; omega)
    (by show win0_0.index t (1 : Fin 2) * 4096 + 1 * (j 1).val = win0_2.index t (1 : Fin 2) * 4096 + 1 * (j 1).val; omega)
  have e0 : (iblk m c 0 t j : EReal) = (m ((c : Thread nD τ).loc main_arg0) : S4096x4096.Idx → EReal) (((cfg0.win 2).blk t).view.emb j) := by
    rw [← h0, ← V_main_arg0 m c]; rfl
  have er : (fun k : Fin 4096 => (iblk m c 0 t (ix2 (j 0) k) : EReal))
      = fun k => (m ((c : Thread nD τ).loc main_arg0) : S4096x4096.Idx → EReal) (ix2 ((((cfg0.win 2).blk t).view.emb j) 0) k) := by
    funext k
    have hk : ((cfg0.win 0).blk t).view.emb (ix2 (j 0) k) = ix2 ((((cfg0.win 2).blk t).view.emb j) 0) k := ext2
      (by show win0_0.index t (0 : Fin 2) * 256 + 1 * (j 0).val = win0_2.index t (0 : Fin 2) * 256 + 1 * (j 0).val; omega)
      (by show win0_0.index t (1 : Fin 2) * 4096 + 1 * k.val = k.val; omega)
    exact (congrFun (V_main_arg0 m c) _).trans (congrArg (m ((c : Thread nD τ).loc main_arg0) : S4096x4096.Idx → EReal) hk)
  have e1 : (iblk m c 1 t (ix2 0 (j 1)) : EReal) = (m ((c : Thread nD τ).loc main_arg1) : S4096.Idx → EReal) (col (r := 256) j) :=
    (congrFun (V_row m c) (((cfg0.win 1).blk t).view.emb (ix2 0 (j 1)))).trans (Cert.ParamRow.as_row _ _ _ _
      (by show (j 1).val = win0_1.index t (1 : Fin 2) * 4096 + 1 * (j 1).val; omega))
  rw [e0, er, e1]

theorem mem_blk (t : Fin cfg0.N) (i : S4096x4096.Idx) : i ∈ ((cfg0.win 2).blk t).view.set ↔ ∀ a : Fin 2,
    win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

theorem final : (dats m 0 c).arrAt 2 cfg0.N = G m c :=
  (dats m 0 c).arrAt_eq_of_cover 2 _ (fun t _ => flushed_eq m c t) (fun i => by
    have hi0 : (i 0).val < 4096 := (i 0).isLt
    have hi1 : (i 1).val < 4096 := (i 1).isLt
    have hd : (i 0).val / 256 < 16 := by omega
    obtain ⟨-, -, d0, d1⟩ := idxs ⟨(i 0).val / 256, hd⟩
    refine ⟨⟨(i 0).val / 256, hd⟩, flush0_2 _, (mem_blk _ _).2 fun a => ?_⟩
    match a with
    | ⟨0, _⟩ => show win0_2.index _ (0 : Fin 2) * 256 ≤ (i 0).val ∧ (i 0).val < win0_2.index _ (0 : Fin 2) * 256 + 256; rw [d0]; show (i 0).val / 256 * 256 ≤ _ ∧ _ < (i 0).val / 256 * 256 + 256; omega
    | ⟨1, _⟩ => show win0_2.index _ (1 : Fin 2) * 4096 ≤ (i 1).val ∧ (i 1).val < win0_2.index _ (1 : Fin 2) * 4096 + 4096; rw [d1]; omega)

/-- The run, with its result. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Kernel24Ideal.Norm

end
-- ==== Proof.SsdOut.lean ====
/- The gate and the norm by groups of the first layer's second mixer: what the kernel's run leaves is what the reference computes. -/
module

public import proofs.«01_k».proof.Proof.Gate
public import proofs.«01_k».proof.Proof.ParamRow
public import proofs.«01_k».proof.Proof.Gen.Kernel25Ideal.Value
public import proofs.«01_k».proof.Proof.Gen.Reference25Ideal.Read

@[expose] public section

noncomputable section

namespace Cert.SsdOut

open Idealize.ShloMosaic

/-- An element before the norm. -/
def gated (y d x z : EReal) : EReal :=
  (y + d * x) * (z * Ideal.div (Ideal.ofBits .f32 0x3F800000#32) (Ideal.ofBits .f32 0x3F800000#32 + Ideal.exp (Ideal.ofBits .f32 0x00000000#32 - z)))

/-- The scale of a group of 768 elements. -/
def scale (s : EReal) : EReal := Ideal.rsqrt (Ideal.div s (Ideal.ofBits .f32 0x44400000#32) + Ideal.ofBits .f32 0x3727C5AC#32)

/-- An index of a vector. -/
abbrev entry {n : Nat} (v : Nat) (h : v < n) : (⟨1, ![n]⟩ : Shape).Idx := fun a => match a with
  | ⟨0, _⟩ => ⟨v, h⟩

end Cert.SsdOut

namespace Cert.Reference25Ideal.SsdOut

open Cert.Reference25Ideal Cert.Reference25Ideal.Read Idealize.ShloMosaic Cert.Scores Cert.SsdOut Idealize.ShloMosaic.ValueIdx

variable (x0 : S4096x6144.Idx → EReal) (x1 : S4096x8192.Idx → EReal) (x2 : S4096x6144.Idx → EReal) (x3 : S96.Idx → EReal) (x4 : S6144.Idx → EReal)

/-- An element before the norm. -/
theorem mixed (i : S4096x6144.Idx) (i1 : S4096x8192.Idx) (i3 : S96.Idx) (h0 : (i1 0).val = (i 0).val) (h1 : (i1 1).val = (i 1).val)
    (h3 : (i3 0).val = (i 1).val / 64) :
    (val_main_v10 (F := Ideal) x0 x1 x2 x3 i : EReal) = gated (x0 i) (x3 i3) (x1 i1) (x2 i) := by
  have hi0 : (i 0).val < 4096 := (i 0).isLt
  have hi1 : (i 1).val < 6144 := (i 1).isLt
  have a : (val_main_v2 (F := Ideal) x0 (idx_main_v8 i) : EReal) = x0 i :=
    (val_main_v2_apply (F := Ideal) x0 _).trans (congrArg x0 (ext2
      (by show ((((i 0).val * 6144 + (i 1).val) / 6144 * 96 + ((i 0).val * 6144 + (i 1).val) / 64 % 96) * 64 + ((i 0).val * 6144 + (i 1).val) % 64) / 6144 = (i 0).val; omega)
      (by show ((((i 0).val * 6144 + (i 1).val) / 6144 * 96 + ((i 0).val * 6144 + (i 1).val) / 64 % 96) * 64 + ((i 0).val * 6144 + (i 1).val) % 64) % 6144 = (i 1).val; omega)))
  have b : (val_main_v1 (F := Ideal) x1 (idx_main_v8 i) : EReal) = x1 i1 :=
    (val_main_v1_apply (F := Ideal) x1 _).trans ((val_main_v0_apply (F := Ideal) x1 _).trans (congrArg x1 (ext2
      (by rw [h0]; show ((((i 0).val * 6144 + (i 1).val) / 6144 * 96 + ((i 0).val * 6144 + (i 1).val) / 64 % 96) * 64 + ((i 0).val * 6144 + (i 1).val) % 64) / 6144 = (i 0).val; omega)
      (by rw [h1]; show ((((i 0).val * 6144 + (i 1).val) / 6144 * 96 + ((i 0).val * 6144 + (i 1).val) / 64 % 96) * 64 + ((i 0).val * 6144 + (i 1).val) % 64) % 6144 = (i 1).val; omega))))
  have d : (val_main_v5 (F := Ideal) x3 (idx_main_v8 i) : EReal) = x3 i3 :=
    (val_main_v5_apply (F := Ideal) x3 _).trans ((val_main_v4_apply (F := Ideal) x3 _).trans ((val_main_v3_apply (F := Ideal) x3 _).trans
      (congrArg x3 (funext fun a => Fin.ext (match a with
        | ⟨0, _⟩ => by show ((i 0).val * 6144 + (i 1).val) / 64 % 96 = (i3 0).val; rw [h3]; omega)))))
  have n : (val_main_v8 (F := Ideal) x0 x1 x3 i : EReal) = x0 i + x3 i3 * x1 i1 := by
    rw [← a, ← b, ← d]
    exact val_main_v8_apply (F := Ideal) x0 x1 x3 i
  rw [gated, ← n, Gate.zero, zero_sub]
  rfl

/-- An element of the result: of the elements of its group before the norm. -/
theorem whole (i : S4096x6144.Idx) (i4 : S6144.Idx) (f : Fin 768 → S4096x6144.Idx) (h4 : (i4 0).val = (i 1).val)
    (f0 : ∀ k, ((f k) 0).val = (i 0).val) (f1 : ∀ k, ((f k) 1).val = (i 1).val / 768 * 768 + k.val) :
    (val_main_v26 (F := Ideal) x0 x1 x2 x3 x4 i : EReal)
      = val_main_v10 (F := Ideal) x0 x1 x2 x3 i * scale (∑ k, val_main_v10 (F := Ideal) x0 x1 x2 x3 (f k) * val_main_v10 (F := Ideal) x0 x1 x2 x3 (f k)) * x4 i4 := by
  have hi0 : (i 0).val < 4096 := (i 0).isLt
  have hi1 : (i 1).val < 6144 := (i 1).isLt
  have a : (val_main_v11 (F := Ideal) x0 x1 x2 x3 (idx_main_v22 i) : EReal) = val_main_v10 (F := Ideal) x0 x1 x2 x3 i :=
    (val_main_v11_apply (F := Ideal) x0 x1 x2 x3 _).trans (congrArg _ (ext2
      (by show ((((i 0).val * 6144 + (i 1).val) / 6144 * 8 + ((i 0).val * 6144 + (i 1).val) / 768 % 8) * 768 + ((i 0).val * 6144 + (i 1).val) % 768) / 6144 = (i 0).val; omega)
      (by show ((((i 0).val * 6144 + (i 1).val) / 6144 * 8 + ((i 0).val * 6144 + (i 1).val) / 768 % 8) * 768 + ((i 0).val * 6144 + (i 1).val) % 768) % 6144 = (i 1).val; omega)))
  have s : (val_main_v13 (F := Ideal) x0 x1 x2 x3 (idx_main_v14 (idx_main_v20 (idx_main_v22 i))) : EReal)
      = ∑ k, val_main_v10 (F := Ideal) x0 x1 x2 x3 (f k) * val_main_v10 (F := Ideal) x0 x1 x2 x3 (f k) := by
    refine (val_main_v13_apply x0 x1 x2 x3 _).trans ?_
    refine (congrArg (· + _) Gate.zero).trans ((zero_add _).trans (Finset.sum_congr rfl fun k _ => ?_))
    have hk : k.val < 768 := k.isLt
    have e : (val_main_v11 (F := Ideal) x0 x1 x2 x3 (idx_main_v13 (idx_main_v14 (idx_main_v20 (idx_main_v22 i))) k) : EReal)
        = val_main_v10 (F := Ideal) x0 x1 x2 x3 (f k) :=
      (val_main_v11_apply (F := Ideal) x0 x1 x2 x3 _).trans (congrArg _ (ext2
        (by rw [f0 k]; show ((((i 0).val * 6144 + (i 1).val) / 6144 * 8 + ((i 0).val * 6144 + (i 1).val) / 768 % 8) * 768 + k.val) / 6144 = (i 0).val; omega)
        (by rw [f1 k]; show ((((i 0).val * 6144 + (i 1).val) / 6144 * 8 + ((i 0).val * 6144 + (i 1).val) / 768 % 8) * 768 + k.val) % 6144 = (i 1).val / 768 * 768 + k.val; omega)))
    exact congrArg₂ (fun u v : EReal => u * v) e e
  have q : (val_main_v20 (F := Ideal) x0 x1 x2 x3 (idx_main_v22 i) : EReal)
      = scale (val_main_v13 (F := Ideal) x0 x1 x2 x3 (idx_main_v14 (idx_main_v20 (idx_main_v22 i)))) :=
    (val_main_v20_apply (F := Ideal) x0 x1 x2 x3 _).trans (congrArg scale (val_main_v14_apply (F := Ideal) x0 x1 x2 x3 _))
  have w : (val_main_v24 (F := Ideal) x4 i : EReal) = x4 i4 :=
    (val_main_v24_apply (F := Ideal) x4 i).trans ((val_main_v23_apply (F := Ideal) x4 _).trans
      (congrArg x4 (funext fun a => Fin.ext (match a with | ⟨0, _⟩ => h4.symm))))
  have n : (val_main_v22 (F := Ideal) x0 x1 x2 x3 i : EReal)
      = val_main_v11 (F := Ideal) x0 x1 x2 x3 (idx_main_v22 i) * val_main_v20 (F := Ideal) x0 x1 x2 x3 (idx_main_v22 i) :=
    val_main_v22_apply (F := Ideal) x0 x1 x2 x3 i
  rw [← s, ← q, ← a, ← w, ← n]
  rfl

end Cert.Reference25Ideal.SsdOut

namespace Cert.Kernel25Ideal.SsdOut

open Cert.Kernel25Ideal Cert.Kernel25Ideal.Gen Cert.Kernel25Ideal.Value Idealize.ShloMosaic Idealize.ShloMosaic.TcCoe Idealize.SL.Sem Cert.Scores Cert.SsdOut Idealize.ShloMosaic.ValueIdx
open Cert.ParamRow (col)

/-- The tile before the norm. -/
abbrev mixed (p0 p1 p2 : Vec Ideal S256x768 .f32) (p3 : Vec Ideal S1x768 .f32) : FVec Ideal S256x768 .f32 :=
  mulf (addf p0 (mulf (broadcastTo S256x768 (shapeCast S1x768 p3 shapeCasts_S1x768_S1x768) broadcasts_S1x768_S256x768) p1))
    (mulf p2 (divf (broadcast S256x768 (Scalar.ofBits .f32 0x3F800000#32)) (addf (broadcast S256x768 (Scalar.ofBits .f32 0x3F800000#32))
      (exp (subf (broadcast S256x768 (Scalar.ofBits .f32 0x00000000#32)) p2)))))

theorem mixed_apply (p0 p1 p2 : Vec Ideal S256x768 .f32) (p3 : Vec Ideal S1x768 .f32) (j : S256x768.Idx) :
    (mixed p0 p1 p2 p3 j : EReal) = gated (p0 j) (p3 (ix2 0 (j 1))) (p1 j) (p2 j) := by
  rw [← Cert.ParamRow.row (by decide) p3 shapeCasts_S1x768_S1x768 broadcasts_S1x768_S256x768 j]
  rfl

/-- The scale of a row, given to its elements. -/
theorem scaled (s : FVec Ideal S256 .f32) (j : S256x768.Idx) (k : S256.Idx) (hk : (k 0).val = (j 0).val) :
    (broadcastTo S256x768 (rsqrt (addf (divf (shapeCast S256x1 s shapeCasts_S256_S256x1) (broadcast S256x1 (Scalar.ofBits .f32 0x44400000#32)))
      (broadcast S256x1 (Scalar.ofBits .f32 0x3727C5AC#32)))) broadcasts_S256x1_S256x768 j : EReal) = scale (s k) := by
  refine (broadcastTo_apply _ _ j (ix2 (j 0) 0) (fun a => match a with
    | ⟨0, _⟩ => by show (j 0).val = if (256 : Nat) = 1 then 0 else (j 0).val; rw [if_neg (by decide)]
    | ⟨1, _⟩ => by show 0 = if (1 : Nat) = 1 then 0 else (j 1).val; rw [if_pos rfl])).trans ?_
  exact congrArg scale (shapeCast_apply s shapeCasts_S256_S256x1 (ix2 (j 0) 0) k (by
    rw [Shape.rowMajor_val_one, Shape.rowMajor_val_two]
    show (k 0).val = (j 0).val * 1 + 0
    omega))

/-- The sum of a row. -/
theorem summed (v : FVec Ideal S256x768 .f32) (j : S256x768.Idx) (k : S256.Idx) (hk : (k 0).val = (j 0).val) :
    (multiReduction (F := Ideal) .add [1] S256 v 0x00000000#32 reduces_S256x768_S256 (.inl rfl) rfl k : EReal) = ∑ l : Fin 768, (v (ix2 (j 0) l) : EReal) :=
  (Ideal.multiReduction_add_single v _ reduces_S256x768_S256 (.inl rfl) rfl k).trans
    (Finset.sum_congr rfl fun l _ => congrArg v (show reduces_S256x768_S256.lift k l = ix2 (j 0) l from ext2 hk rfl))

/-- An element of the tile that the body writes. -/
theorem tile (p0 p1 p2 : Vec Ideal S256x768 .f32) (p3 p4 : Vec Ideal S1x768 .f32) (j : S256x768.Idx) :
    (k0_pay1 p0 p1 p2 p3 p4 j : EReal)
      = mixed p0 p1 p2 p3 j * scale (∑ l : Fin 768, mixed p0 p1 p2 p3 (ix2 (j 0) l) * mixed p0 p1 p2 p3 (ix2 (j 0) l)) * p4 (ix2 0 (j 1)) := by
  have r := (scaled _ j (entry (j 0).val (j 0).isLt) rfl).trans
    (congrArg scale (summed (mulf (mixed p0 p1 p2 p3) (mixed p0 p1 p2 p3)) j (entry (j 0).val (j 0).isLt) rfl))
  have w := Cert.ParamRow.row (by decide) p4 shapeCasts_S1x768_S1x768 broadcasts_S1x768_S256x768 j
  exact congrArg₂ (fun u v : EReal => mixed p0 p1 p2 p3 j * u * v) r w

variable (m : (ℓ : Loc nD τ sig) → Buf (Elt Ideal) ℓ) (ρ : Dev nD → PrngReg) (c : Dev nD)

theorem V_skip : (V m c main_v2 : S1x6144.Idx → EReal) =
    shapeCast S1x6144 (broadcastInDim S1x96x64 ![0, 1] bcast_S1x96_S1x96x64_0_1
      (shapeCast S1x96 (m ((c : Thread nD τ).loc main_arg3) : S96.Idx → EReal) shapeCasts_S96_S1x96)) shapeCasts_S1x96x64_S1x6144 := by
  show StableHlo.after hostOps0 (fun b => m (c, b)) (Proc.devRef .tc main_v2) = _
  simp only [hostOps0]
  after_results_simp
  rfl

theorem V_row : (V m c main_v3 : S1x6144.Idx → EReal) =
    shapeCast S1x6144 (m ((c : Thread nD τ).loc main_arg4) : S6144.Idx → EReal) shapeCasts_S6144_S1x6144 := by
  show StableHlo.after hostOps0 (fun b => m (c, b)) (Proc.devRef .tc main_v3) = _
  simp only [hostOps0]
  after_results_simp
  rfl

/-- A head's parameter, repeated over the head's columns. -/
theorem skip_apply (d : S96.Idx → EReal) (i : S1x6144.Idx) (k : S96.Idx) (hk : (k 0).val = (i 1).val / 64) :
    shapeCast S1x6144 (broadcastInDim S1x96x64 ![0, 1] bcast_S1x96_S1x96x64_0_1 (shapeCast S1x96 d shapeCasts_S96_S1x96)) shapeCasts_S1x96x64_S1x6144 i = d k := by
  have hi0 : (i 0).val < 1 := (i 0).isLt
  have hi1 : (i 1).val < 6144 := (i 1).isLt
  have h : (i 1).val / 64 < 96 := by omega
  refine (shapeCast_apply _ shapeCasts_S1x96x64_S1x6144 i (ix3 0 (⟨(i 1).val / 64, h⟩ : Fin 96) (⟨(i 1).val % 64, by omega⟩ : Fin 64)) ?_).trans ?_
  · rw [Shape.rowMajor_val_three, Shape.rowMajor_val_two]
    show (0 * 96 + (i 1).val / 64) * 64 + (i 1).val % 64 = (i 0).val * 6144 + (i 1).val
    omega
  refine (broadcastInDim_apply _ bcast_S1x96_S1x96x64_0_1 _ _ (ix2 0 (⟨(i 1).val / 64, h⟩ : Fin 96)) (fun a => match a with
    | ⟨0, _⟩ => by show 0 = if (1 : Nat) = 1 then 0 else _; rw [if_pos rfl]
    | ⟨1, _⟩ => by show (i 1).val / 64 = if (96 : Nat) = 1 then 0 else (i 1).val / 64; rw [if_neg (by decide)])).trans ?_
  exact Cert.ParamRow.as_row d _ _ k hk

/-- The arguments. -/
abbrev A0 : S4096x6144.Idx → EReal := m ((c : Thread nD τ).loc main_arg0)
abbrev A1 : S4096x8192.Idx → EReal := m ((c : Thread nD τ).loc main_arg1)
abbrev A2 : S4096x6144.Idx → EReal := m ((c : Thread nD τ).loc main_arg2)
abbrev A3 : S96.Idx → EReal := m ((c : Thread nD τ).loc main_arg3)
abbrev A4 : S6144.Idx → EReal := m ((c : Thread nD τ).loc main_arg4)

/-- The array after the run. -/
abbrev G : S4096x6144.Idx → EReal := Cert.Reference25Ideal.Read.val_main_v26 (F := Ideal) (A0 m c) (A1 m c) (A2 m c) (A3 m c) (A4 m c)

theorem hz : (![0, 0] : Fin 2 → Nat) = fun _ => 0 := funext fun a => by fin_cases a <;> rfl

theorem idxs : ∀ t : Fin cfg0.N, (win0_0.index t (0 : Fin 2) = t.val % 16 ∧ win0_0.index t (1 : Fin 2) = t.val / 16)
    ∧ (win0_1.index t (0 : Fin 2) = t.val % 16 ∧ win0_1.index t (1 : Fin 2) = t.val / 16)
    ∧ (win0_2.index t (0 : Fin 2) = t.val % 16 ∧ win0_2.index t (1 : Fin 2) = t.val / 16)
    ∧ (win0_3.index t (0 : Fin 2) = 0 ∧ win0_3.index t (1 : Fin 2) = t.val / 16)
    ∧ (win0_4.index t (0 : Fin 2) = 0 ∧ win0_4.index t (1 : Fin 2) = t.val / 16)
    ∧ (win0_5.index t (0 : Fin 2) = t.val % 16 ∧ win0_5.index t (1 : Fin 2) = t.val / 16) :=
  (by decide +kernel : ∀ t : Fin grid0.N, _)

theorem flush5 : ∀ t : Fin cfg0.N, (cfg0.win 5).flush t = true :=
  (by decide +kernel : ∀ t : Fin grid0.N, win0_5.flush t = true)

/-- The block that a point leaves. -/
theorem out (t : Fin cfg0.N) : outsAt0 m c t = k0_pay1 (iblk m c 0 t) (X0_1 m c t) (iblk m c 2 t) (iblk m c 3 t) (iblk m c 4 t) := by
  unfold outsAt0 out0_A_5
  rw [View.read_writes_eq_canon _ _ _ (cover0_A_5 c _ _ _ _ _ _ _ _ _ _ _ _ _ _ _ _ _ _)]
  unfold kernelRun0_A
  dsimp only
  try sl_unfold_words
  rw [View.canon_unit_zero (S := S256x768) hz]
  simp only [View.readAt_eq_ld, (hs0_0 t).read_unread, (hs0_1 t).read_unread, (hs0_2 t).read_unread, (hs0_3 t).read_unread, (hs0_4 t).read_unread,
    View.ld_unit_zero (S := S256x768) hz, View.ld_unit_zero (S := S1x768) hz]

/-- The place of a tile's element in the array. -/
abbrev spot (t : Fin cfg0.N) (j : S256x768.Idx) : S4096x6144.Idx := ((cfg0.win 5).blk t).view.emb j

theorem place (t : Fin cfg0.N) (j : S256x768.Idx) : ((spot t j) 0).val = t.val % 16 * 256 + (j 0).val ∧ ((spot t j) 1).val = t.val / 16 * 768 + (j 1).val := by
  obtain ⟨-, -, -, -, -, ⟨d0, d1⟩⟩ := idxs t
  constructor
  · show win0_5.index t (0 : Fin 2) * 256 + 1 * (j 0).val = _; omega
  · show win0_5.index t (1 : Fin 2) * 768 + 1 * (j 1).val = _; omega

/-- An element before the norm, of a point's tile and of the reference's array. -/
theorem elt (t : Fin cfg0.N) (j : S256x768.Idx) :
    (mixed (iblk m c 0 t) (X0_1 m c t) (iblk m c 2 t) (iblk m c 3 t) j : EReal)
      = Cert.Reference25Ideal.Read.val_main_v10 (F := Ideal) (A0 m c) (A1 m c) (A2 m c) (A3 m c) (spot t j) := by
  obtain ⟨⟨a0, a1⟩, ⟨b0, b1⟩, ⟨c0, c1⟩, ⟨d0, d1⟩, -, -⟩ := idxs t
  obtain ⟨p0, p1⟩ := place t j
  have ht : t.val < 128 := t.isLt
  have hj0 : (j 0).val < 256 := (j 0).isLt
  have hj1 : (j 1).val < 768 := (j 1).isLt
  refine (mixed_apply _ _ _ _ j).trans ?_
  refine Eq.trans ?_ (Cert.Reference25Ideal.SsdOut.mixed _ _ _ _ (spot t j)
    (ix2 (⟨t.val % 16 * 256 + (j 0).val, by omega⟩ : Fin 4096) (⟨t.val / 16 * 768 + (j 1).val, by omega⟩ : Fin 8192))
    (entry (n := 96) ((t.val / 16 * 768 + (j 1).val) / 64) (by omega)) p0.symm p1.symm (by rw [p1])).symm
  have h0 : ((cfg0.win 0).blk t).view.emb j = spot t j := ext2
    (by rw [p0]; show win0_0.index t (0 : Fin 2) * 256 + 1 * (j 0).val = _; omega)
    (by rw [p1]; show win0_0.index t (1 : Fin 2) * 768 + 1 * (j 1).val = _; omega)
  have h2 : ((cfg0.win 2).blk t).view.emb j = spot t j := ext2
    (by rw [p0]; show win0_2.index t (0 : Fin 2) * 256 + 1 * (j 0).val = _; omega)
    (by rw [p1]; show win0_2.index t (1 : Fin 2) * 768 + 1 * (j 1).val = _; omega)
  have e0 : (iblk m c 0 t j : EReal) = A0 m c (spot t j) := (congrFun (V_main_arg0 m c) _).trans (congrArg (A0 m c) h0)
  have e2 : (iblk m c 2 t j : EReal) = A2 m c (spot t j) := (congrFun (V_main_arg2 m c) _).trans (congrArg (A2 m c) h2)
  have e1 : (X0_1 m c t j : EReal) = A1 m c (ix2 (⟨t.val % 16 * 256 + (j 0).val, by omega⟩ : Fin 4096) (⟨t.val / 16 * 768 + (j 1).val, by omega⟩ : Fin 8192)) := by
    unfold X0_1 Pipeline.Window.fill
    rw [dif_pos (moved0_1 t j)]
    exact (congrFun (V_main_arg1 m c) _).trans (congrArg (A1 m c) (ext2
      (by show win0_1.index t (0 : Fin 2) * 256 + 1 * (j 0).val = t.val % 16 * 256 + (j 0).val; omega)
      (by show win0_1.index t (1 : Fin 2) * 768 + 1 * (j 1).val = t.val / 16 * 768 + (j 1).val; omega)))
  have e3 : (iblk m c 3 t (ix2 0 (j 1)) : EReal) = A3 m c (entry (n := 96) ((t.val / 16 * 768 + (j 1).val) / 64) (by omega)) :=
    (congrFun (V_skip m c) (((cfg0.win 3).blk t).view.emb (ix2 0 (j 1)))).trans (skip_apply _ _ _
      (by show (t.val / 16 * 768 + (j 1).val) / 64 = (win0_3.index t (1 : Fin 2) * 768 + 1 * (j 1).val) / 64; rw [d1, Nat.one_mul]))
  rw [e0, e1, e2, e3]

/-- What a point writes back is its tile of the array. -/
theorem flushed_eq (t : Fin cfg0.N) : (dats m 0 c).flushed 5 t = ((cfg0.win 5).blk t).view.read (Elt Ideal) (G m c) := by
  rw [flushed5, out]
  obtain ⟨-, -, -, -, ⟨d0, d1⟩, -⟩ := idxs t
  funext j
  have hj1 : (j 1).val < 768 := (j 1).isLt
  have ht : t.val < 128 := t.isLt
  have p := place t j
  have p' := fun k : Fin 768 => place t (ix2 (j 0) k)
  refine (tile (iblk m c 0 t) (X0_1 m c t) (iblk m c 2 t) (iblk m c 3 t) (iblk m c 4 t) j).trans ?_
  refine Eq.trans ?_ (Cert.Reference25Ideal.SsdOut.whole (A0 m c) (A1 m c) (A2 m c) (A3 m c) (A4 m c) (spot t j)
    (entry (n := 6144) (t.val / 16 * 768 + (j 1).val) (by omega)) (fun k => spot t (ix2 (j 0) k)) p.2.symm
    (fun k => (p' k).1.trans p.1.symm) (fun k => (p' k).2.trans (by rw [p.2]; show t.val / 16 * 768 + k.val = _; omega))).symm
  have e4 : (iblk m c 4 t (ix2 0 (j 1)) : EReal) = A4 m c (entry (n := 6144) (t.val / 16 * 768 + (j 1).val) (by omega)) :=
    (congrFun (V_row m c) (((cfg0.win 4).blk t).view.emb (ix2 0 (j 1)))).trans (Cert.ParamRow.as_row _ _ _ _
      (by show t.val / 16 * 768 + (j 1).val = win0_4.index t (1 : Fin 2) * 768 + 1 * (j 1).val; omega))
  rw [elt m c t j, e4]
  simp only [elt m c t]

theorem mem_blk (t : Fin cfg0.N) (i : S4096x6144.Idx) : i ∈ ((cfg0.win 5).blk t).view.set ↔ ∀ a : Fin 2,
    win0_5.index t a * S256x768.size a ≤ (i a).val ∧ (i a).val < win0_5.index t a * S256x768.size a + S256x768.size a := by
  show i ∈ ((View.whole main_v4).slice (win0_5.rect t)).set ↔ _
  rw [View.set_slice_whole, Rect.mem_set_unit]
  exact Iff.rfl

theorem final : (dats m 0 c).arrAt 5 cfg0.N = G m c :=
  (dats m 0 c).arrAt_eq_of_cover 5 _ (fun t _ => flushed_eq m c t) (fun i => by
    have hi0 : (i 0).val < 4096 := (i 0).isLt
    have hi1 : (i 1).val < 6144 := (i 1).isLt
    have hd : (i 1).val / 768 * 16 + (i 0).val / 256 < 128 := by omega
    obtain ⟨-, -, -, -, -, d0, d1⟩ := idxs ⟨(i 1).val / 768 * 16 + (i 0).val / 256, hd⟩
    refine ⟨⟨(i 1).val / 768 * 16 + (i 0).val / 256, hd⟩, flush5 _, (mem_blk _ _).2 fun a => ?_⟩
    match a with
    | ⟨0, _⟩ =>
      show win0_5.index _ (0 : Fin 2) * 256 ≤ (i 0).val ∧ (i 0).val < win0_5.index _ (0 : Fin 2) * 256 + 256
      rw [d0]
      show ((i 1).val / 768 * 16 + (i 0).val / 256) % 16 * 256 ≤ _ ∧ _ < ((i 1).val / 768 * 16 + (i 0).val / 256) % 16 * 256 + 256
      omega
    | ⟨1, _⟩ =>
      show win0_5.index _ (1 : Fin 2) * 768 ≤ (i 1).val ∧ (i 1).val < win0_5.index _ (1 : Fin 2) * 768 + 768
      rw [d1]
      show ((i 1).val / 768 * 16 + (i 0).val / 256) / 16 * 768 ≤ _ ∧ _ < ((i 1).val / 768 * 16 + (i 0).val / 256) / 16 * 768 + 768
      omega)

/-- The run, with its result. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Kernel25Ideal.SsdOut

end
-- ==== Proof.Pointwise.lean ====
/- The calls that work element by element: the frames, and that each writes what its reference does. -/
module

public import proofs.«01_k».proof.Defs
public import proofs.«01_k».proof.Proof.Gen.Kernel15
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.FoxOut
public import proofs.«01_k».proof.Proof.Gelu
public import proofs.«01_k».proof.Proof.SfiveOut
public import proofs.«01_k».proof.Proof.Norm
public import proofs.«01_k».proof.Proof.SsdOut

@[expose] public section

noncomputable section

namespace Cert.Proof

open Idealize.ShloMosaic Idealize.SL.Sem

/-- The step of the weights l1_w_out: the kernel's table at words is the run's, and so is its frame, since its text is the ideal one's. -/
theorem body15 [Cert.Kernel15.Facts] : Cert.Kernel15.defs₀ (F := Bits) = Cert.Kernel15Ideal.defs₀ := by
  refine congrArg Defs.onTc (funext fun l => funext fun x => ?_)
  match l, x with
  | 0, (t, s) => rfl

theorem frame_kernel15 [Cert.Kernel15.Facts] : Cert.quiescent_Kernel15 := fun m ρ _ => by
  rw [show Cert.Kernel15.defs (F := Bits) = Cert.Kernel15Ideal.defs from congrArg (Pipeline.defs Cert.Kernel15.pcfgs) body15]
  exact Cert.Kernel15Ideal.Gen.frame (F := Bits) m ρ

theorem frame_reference15 [Cert.Reference15Ideal.Facts] : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

theorem value15 : Cert.algebraic_Kernel15Ideal_Reference15Ideal := fun m ρ m' ρ' _ hag =>
  ⟨fun c => Cert.Kernel15Ideal.Value.G4 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)),
    fun c => Cert.Kernel15Ideal.Value.G5 (F := Ideal) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)), fun c => Cert.Kernel15Ideal.Value.G6 (F := Ideal) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg3)), Cert.Kernel15Ideal.Value.run m ρ,
    (θ_run Cert.Reference15Ideal.defs _ _).mono (fun _ h c =>
      ⟨(h c).1.trans ((Cert.Reference15Ideal.Read.val_main_v23_eq _ _ _ _).trans (by rw [(hag c).1, (hag c).2.1, (hag c).2.2.1, (hag c).2.2.2]; rfl)),
        (h c).2.1.trans ((Cert.Reference15Ideal.Read.val_main_v4_eq _ _).trans (by rw [(hag c).2.1, (hag c).2.2.1]; rfl)),
        (h c).2.2.1.trans ((Cert.Reference15Ideal.Read.val_main_v10_eq _ _).trans (by rw [(hag c).2.1, (hag c).2.2.2]; rfl)), (h c).2.2.2⟩)
      (Cert.Reference15Ideal.Value.run (F := Ideal) m' ρ')⟩

/-- The gradient through the attention's gate: the kernel's table at words is the run's, and so is its frame, since its text is the ideal one's. -/
theorem body16 [Cert.Kernel16.Facts] : Cert.Kernel16.defs₀ (F := Bits) = Cert.Kernel16Ideal.defs₀ := by
  refine congrArg Defs.onTc (funext fun l => funext fun x => ?_)
  match l, x with
  | 0, (t, s) => rfl

theorem frame_kernel16 [Cert.Kernel16.Facts] : Cert.quiescent_Kernel16 := fun m ρ _ => by
  rw [show Cert.Kernel16.defs (F := Bits) = Cert.Kernel16Ideal.defs from congrArg (Pipeline.defs Cert.Kernel16.pcfgs) body16]
  exact Cert.Kernel16Ideal.Gen.frame (F := Bits) m ρ

theorem frame_reference16 [Cert.Reference16Ideal.Facts] : Cert.quiescent_Reference16Ideal := fun m ρ _ =>
  (θ_run Cert.Reference16Ideal.defs _ _).mono (fun r h => ⟨fun c => (h c).2.2, Idealize.ShloMosaic.sem_eq_zero_of_no_sems (by decide) r.2⟩)
    (Cert.Reference16Ideal.Value.run (F := Ideal) m ρ)

theorem value16 : Cert.algebraic_Kernel16Ideal_Reference16Ideal := fun m ρ m' ρ' _ hag =>
  ⟨fun c => Cert.Kernel16Ideal.Value.G3 (F := Ideal) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), fun c => Cert.Kernel16Ideal.Value.G4 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)), Cert.Kernel16Ideal.Value.run m ρ,
    (θ_run Cert.Reference16Ideal.defs _ _).mono (fun _ h c =>
      ⟨(h c).1.trans ((Cert.Reference16Ideal.Read.val_main_v4_eq _ _).trans (by rw [(hag c).2.1, (hag c).2.2]; exact Cert.FoxOut.att _ _)),
        (h c).2.1.trans ((Cert.Reference16Ideal.Read.val_main_v6_eq _ _ _).trans (by rw [(hag c).1, (hag c).2.1, (hag c).2.2]; exact Cert.FoxOut.gate _ _ _)), (h c).2.2⟩)
      (Cert.Reference16Ideal.Value.run (F := Ideal) m' ρ')⟩

/-- The attention's gate: the kernel's table at words is the run's, and so is its frame, since its text is the ideal one's. -/
theorem body17 [Cert.Kernel17.Facts] : Cert.Kernel17.defs₀ (F := Bits) = Cert.Kernel17Ideal.defs₀ := by
  refine congrArg Defs.onTc (funext fun l => funext fun x => ?_)
  match l, x with
  | 0, (t, s) => rfl

theorem frame_kernel17 [Cert.Kernel17.Facts] : Cert.quiescent_Kernel17 := fun m ρ _ => by
  rw [show Cert.Kernel17.defs (F := Bits) = Cert.Kernel17Ideal.defs from congrArg (Pipeline.defs Cert.Kernel17.pcfgs) body17]
  exact Cert.Kernel17Ideal.Gen.frame (F := Bits) m ρ

theorem frame_reference17 [Cert.Reference17Ideal.Facts] : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

theorem value17 : Cert.algebraic_Kernel17Ideal_Reference17Ideal := fun m ρ m' ρ' _ hag =>
  ⟨fun c => Cert.Kernel17Ideal.Value.G2 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), Cert.Kernel17Ideal.Value.run m ρ,
    (θ_run Cert.Reference17Ideal.defs _ _).mono (fun _ h c =>
      ⟨(h c).1.trans ((Cert.Reference17Ideal.Read.val_main_v3_eq _ _).trans (by rw [(hag c).1, (hag c).2]; exact Cert.FoxOut.out _ _)), (h c).2⟩)
      (Cert.Reference17Ideal.Value.run (F := Ideal) m' ρ')⟩

/-- The activation of the first mixer: the kernel's table at words is the run's, and so is its frame, since its text is the ideal one's. -/
theorem body18 [Cert.Kernel18.Facts] : Cert.Kernel18.defs₀ (F := Bits) = Cert.Kernel18Ideal.defs₀ := by
  refine congrArg Defs.onTc (funext fun l => funext fun x => ?_)
  match l, x with
  | 0, (t, s) => rfl

theorem frame_kernel18 [Cert.Kernel18.Facts] : Cert.quiescent_Kernel18 := fun m ρ _ => by
  rw [show Cert.Kernel18.defs (F := Bits) = Cert.Kernel18Ideal.defs from congrArg (Pipeline.defs Cert.Kernel18.pcfgs) body18]
  exact Cert.Kernel18Ideal.Gen.frame (F := Bits) m ρ

theorem frame_reference18 [Cert.Reference18Ideal.Facts] : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

theorem value18 : Cert.algebraic_Kernel18Ideal_Reference18Ideal := fun m ρ m' ρ' _ hag =>
  ⟨fun c => Cert.Reference18Ideal.Read.val_main_v18 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), Cert.Kernel18Ideal.Gelu.run m ρ,
    (θ_run Cert.Reference18Ideal.defs _ _).mono (fun _ h c =>
      ⟨(h c).1.trans ((Cert.Reference18Ideal.Read.val_main_v18_eq _ _ _).trans (by rw [(hag c).1, (hag c).2.1, (hag c).2.2])), (h c).2⟩)
      (Cert.Reference18Ideal.Value.run (F := Ideal) m' ρ')⟩

/-- The first mixer's gates: the kernel's table at words is the run's, and so is its frame, since its text is the ideal one's. -/
theorem body19 [Cert.Kernel19.Facts] : Cert.Kernel19.defs₀ (F := Bits) = Cert.Kernel19Ideal.defs₀ := by
  refine congrArg Defs.onTc (funext fun l => funext fun x => ?_)
  match l, x with
  | 0, (t, s) => rfl

theorem frame_kernel19 [Cert.Kernel19.Facts] : Cert.quiescent_Kernel19 := fun m ρ _ => by
  rw [show Cert.Kernel19.defs (F := Bits) = Cert.Kernel19Ideal.defs from congrArg (Pipeline.defs Cert.Kernel19.pcfgs) body19]
  exact Cert.Kernel19Ideal.Gen.frame (F := Bits) m ρ

theorem frame_reference19 [Cert.Reference19Ideal.Facts] : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

theorem value19 : Cert.algebraic_Kernel19Ideal_Reference19Ideal := fun m ρ m' ρ' _ hag =>
  ⟨fun c => Cert.Reference19Ideal.Read.val_main_v31 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)), Cert.Kernel19Ideal.SfiveOut.run m ρ,
    (θ_run Cert.Reference19Ideal.defs _ _).mono (fun _ h c =>
      ⟨(h c).1.trans ((Cert.Reference19Ideal.Read.val_main_v31_eq _ _ _ _ _).trans (by rw [(hag c).1, (hag c).2.1, (hag c).2.2.1, (hag c).2.2.2.1, (hag c).2.2.2.2])), (h c).2⟩)
      (Cert.Reference19Ideal.Value.run (F := Ideal) m' ρ')⟩

/-- The step of the weights l0_w_out: the kernel's table at words is the run's, and so is its frame, since its text is the ideal one's. -/
theorem body20 [Cert.Kernel20.Facts] : Cert.Kernel20.defs₀ (F := Bits) = Cert.Kernel20Ideal.defs₀ := by
  refine congrArg Defs.onTc (funext fun l => funext fun x => ?_)
  match l, x with
  | 0, (t, s) => rfl

theorem frame_kernel20 [Cert.Kernel20.Facts] : Cert.quiescent_Kernel20 := fun m ρ _ => by
  rw [show Cert.Kernel20.defs (F := Bits) = Cert.Kernel20Ideal.defs from congrArg (Pipeline.defs Cert.Kernel20.pcfgs) body20]
  exact Cert.Kernel20Ideal.Gen.frame (F := Bits) m ρ

theorem frame_reference20 [Cert.Reference20Ideal.Facts] : Cert.quiescent_Reference20Ideal := fun m ρ _ =>
  (θ_run Cert.Reference20Ideal.defs _ _).mono (fun r h => ⟨fun c => (h c).2.2.2, Idealize.ShloMosaic.sem_eq_zero_of_no_sems (by decide) r.2⟩)
    (Cert.Reference20Ideal.Value.run (F := Ideal) m ρ)

theorem value20 : Cert.algebraic_Kernel20Ideal_Reference20Ideal := fun m ρ m' ρ' _ hag =>
  ⟨fun c => Cert.Kernel20Ideal.Value.G4 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)),
    fun c => Cert.Kernel20Ideal.Value.G5 (F := Ideal) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)), fun c => Cert.Kernel20Ideal.Value.G6 (F := Ideal) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg3)), Cert.Kernel20Ideal.Value.run m ρ,
    (θ_run Cert.Reference20Ideal.defs _ _).mono (fun _ h c =>
      ⟨(h c).1.trans ((Cert.Reference20Ideal.Read.val_main_v23_eq _ _ _ _).trans (by rw [(hag c).1, (hag c).2.1, (hag c).2.2.1, (hag c).2.2.2]; rfl)),
        (h c).2.1.trans ((Cert.Reference20Ideal.Read.val_main_v4_eq _ _).trans (by rw [(hag c).2.1, (hag c).2.2.1]; rfl)),
        (h c).2.2.1.trans ((Cert.Reference20Ideal.Read.val_main_v10_eq _ _).trans (by rw [(hag c).2.1, (hag c).2.2.2]; rfl)), (h c).2.2.2⟩)
      (Cert.Reference20Ideal.Value.run (F := Ideal) m' ρ')⟩

/-- The step of the weights l0_s5_w_glu: the kernel's table at words is the run's, and so is its frame, since its text is the ideal one's. -/
theorem body21 [Cert.Kernel21.Facts] : Cert.Kernel21.defs₀ (F := Bits) = Cert.Kernel21Ideal.defs₀ := by
  refine congrArg Defs.onTc (funext fun l => funext fun x => ?_)
  match l, x with
  | 0, (t, s) => rfl

theorem frame_kernel21 [Cert.Kernel21.Facts] : Cert.quiescent_Kernel21 := fun m ρ _ => by
  rw [show Cert.Kernel21.defs (F := Bits) = Cert.Kernel21Ideal.defs from congrArg (Pipeline.defs Cert.Kernel21.pcfgs) body21]
  exact Cert.Kernel21Ideal.Gen.frame (F := Bits) m ρ

theorem frame_reference21 [Cert.Reference21Ideal.Facts] : Cert.quiescent_Reference21Ideal := fun m ρ _ =>
  (θ_run Cert.Reference21Ideal.defs _ _).mono (fun r h => ⟨fun c => (h c).2.2.2, Idealize.ShloMosaic.sem_eq_zero_of_no_sems (by decide) r.2⟩)
    (Cert.Reference21Ideal.Value.run (F := Ideal) m ρ)

theorem value21 : Cert.algebraic_Kernel21Ideal_Reference21Ideal := fun m ρ m' ρ' _ hag =>
  ⟨fun c => Cert.Kernel21Ideal.Value.G4 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)),
    fun c => Cert.Kernel21Ideal.Value.G5 (F := Ideal) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)), fun c => Cert.Kernel21Ideal.Value.G6 (F := Ideal) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg3)), Cert.Kernel21Ideal.Value.run m ρ,
    (θ_run Cert.Reference21Ideal.defs _ _).mono (fun _ h c =>
      ⟨(h c).1.trans ((Cert.Reference21Ideal.Read.val_main_v23_eq _ _ _ _).trans (by rw [(hag c).1, (hag c).2.1, (hag c).2.2.1, (hag c).2.2.2]; rfl)),
        (h c).2.1.trans ((Cert.Reference21Ideal.Read.val_main_v4_eq _ _).trans (by rw [(hag c).2.1, (hag c).2.2.1]; rfl)),
        (h c).2.2.1.trans ((Cert.Reference21Ideal.Read.val_main_v10_eq _ _).trans (by rw [(hag c).2.1, (hag c).2.2.2]; rfl)), (h c).2.2.2⟩)
      (Cert.Reference21Ideal.Value.run (F := Ideal) m' ρ')⟩

/-- The step of the weights l1_w_in: the kernel's table at words is the run's, and so is its frame, since its text is the ideal one's. -/
theorem body22 [Cert.Kernel22.Facts] : Cert.Kernel22.defs₀ (F := Bits) = Cert.Kernel22Ideal.defs₀ := by
  refine congrArg Defs.onTc (funext fun l => funext fun x => ?_)
  match l, x with
  | 0, (t, s) => rfl

theorem frame_kernel22 [Cert.Kernel22.Facts] : Cert.quiescent_Kernel22 := fun m ρ _ => by
  rw [show Cert.Kernel22.defs (F := Bits) = Cert.Kernel22Ideal.defs from congrArg (Pipeline.defs Cert.Kernel22.pcfgs) body22]
  exact Cert.Kernel22Ideal.Gen.frame (F := Bits) m ρ

theorem frame_reference22 [Cert.Reference22Ideal.Facts] : Cert.quiescent_Reference22Ideal := fun m ρ _ =>
  (θ_run Cert.Reference22Ideal.defs _ _).mono (fun r h => ⟨fun c => (h c).2.2.2, Idealize.ShloMosaic.sem_eq_zero_of_no_sems (by decide) r.2⟩)
    (Cert.Reference22Ideal.Value.run (F := Ideal) m ρ)

theorem value22 : Cert.algebraic_Kernel22Ideal_Reference22Ideal := fun m ρ m' ρ' _ hag =>
  ⟨fun c => Cert.Kernel22Ideal.Value.G4 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)),
    fun c => Cert.Kernel22Ideal.Value.G5 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)), fun c => Cert.Kernel22Ideal.Value.G6 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg3)), Cert.Kernel22Ideal.Value.run m ρ,
    (θ_run Cert.Reference22Ideal.defs _ _).mono (fun _ h c =>
      ⟨(h c).1.trans ((Cert.Reference22Ideal.Read.val_main_v23_eq _ _ _ _).trans (by rw [(hag c).1, (hag c).2.1, (hag c).2.2.1, (hag c).2.2.2]; rfl)),
        (h c).2.1.trans ((Cert.Reference22Ideal.Read.val_main_v4_eq _ _).trans (by rw [(hag c).2.1, (hag c).2.2.1]; rfl)),
        (h c).2.2.1.trans ((Cert.Reference22Ideal.Read.val_main_v10_eq _ _).trans (by rw [(hag c).2.1, (hag c).2.2.2]; rfl)), (h c).2.2.2⟩)
      (Cert.Reference22Ideal.Value.run (F := Ideal) m' ρ')⟩

/-- The step of the weights l0_w_in: the kernel's table at words is the run's, and so is its frame, since its text is the ideal one's. -/
theorem body23 [Cert.Kernel23.Facts] : Cert.Kernel23.defs₀ (F := Bits) = Cert.Kernel23Ideal.defs₀ := by
  refine congrArg Defs.onTc (funext fun l => funext fun x => ?_)
  match l, x with
  | 0, (t, s) => rfl

theorem frame_kernel23 [Cert.Kernel23.Facts] : Cert.quiescent_Kernel23 := fun m ρ _ => by
  rw [show Cert.Kernel23.defs (F := Bits) = Cert.Kernel23Ideal.defs from congrArg (Pipeline.defs Cert.Kernel23.pcfgs) body23]
  exact Cert.Kernel23Ideal.Gen.frame (F := Bits) m ρ

theorem frame_reference23 [Cert.Reference23Ideal.Facts] : Cert.quiescent_Reference23Ideal := fun m ρ _ =>
  (θ_run Cert.Reference23Ideal.defs _ _).mono (fun r h => ⟨fun c => (h c).2.2.2, Idealize.ShloMosaic.sem_eq_zero_of_no_sems (by decide) r.2⟩)
    (Cert.Reference23Ideal.Value.run (F := Ideal) m ρ)

theorem value23 : Cert.algebraic_Kernel23Ideal_Reference23Ideal := fun m ρ m' ρ' _ hag =>
  ⟨fun c => Cert.Kernel23Ideal.Value.G4 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)),
    fun c => Cert.Kernel23Ideal.Value.G5 (F := Ideal) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)), fun c => Cert.Kernel23Ideal.Value.G6 (F := Ideal) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg3)), Cert.Kernel23Ideal.Value.run m ρ,
    (θ_run Cert.Reference23Ideal.defs _ _).mono (fun _ h c =>
      ⟨(h c).1.trans ((Cert.Reference23Ideal.Read.val_main_v23_eq _ _ _ _).trans (by rw [(hag c).1, (hag c).2.1, (hag c).2.2.1, (hag c).2.2.2]; rfl)),
        (h c).2.1.trans ((Cert.Reference23Ideal.Read.val_main_v4_eq _ _).trans (by rw [(hag c).2.1, (hag c).2.2.1]; rfl)),
        (h c).2.2.1.trans ((Cert.Reference23Ideal.Read.val_main_v10_eq _ _).trans (by rw [(hag c).2.1, (hag c).2.2.2]; rfl)), (h c).2.2.2⟩)
      (Cert.Reference23Ideal.Value.run (F := Ideal) m' ρ')⟩

/-- The norm of a layer's input: the kernel's table at words is the run's, and so is its frame, since its text is the ideal one's. -/
theorem body24 [Cert.Kernel24.Facts] : Cert.Kernel24.defs₀ (F := Bits) = Cert.Kernel24Ideal.defs₀ := by
  refine congrArg Defs.onTc (funext fun l => funext fun x => ?_)
  match l, x with
  | 0, (t, s) => rfl

theorem frame_kernel24 [Cert.Kernel24.Facts] : Cert.quiescent_Kernel24 := fun m ρ _ => by
  rw [show Cert.Kernel24.defs (F := Bits) = Cert.Kernel24Ideal.defs from congrArg (Pipeline.defs Cert.Kernel24.pcfgs) body24]
  exact Cert.Kernel24Ideal.Gen.frame (F := Bits) m ρ

theorem frame_reference24 [Cert.Reference24Ideal.Facts] : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

theorem value24 : Cert.algebraic_Kernel24Ideal_Reference24Ideal := fun m ρ m' ρ' _ hag =>
  ⟨fun c => Cert.Reference24Ideal.Read.val_main_v13 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)), Cert.Kernel24Ideal.Norm.run m ρ,
    (θ_run Cert.Reference24Ideal.defs _ _).mono (fun _ h c =>
      ⟨(h c).1.trans ((Cert.Reference24Ideal.Read.val_main_v13_eq _ _).trans (by rw [(hag c).1, (hag c).2])), (h c).2⟩)
      (Cert.Reference24Ideal.Value.run (F := Ideal) m' ρ')⟩

/-- The gate and the norm of the first layer's second mixer: the kernel's table at words is the run's, and so is its frame, since its text is the ideal one's. -/
theorem body25 [Cert.Kernel25.Facts] : Cert.Kernel25.defs₀ (F := Bits) = Cert.Kernel25Ideal.defs₀ := by
  refine congrArg Defs.onTc (funext fun l => funext fun x => ?_)
  match l, x with
  | 0, (t, s) => rfl

theorem frame_kernel25 [Cert.Kernel25.Facts] : Cert.quiescent_Kernel25 := fun m ρ _ => by
  rw [show Cert.Kernel25.defs (F := Bits) = Cert.Kernel25Ideal.defs from congrArg (Pipeline.defs Cert.Kernel25.pcfgs) body25]
  exact Cert.Kernel25Ideal.Gen.frame (F := Bits) m ρ

theorem frame_reference25 [Cert.Reference25Ideal.Facts] : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

theorem value25 : Cert.algebraic_Kernel25Ideal_Reference25Ideal := fun m ρ m' ρ' _ hag =>
  ⟨fun c => Cert.Reference25Ideal.Read.val_main_v26 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)), Cert.Kernel25Ideal.SsdOut.run m ρ,
    (θ_run Cert.Reference25Ideal.defs _ _).mono (fun _ h c =>
      ⟨(h c).1.trans ((Cert.Reference25Ideal.Read.val_main_v26_eq _ _ _ _ _).trans (by rw [(hag c).1, (hag c).2.1, (hag c).2.2.1, (hag c).2.2.2.1, (hag c).2.2.2.2])), (h c).2⟩)
      (Cert.Reference25Ideal.Value.run (F := Ideal) m' ρ')⟩

end Cert.Proof

end
-- ==== Proof.lean ====
/- The proof of the claims: the frames, that each ideal kernel is the kernel printed over the extended reals, and the values. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Final
public import proofs.«01_k».proof.Proof.Finite
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.OutDw
public import proofs.«01_k».proof.Proof.OutDx
public import proofs.«01_k».proof.Proof.InProj
public import proofs.«01_k».proof.Proof.InDw
public import proofs.«01_k».proof.Proof.InDx
public import proofs.«01_k».proof.Proof.OutDxSsd
public import proofs.«01_k».proof.Proof.OutDwSsd
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.QFinal
public import proofs.«01_k».proof.Proof.InDwZ
public import proofs.«01_k».proof.Proof.InDxZ
public import proofs.«01_k».proof.Proof.InXbc
public import proofs.«01_k».proof.Proof.InZ
public import proofs.«01_k».proof.Proof.OutSsd
public import Idealize.ShloMosaic.Adequacy
public import Idealize.ShloMosaic.Init

public import proofs.«01_k».proof.Proof.Pointwise

@[expose] public section

noncomputable section

namespace Cert.Proof

open Idealize.ShloMosaic Idealize.SL.Sem Cert.Kernel

set_option maxHeartbeats 4000000 in
/-- The kernel's table at words is the run's, and so is its frame, since its text is the ideal one's. -/
theorem body [Cert.Kernel.Facts] : Cert.Kernel.defs₀ (F := Bits) = Cert.KernelIdeal.defs₀ := by
  refine congrArg Defs.onTc (funext fun l => funext fun x => ?_)
  match l, x with
  | 0, (t, s) => rfl

set_option maxHeartbeats 4000000 in
theorem frame_kernel [Cert.Kernel.Facts] : Cert.quiescent_Kernel := fun m ρ _ => by
  rw [show Cert.Kernel.defs (F := Bits) = Cert.KernelIdeal.defs from congrArg (Pipeline.defs Cert.Kernel.pcfgs) body]
  exact Cert.KernelIdeal.Gen.frame (F := Bits) m ρ

/-- The reference runs, keeps its arguments and leaves no semaphore raised. -/
theorem frame_reference [Cert.ReferenceIdeal.Facts] : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- When the arguments are finite, the kernel's results are the reference's. -/
theorem value : Cert.algebraic_KernelIdeal_ReferenceIdeal_pre_finite := fun m ρ m' ρ' pre hag =>
  have hr : ∀ c, Cert.Scores.Real2 (Cert.KernelIdeal.HostVals.A0 m c) ∧ Cert.Scores.Real2 (Cert.KernelIdeal.HostVals.A1 m c)
      ∧ Cert.Scores.Real2 (Cert.KernelIdeal.HostVals.A2 m c) := fun c => Cert.Finite.reals _ _ _ (pre c)
  ⟨fun c => (Cert.ReferenceIdeal.Read.val_main_v87 (F := Ideal) (Cert.KernelIdeal.HostVals.A0 m c) (Cert.KernelIdeal.HostVals.A1 m c) (Cert.KernelIdeal.HostVals.A2 m c) : Cert.KernelIdeal.S4096x4096.Idx → EReal),
    fun c => (Cert.ReferenceIdeal.Read.val_main_v89 (F := Ideal) (Cert.KernelIdeal.HostVals.A0 m c) (Cert.KernelIdeal.HostVals.A1 m c) (Cert.KernelIdeal.HostVals.A2 m c) : Cert.KernelIdeal.S4096x4096.Idx → EReal),
    fun c => (Cert.ReferenceIdeal.Read.val_main_v91 (F := Ideal) (Cert.KernelIdeal.HostVals.A0 m c) (Cert.KernelIdeal.HostVals.A1 m c) (Cert.KernelIdeal.HostVals.A2 m c) : Cert.KernelIdeal.S32x1x4096.Idx → EReal),
    Cert.KernelIdeal.Final.run m ρ hr,
    (θ_run Cert.ReferenceIdeal.defs _ _).mono (fun _ h c =>
      ⟨(h c).1.trans ((Cert.ReferenceIdeal.Read.val_main_v87_eq m' c).trans (by rw [(hag c).1, (hag c).2.1, (hag c).2.2])),
        (h c).2.1.trans ((Cert.ReferenceIdeal.Read.val_main_v89_eq m' c).trans (by rw [(hag c).1, (hag c).2.1, (hag c).2.2])),
        (h c).2.2.1.trans ((Cert.ReferenceIdeal.Read.val_main_v91_eq m' c).trans (by rw [(hag c).1, (hag c).2.1, (hag c).2.2])),
        (h c).2.2.2⟩) (Cert.ReferenceIdeal.Value.run (F := Ideal) m' ρ')⟩

/-- The gradient of the second layer's output weights: the kernel's table at words is the run's, and so is its frame, since its text is the ideal one's. -/
theorem body3 [Cert.Kernel3.Facts] : Cert.Kernel3.defs₀ (F := Bits) = Cert.Kernel3Ideal.defs₀ := by
  refine congrArg Defs.onTc (funext fun l => funext fun x => ?_)
  match l, x with
  | 0, (t, s) => rfl

theorem frame_kernel3 [Cert.Kernel3.Facts] : Cert.quiescent_Kernel3 := fun m ρ _ => by
  rw [show Cert.Kernel3.defs (F := Bits) = Cert.Kernel3Ideal.defs from congrArg (Pipeline.defs Cert.Kernel3.pcfgs) body3]
  exact Cert.Kernel3Ideal.Gen.frame (F := Bits) m ρ

theorem frame_reference3 [Cert.Reference3Ideal.Facts] : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem value3 : Cert.algebraic_Kernel3Ideal_Reference3Ideal := fun m ρ m' ρ' _ hag =>
  ⟨fun c => Cert.Reference3Ideal.Read.val_main_v2 (F := Ideal) (Cert.Kernel3Ideal.OutDw.X m c) (Cert.Kernel3Ideal.OutDw.Y m c), Cert.Kernel3Ideal.OutDw.run m ρ,
    (θ_run Cert.Reference3Ideal.defs _ _).mono (fun _ h c => ⟨(h c).1.trans ((Cert.Reference3Ideal.Read.val_main_v2_eq _ _).trans (by rw [(hag c).1, (hag c).2.2])), (h c).2⟩)
      (Cert.Reference3Ideal.Value.run (F := Ideal) m' ρ')⟩

/-- The gradient of the second layer's mixer output: the kernel's table at words is the run's, and so is its frame, since its text is the ideal one's. -/
theorem body4 [Cert.Kernel4.Facts] : Cert.Kernel4.defs₀ (F := Bits) = Cert.Kernel4Ideal.defs₀ := by
  refine congrArg Defs.onTc (funext fun l => funext fun x => ?_)
  match l, x with
  | 0, (t, s) => rfl

theorem frame_kernel4 [Cert.Kernel4.Facts] : Cert.quiescent_Kernel4 := fun m ρ _ => by
  rw [show Cert.Kernel4.defs (F := Bits) = Cert.Kernel4Ideal.defs from congrArg (Pipeline.defs Cert.Kernel4.pcfgs) body4]
  exact Cert.Kernel4Ideal.Gen.frame (F := Bits) m ρ

theorem frame_reference4 [Cert.Reference4Ideal.Facts] : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem value4 : Cert.algebraic_Kernel4Ideal_Reference4Ideal := fun m ρ m' ρ' _ hag =>
  ⟨fun c => Cert.Reference4Ideal.Read.val_main_v1 (F := Ideal) (Cert.Kernel4Ideal.OutDx.Y m c) (Cert.Kernel4Ideal.OutDx.X m c), Cert.Kernel4Ideal.OutDx.run m ρ,
    (θ_run Cert.Reference4Ideal.defs _ _).mono (fun _ h c => ⟨(h c).1.trans ((Cert.Reference4Ideal.Read.val_main_v1_eq _ _).trans (by rw [(hag c).2.1, (hag c).2.2])), (h c).2⟩)
      (Cert.Reference4Ideal.Value.run (F := Ideal) m' ρ')⟩

/-- The second layer's projection: the kernel's table at words is the run's, and so is its frame, since its text is the ideal one's. -/
theorem body5 [Cert.Kernel5.Facts] : Cert.Kernel5.defs₀ (F := Bits) = Cert.Kernel5Ideal.defs₀ := by
  refine congrArg Defs.onTc (funext fun l => funext fun x => ?_)
  match l, x with
  | 0, (t, s) => rfl

theorem frame_kernel5 [Cert.Kernel5.Facts] : Cert.quiescent_Kernel5 := fun m ρ _ => by
  rw [show Cert.Kernel5.defs (F := Bits) = Cert.Kernel5Ideal.defs from congrArg (Pipeline.defs Cert.Kernel5.pcfgs) body5]
  exact Cert.Kernel5Ideal.Gen.frame (F := Bits) m ρ

theorem frame_reference5 [Cert.Reference5Ideal.Facts] : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem value5 : Cert.algebraic_Kernel5Ideal_Reference5Ideal := fun m ρ m' ρ' _ hag =>
  ⟨fun c => Cert.Reference5Ideal.Read.val_main_v1 (F := Ideal) (Cert.Kernel5Ideal.InProj.X m c) (Cert.Kernel5Ideal.InProj.Y m c), Cert.Kernel5Ideal.InProj.run m ρ,
    (θ_run Cert.Reference5Ideal.defs _ _).mono (fun _ h c => ⟨(h c).1.trans ((Cert.Reference5Ideal.Read.val_main_v1_eq _ _).trans (by rw [(hag c).1, (hag c).2])), (h c).2⟩)
      (Cert.Reference5Ideal.Value.run (F := Ideal) m' ρ')⟩

/-- The gradient of the first layer's input weights, rows 10240 to 18431: the kernel's table at words is the run's, and so is its frame, since its text is the ideal one's. -/
theorem body6 [Cert.Kernel6.Facts] : Cert.Kernel6.defs₀ (F := Bits) = Cert.Kernel6Ideal.defs₀ := by
  refine congrArg Defs.onTc (funext fun l => funext fun x => ?_)
  match l, x with
  | 0, (t, s) => rfl

theorem frame_kernel6 [Cert.Kernel6.Facts] : Cert.quiescent_Kernel6 := fun m ρ _ => by
  rw [show Cert.Kernel6.defs (F := Bits) = Cert.Kernel6Ideal.defs from congrArg (Pipeline.defs Cert.Kernel6.pcfgs) body6]
  exact Cert.Kernel6Ideal.Gen.frame (F := Bits) m ρ

theorem frame_reference6 [Cert.Reference6Ideal.Facts] : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem value6 : Cert.algebraic_Kernel6Ideal_Reference6Ideal := fun m ρ m' ρ' _ hag =>
  ⟨fun c => Cert.Reference6Ideal.Read.val_main_v7 (F := Ideal) (Cert.Kernel6Ideal.InDw.X m c) (Cert.Kernel6Ideal.InDw.Y m c) (Cert.Kernel6Ideal.InDw.B m c), Cert.Kernel6Ideal.InDw.run m ρ,
    (θ_run Cert.Reference6Ideal.defs _ _).mono (fun _ h c => ⟨(h c).1.trans ((Cert.Reference6Ideal.Read.val_main_v7_eq _ _ _).trans (by rw [(hag c).1, (hag c).2.1, (hag c).2.2])), (h c).2⟩)
      (Cert.Reference6Ideal.Value.run (F := Ideal) m' ρ')⟩

/-- The gradient of the first layer's input: the kernel's table at words is the run's, and so is its frame, since its text is the ideal one's. -/
theorem body7 [Cert.Kernel7.Facts] : Cert.Kernel7.defs₀ (F := Bits) = Cert.Kernel7Ideal.defs₀ := by
  refine congrArg Defs.onTc (funext fun l => funext fun x => ?_)
  match l, x with
  | 0, (t, s) => rfl

theorem frame_kernel7 [Cert.Kernel7.Facts] : Cert.quiescent_Kernel7 := fun m ρ _ => by
  rw [show Cert.Kernel7.defs (F := Bits) = Cert.Kernel7Ideal.defs from congrArg (Pipeline.defs Cert.Kernel7.pcfgs) body7]
  exact Cert.Kernel7Ideal.Gen.frame (F := Bits) m ρ

theorem frame_reference7 [Cert.Reference7Ideal.Facts] : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem value7 : Cert.algebraic_Kernel7Ideal_Reference7Ideal := fun m ρ m' ρ' _ hag =>
  ⟨fun c => Cert.Reference7Ideal.Read.val_main_v4 (F := Ideal) (Cert.Kernel7Ideal.InDx.X m c) (Cert.Kernel7Ideal.InDx.Y m c) (Cert.Kernel7Ideal.InDx.B m c), Cert.Kernel7Ideal.InDx.run m ρ,
    (θ_run Cert.Reference7Ideal.defs _ _).mono (fun _ h c => ⟨(h c).1.trans ((Cert.Reference7Ideal.Read.val_main_v4_eq _ _ _).trans (by rw [(hag c).1, (hag c).2.1, (hag c).2.2])), (h c).2⟩)
      (Cert.Reference7Ideal.Value.run (F := Ideal) m' ρ')⟩

/-- The gradient of the first layer's mixer output, its second part: the kernel's table at words is the run's, and so is its frame, since its text is the ideal one's. -/
theorem body8 [Cert.Kernel8.Facts] : Cert.Kernel8.defs₀ (F := Bits) = Cert.Kernel8Ideal.defs₀ := by
  refine congrArg Defs.onTc (funext fun l => funext fun x => ?_)
  match l, x with
  | 0, (t, s) => rfl

theorem frame_kernel8 [Cert.Kernel8.Facts] : Cert.quiescent_Kernel8 := fun m ρ _ => by
  rw [show Cert.Kernel8.defs (F := Bits) = Cert.Kernel8Ideal.defs from congrArg (Pipeline.defs Cert.Kernel8.pcfgs) body8]
  exact Cert.Kernel8Ideal.Gen.frame (F := Bits) m ρ

theorem frame_reference8 [Cert.Reference8Ideal.Facts] : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem value8 : Cert.algebraic_Kernel8Ideal_Reference8Ideal := fun m ρ m' ρ' _ hag =>
  ⟨fun c => Cert.Reference8Ideal.Read.val_main_v3 (F := Ideal) (Cert.Kernel8Ideal.OutDxSsd.Y m c) (Cert.Kernel8Ideal.OutDxSsd.X m c), Cert.Kernel8Ideal.OutDxSsd.run m ρ,
    (θ_run Cert.Reference8Ideal.defs _ _).mono (fun _ h c => ⟨(h c).1.trans ((Cert.Reference8Ideal.Read.val_main_v3_eq _ _).trans (by rw [(hag c).1, (hag c).2])), (h c).2⟩)
      (Cert.Reference8Ideal.Value.run (F := Ideal) m' ρ')⟩

/-- The gradient of the first layer's output weights, rows 2048 to 8191: the kernel's table at words is the run's, and so is its frame, since its text is the ideal one's. -/
theorem body9 [Cert.Kernel9.Facts] : Cert.Kernel9.defs₀ (F := Bits) = Cert.Kernel9Ideal.defs₀ := by
  refine congrArg Defs.onTc (funext fun l => funext fun x => ?_)
  match l, x with
  | 0, (t, s) => rfl

theorem frame_kernel9 [Cert.Kernel9.Facts] : Cert.quiescent_Kernel9 := fun m ρ _ => by
  rw [show Cert.Kernel9.defs (F := Bits) = Cert.Kernel9Ideal.defs from congrArg (Pipeline.defs Cert.Kernel9.pcfgs) body9]
  exact Cert.Kernel9Ideal.Gen.frame (F := Bits) m ρ

theorem frame_reference9 [Cert.Reference9Ideal.Facts] : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem value9 : Cert.algebraic_Kernel9Ideal_Reference9Ideal := fun m ρ m' ρ' _ hag =>
  ⟨fun c => Cert.Reference9Ideal.Read.val_main_v5 (F := Ideal) (Cert.Kernel9Ideal.OutDwSsd.X m c) (Cert.Kernel9Ideal.OutDwSsd.Y m c) (Cert.Kernel9Ideal.OutDwSsd.B m c), Cert.Kernel9Ideal.OutDwSsd.run m ρ,
    (θ_run Cert.Reference9Ideal.defs _ _).mono (fun _ h c => ⟨(h c).1.trans ((Cert.Reference9Ideal.Read.val_main_v5_eq _ _ _).trans (by rw [(hag c).1, (hag c).2.1, (hag c).2.2])), (h c).2⟩)
      (Cert.Reference9Ideal.Value.run (F := Ideal) m' ρ')⟩

set_option maxHeartbeats 4000000 in
/-- The gradient of the attention's queries: the kernel's table at words is the run's, and so is its frame, since its text is the ideal one's. -/
theorem body2 [Cert.Kernel2.Facts] : Cert.Kernel2.defs₀ (F := Bits) = Cert.Kernel2Ideal.defs₀ := by
  refine congrArg Defs.onTc (funext fun l => funext fun x => ?_)
  match l, x with
  | 0, (t, s) => rfl

set_option maxHeartbeats 4000000 in
theorem frame_kernel2 [Cert.Kernel2.Facts] : Cert.quiescent_Kernel2 := fun m ρ _ => by
  rw [show Cert.Kernel2.defs (F := Bits) = Cert.Kernel2Ideal.defs from congrArg (Pipeline.defs Cert.Kernel2.pcfgs) body2]
  exact Cert.Kernel2Ideal.Gen.frame (F := Bits) m ρ

theorem frame_reference2 [Cert.Reference2Ideal.Facts] : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- When the arguments are finite, the results of the queries' kernel are the reference's. -/
theorem value2 : Cert.algebraic_Kernel2Ideal_Reference2Ideal_pre_finite := fun m ρ m' ρ' pre hag =>
  have hr : ∀ c, Cert.Scores.Real2 (Cert.Kernel2Ideal.QBlocks.B0 m c) ∧ Cert.Scores.Real2 (Cert.Kernel2Ideal.QBlocks.B1 m c)
      ∧ Cert.Scores.Real2 (Cert.Kernel2Ideal.QBlocks.B2 m c) := fun c => Cert.Finite.reals _ _ _ (pre c)
  ⟨fun c => (Cert.Reference2Ideal.Read.val_main_v80 (F := Ideal) (Cert.Kernel2Ideal.QBlocks.B0 m c) (Cert.Kernel2Ideal.QBlocks.B1 m c) (Cert.Kernel2Ideal.QBlocks.B2 m c) : Cert.Kernel2Ideal.S4096x4096.Idx → EReal),
    fun c => (Cert.Reference2Ideal.Read.val_main_v82 (F := Ideal) (Cert.Kernel2Ideal.QBlocks.B0 m c) (Cert.Kernel2Ideal.QBlocks.B1 m c) (Cert.Kernel2Ideal.QBlocks.B2 m c) : Cert.Kernel2Ideal.S32x4096x1.Idx → EReal),
    Cert.Kernel2Ideal.QFinal.run m ρ hr,
    (θ_run Cert.Reference2Ideal.defs _ _).mono (fun _ h c =>
      ⟨(h c).1.trans ((Cert.Reference2Ideal.Read.val_main_v80_eq m' c).trans (by rw [(hag c).1, (hag c).2.1, (hag c).2.2])),
        (h c).2.1.trans ((Cert.Reference2Ideal.Read.val_main_v82_eq m' c).trans (by rw [(hag c).1, (hag c).2.1, (hag c).2.2])),
        (h c).2.2⟩) (Cert.Reference2Ideal.Value.run (F := Ideal) m' ρ')⟩

/-- The gradient of the first layer's input weights, rows 4096 to 10239: the kernel's table at words is the run's, and so is its frame, since its text is the ideal one's. -/
theorem body10 [Cert.Kernel10.Facts] : Cert.Kernel10.defs₀ (F := Bits) = Cert.Kernel10Ideal.defs₀ := by
  refine congrArg Defs.onTc (funext fun l => funext fun x => ?_)
  match l, x with
  | 0, (t, s) => rfl

theorem frame_kernel10 [Cert.Kernel10.Facts] : Cert.quiescent_Kernel10 := fun m ρ _ => by
  rw [show Cert.Kernel10.defs (F := Bits) = Cert.Kernel10Ideal.defs from congrArg (Pipeline.defs Cert.Kernel10.pcfgs) body10]
  exact Cert.Kernel10Ideal.Gen.frame (F := Bits) m ρ

theorem frame_reference10 [Cert.Reference10Ideal.Facts] : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem value10 : Cert.algebraic_Kernel10Ideal_Reference10Ideal := fun m ρ m' ρ' _ hag =>
  ⟨fun c => Cert.Reference10Ideal.Read.val_main_v7 (F := Ideal) (Cert.Kernel10Ideal.InDwZ.X m c) (Cert.Kernel10Ideal.InDwZ.Y m c) (Cert.Kernel10Ideal.InDwZ.B m c), Cert.Kernel10Ideal.InDwZ.run m ρ,
    (θ_run Cert.Reference10Ideal.defs _ _).mono (fun _ h c => ⟨(h c).1.trans ((Cert.Reference10Ideal.Read.val_main_v7_eq _ _ _).trans (by rw [(hag c).1, (hag c).2.1, (hag c).2.2])), (h c).2⟩)
      (Cert.Reference10Ideal.Value.run (F := Ideal) m' ρ')⟩

/-- The gradient of the first layer's input, the part of its gate: the kernel's table at words is the run's, and so is its frame, since its text is the ideal one's. -/
theorem body11 [Cert.Kernel11.Facts] : Cert.Kernel11.defs₀ (F := Bits) = Cert.Kernel11Ideal.defs₀ := by
  refine congrArg Defs.onTc (funext fun l => funext fun x => ?_)
  match l, x with
  | 0, (t, s) => rfl

theorem frame_kernel11 [Cert.Kernel11.Facts] : Cert.quiescent_Kernel11 := fun m ρ _ => by
  rw [show Cert.Kernel11.defs (F := Bits) = Cert.Kernel11Ideal.defs from congrArg (Pipeline.defs Cert.Kernel11.pcfgs) body11]
  exact Cert.Kernel11Ideal.Gen.frame (F := Bits) m ρ

theorem frame_reference11 [Cert.Reference11Ideal.Facts] : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem value11 : Cert.algebraic_Kernel11Ideal_Reference11Ideal := fun m ρ m' ρ' _ hag =>
  ⟨fun c => Cert.Reference11Ideal.Read.val_main_v4 (F := Ideal) (Cert.Kernel11Ideal.InDxZ.X m c) (Cert.Kernel11Ideal.InDxZ.Y m c) (Cert.Kernel11Ideal.InDxZ.B m c), Cert.Kernel11Ideal.InDxZ.run m ρ,
    (θ_run Cert.Reference11Ideal.defs _ _).mono (fun _ h c => ⟨(h c).1.trans ((Cert.Reference11Ideal.Read.val_main_v4_eq _ _ _).trans (by rw [(hag c).1, (hag c).2.1, (hag c).2.2])), (h c).2⟩)
      (Cert.Reference11Ideal.Value.run (F := Ideal) m' ρ')⟩

/-- The first layer's input projection, columns 10240 to 18431: the kernel's table at words is the run's, and so is its frame, since its text is the ideal one's. -/
theorem body12 [Cert.Kernel12.Facts] : Cert.Kernel12.defs₀ (F := Bits) = Cert.Kernel12Ideal.defs₀ := by
  refine congrArg Defs.onTc (funext fun l => funext fun x => ?_)
  match l, x with
  | 0, (t, s) => rfl

theorem frame_kernel12 [Cert.Kernel12.Facts] : Cert.quiescent_Kernel12 := fun m ρ _ => by
  rw [show Cert.Kernel12.defs (F := Bits) = Cert.Kernel12Ideal.defs from congrArg (Pipeline.defs Cert.Kernel12.pcfgs) body12]
  exact Cert.Kernel12Ideal.Gen.frame (F := Bits) m ρ

theorem frame_reference12 [Cert.Reference12Ideal.Facts] : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem value12 : Cert.algebraic_Kernel12Ideal_Reference12Ideal := fun m ρ m' ρ' _ hag =>
  ⟨fun c => Cert.Reference12Ideal.Read.val_main_v1 (F := Ideal) (Cert.Kernel12Ideal.InXbc.X m c) (Cert.Kernel12Ideal.InXbc.Y m c), Cert.Kernel12Ideal.InXbc.run m ρ,
    (θ_run Cert.Reference12Ideal.defs _ _).mono (fun _ h c => ⟨(h c).1.trans ((Cert.Reference12Ideal.Read.val_main_v1_eq _ _).trans (by rw [(hag c).1, (hag c).2])), (h c).2⟩)
      (Cert.Reference12Ideal.Value.run (F := Ideal) m' ρ')⟩

/-- The first layer's input projection, columns 4096 to 10239: the kernel's table at words is the run's, and so is its frame, since its text is the ideal one's. -/
theorem body13 [Cert.Kernel13.Facts] : Cert.Kernel13.defs₀ (F := Bits) = Cert.Kernel13Ideal.defs₀ := by
  refine congrArg Defs.onTc (funext fun l => funext fun x => ?_)
  match l, x with
  | 0, (t, s) => rfl

theorem frame_kernel13 [Cert.Kernel13.Facts] : Cert.quiescent_Kernel13 := fun m ρ _ => by
  rw [show Cert.Kernel13.defs (F := Bits) = Cert.Kernel13Ideal.defs from congrArg (Pipeline.defs Cert.Kernel13.pcfgs) body13]
  exact Cert.Kernel13Ideal.Gen.frame (F := Bits) m ρ

theorem frame_reference13 [Cert.Reference13Ideal.Facts] : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem value13 : Cert.algebraic_Kernel13Ideal_Reference13Ideal := fun m ρ m' ρ' _ hag =>
  ⟨fun c => Cert.Reference13Ideal.Read.val_main_v1 (F := Ideal) (Cert.Kernel13Ideal.InZ.X m c) (Cert.Kernel13Ideal.InZ.Y m c), Cert.Kernel13Ideal.InZ.run m ρ,
    (θ_run Cert.Reference13Ideal.defs _ _).mono (fun _ h c => ⟨(h c).1.trans ((Cert.Reference13Ideal.Read.val_main_v1_eq _ _).trans (by rw [(hag c).1, (hag c).2])), (h c).2⟩)
      (Cert.Reference13Ideal.Value.run (F := Ideal) m' ρ')⟩

/-- The first layer's output projection, its second part: the kernel's table at words is the run's, and so is its frame, since its text is the ideal one's. -/
theorem body14 [Cert.Kernel14.Facts] : Cert.Kernel14.defs₀ (F := Bits) = Cert.Kernel14Ideal.defs₀ := by
  refine congrArg Defs.onTc (funext fun l => funext fun x => ?_)
  match l, x with
  | 0, (t, s) => rfl

theorem frame_kernel14 [Cert.Kernel14.Facts] : Cert.quiescent_Kernel14 := fun m ρ _ => by
  rw [show Cert.Kernel14.defs (F := Bits) = Cert.Kernel14Ideal.defs from congrArg (Pipeline.defs Cert.Kernel14.pcfgs) body14]
  exact Cert.Kernel14Ideal.Gen.frame (F := Bits) m ρ

theorem frame_reference14 [Cert.Reference14Ideal.Facts] : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

theorem value14 : Cert.algebraic_Kernel14Ideal_Reference14Ideal := fun m ρ m' ρ' _ hag =>
  ⟨fun c => Cert.Reference14Ideal.Read.val_main_v2 (F := Ideal) (Cert.Kernel14Ideal.OutSsd.X m c) (Cert.Kernel14Ideal.OutSsd.Y m c) (Cert.Kernel14Ideal.OutSsd.B m c), Cert.Kernel14Ideal.OutSsd.run m ρ,
    (θ_run Cert.Reference14Ideal.defs _ _).mono (fun _ h c => ⟨(h c).1.trans ((Cert.Reference14Ideal.Read.val_main_v2_eq _ _ _).trans (by rw [(hag c).1, (hag c).2.1, (hag c).2.2])), (h c).2⟩)
      (Cert.Reference14Ideal.Value.run (F := Ideal) m' ρ')⟩

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel2.Gen.facts, Cert.Kernel2Ideal.Gen.facts, Cert.Reference2Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Pre_finite.Gen.facts,
  frame_kernel,
  fun m ρ _ => Cert.KernelIdeal.Gen.frame m ρ,
  fun m ρ _ => Cert.KernelIdeal.Gen.frame m ρ,
  frame_reference,
  fun m ρ _ => frame_reference m ρ trivial,
  frame_kernel3,
  fun m ρ _ => Cert.Kernel3Ideal.Gen.frame m ρ,
  frame_reference3,
  frame_kernel4,
  fun m ρ _ => Cert.Kernel4Ideal.Gen.frame m ρ,
  frame_reference4,
  frame_kernel5,
  fun m ρ _ => Cert.Kernel5Ideal.Gen.frame m ρ,
  frame_reference5,
  frame_kernel6,
  fun m ρ _ => Cert.Kernel6Ideal.Gen.frame m ρ,
  frame_reference6,
  frame_kernel7,
  fun m ρ _ => Cert.Kernel7Ideal.Gen.frame m ρ,
  frame_reference7,
  frame_kernel8,
  fun m ρ _ => Cert.Kernel8Ideal.Gen.frame m ρ,
  frame_reference8,
  frame_kernel9,
  fun m ρ _ => Cert.Kernel9Ideal.Gen.frame m ρ,
  frame_reference9,
  frame_kernel2,
  fun m ρ _ => Cert.Kernel2Ideal.Gen.frame m ρ,
  fun m ρ _ => Cert.Kernel2Ideal.Gen.frame m ρ,
  frame_reference2,
  fun m ρ _ => frame_reference2 m ρ trivial,
  frame_kernel10,
  fun m ρ _ => Cert.Kernel10Ideal.Gen.frame m ρ,
  frame_reference10,
  frame_kernel11,
  fun m ρ _ => Cert.Kernel11Ideal.Gen.frame m ρ,
  frame_reference11,
  frame_kernel12,
  fun m ρ _ => Cert.Kernel12Ideal.Gen.frame m ρ,
  frame_reference12,
  frame_kernel13,
  fun m ρ _ => Cert.Kernel13Ideal.Gen.frame m ρ,
  frame_reference13,
  frame_kernel14,
  fun m ρ _ => Cert.Kernel14Ideal.Gen.frame m ρ,
  frame_reference14,
  frame_kernel15,
  fun m ρ _ => Cert.Kernel15Ideal.Gen.frame m ρ,
  frame_reference15,
  frame_kernel16,
  fun m ρ _ => Cert.Kernel16Ideal.Gen.frame m ρ,
  frame_reference16,
  frame_kernel17,
  fun m ρ _ => Cert.Kernel17Ideal.Gen.frame m ρ,
  frame_reference17,
  frame_kernel18,
  fun m ρ _ => Cert.Kernel18Ideal.Gen.frame m ρ,
  frame_reference18,
  frame_kernel19,
  fun m ρ _ => Cert.Kernel19Ideal.Gen.frame m ρ,
  frame_reference19,
  frame_kernel20,
  fun m ρ _ => Cert.Kernel20Ideal.Gen.frame m ρ,
  frame_reference20,
  frame_kernel21,
  fun m ρ _ => Cert.Kernel21Ideal.Gen.frame m ρ,
  frame_reference21,
  frame_kernel22,
  fun m ρ _ => Cert.Kernel22Ideal.Gen.frame m ρ,
  frame_reference22,
  frame_kernel23,
  fun m ρ _ => Cert.Kernel23Ideal.Gen.frame m ρ,
  frame_reference23,
  frame_kernel24,
  fun m ρ _ => Cert.Kernel24Ideal.Gen.frame m ρ,
  frame_reference24,
  frame_kernel25,
  fun m ρ _ => Cert.Kernel25Ideal.Gen.frame m ρ,
  frame_reference25,
  trivial,
  value,
  trivial,
  value3,
  trivial,
  value4,
  trivial,
  value5,
  trivial,
  value6,
  trivial,
  value7,
  trivial,
  value8,
  trivial,
  value9,
  trivial,
  value2,
  trivial,
  value10,
  trivial,
  value11,
  trivial,
  value12,
  trivial,
  value13,
  trivial,
  value14,
  trivial,
  value15,
  trivial,
  value16,
  trivial,
  value17,
  trivial,
  value18,
  trivial,
  value19,
  trivial,
  value20,
  trivial,
  value21,
  trivial,
  value22,
  trivial,
  value23,
  trivial,
  value24,
  trivial,
  value25⟩

end Cert.Proof

end
